-- ==== Defs.lean ====
def Pre_Pack (m : (ℓ : Loc Cert.Pack.nD Cert.Pack.τ Cert.Pack.sig) → Buf (Elt Bits) ℓ) : Prop :=
  True

def Pre_PackReference (m : (ℓ : Loc Cert.PackReference.nD Cert.PackReference.τ Cert.PackReference.sig) → Buf (Elt Bits) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Act [hPre_experts_named : Cert.Pre_experts_named.Facts] (m : (ℓ : Loc Cert.Act.nD Cert.Act.τ Cert.Act.sig) → Buf (Elt Bits) ℓ) : Prop :=
  ∀ c : Dev Cert.Act.nD,
    (Cert.Pre_experts_named.fn (F := Bits) (m ((c.tc : Thread Cert.Act.nD Cert.Act.τ).loc Cert.Act.main_arg0)) (m ((c.tc : Thread Cert.Act.nD Cert.Act.τ).loc Cert.Act.main_arg1)) (m ((c.tc : Thread Cert.Act.nD Cert.Act.τ).loc Cert.Act.main_arg2)) (m ((c.tc : Thread Cert.Act.nD Cert.Act.τ).loc Cert.Act.main_arg3)) (m ((c.tc : Thread Cert.Act.nD Cert.Act.τ).loc Cert.Act.main_arg4))) = (fun _ => 1#1)

def Pre_ActIdeal [hPre_experts_named : Cert.Pre_experts_named.Facts] (m : (ℓ : Loc Cert.ActIdeal.nD Cert.ActIdeal.τ Cert.ActIdeal.sig) → Buf (Elt Ideal) ℓ) : Prop :=
  ∀ c : Dev Cert.ActIdeal.nD,
    (Cert.Pre_experts_named.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))) = (fun _ => 1#1)

def Pre_ActReferenceIdeal [hPre_experts_named : Cert.Pre_experts_named.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_experts_named.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3)) (m ((c.tc : Thread Cert.ActReferenceIdeal.nD Cert.ActReferenceIdeal.τ).loc Cert.ActReferenceIdeal.main_arg4))) = (fun _ => 1#1)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackReference [hPackReference : Cert.PackReference.Facts] : Prop :=
  ∀ (m : (ℓ : Loc Cert.PackReference.nD Cert.PackReference.τ Cert.PackReference.sig) → Buf (Elt Bits) ℓ) (g : Dev Cert.PackReference.nD → PrngReg), Pre_PackReference m →
    θ_run (Cert.PackReference.defs (F := Bits)) (onTc (τ := Cert.PackReference.τ) (Cert.PackReference.main (F := Bits))) ⟨m, fun _ => 0, g⟩ (fun r => (∀ c : Dev Cert.PackReference.nD,
      r.2.mem ((c.tc : Thread Cert.PackReference.nD Cert.PackReference.τ).loc Cert.PackReference.main_arg0) = m ((c.tc : Thread Cert.PackReference.nD Cert.PackReference.τ).loc Cert.PackReference.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_Act [hAct : Cert.Act.Facts] [hPre_experts_named : Cert.Pre_experts_named.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4))
      ∧ r.2.sem = fun _ => 0)

def quiescent_ActIdeal [hActIdeal : Cert.ActIdeal.Facts] [hPre_experts_named : Cert.Pre_experts_named.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActReferenceIdeal [hActReferenceIdeal : Cert.ActReferenceIdeal.Facts] [hPre_experts_named : Cert.Pre_experts_named.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3)
      ∧ r.2.mem ((c.tc : Thread Cert.ActReferenceIdeal.nD Cert.ActReferenceIdeal.τ).loc Cert.ActReferenceIdeal.main_arg4) = m ((c.tc : Thread Cert.ActReferenceIdeal.nD Cert.ActReferenceIdeal.τ).loc Cert.ActReferenceIdeal.main_arg4))
      ∧ r.2.sem = fun _ => 0)

def bitexact_Pack_PackReference [hPack : Cert.Pack.Facts] [hPackReference : Cert.PackReference.Facts] : Prop :=
  ∀ (m : (ℓ : Loc Cert.Pack.nD Cert.Pack.τ Cert.Pack.sig) → Buf (Elt Bits) ℓ) (g : Dev Cert.Pack.nD → PrngReg)
    (m' : (ℓ : Loc Cert.PackReference.nD Cert.PackReference.τ Cert.PackReference.sig) → Buf (Elt Bits) ℓ) (g' : Dev Cert.PackReference.nD → PrngReg), Pre_Pack m →
    (∀ c : Dev Cert.Pack.nD,
      m' ((c.tc : Thread Cert.PackReference.nD Cert.PackReference.τ).loc Cert.PackReference.main_arg0) = m ((c.tc : Thread Cert.Pack.nD Cert.Pack.τ).loc Cert.Pack.main_arg0)) →
    ∃ (v0 : (c : Dev Cert.Pack.nD) → Buf (Elt Bits) ((c.tc : Thread Cert.Pack.nD Cert.Pack.τ).loc Cert.Pack.main_v0)),
      θ_run (Cert.Pack.defs (F := Bits)) (onTc (τ := Cert.Pack.τ) (Cert.Pack.main (F := Bits))) ⟨m, fun _ => 0, g⟩ (fun r => ∀ c : Dev Cert.Pack.nD,
          r.2.mem ((c.tc : Thread Cert.Pack.nD Cert.Pack.τ).loc Cert.Pack.main_v0) = v0 c
          ∧ r.2.mem ((c.tc : Thread Cert.Pack.nD Cert.Pack.τ).loc Cert.Pack.main_arg0) = m ((c.tc : Thread Cert.Pack.nD Cert.Pack.τ).loc Cert.Pack.main_arg0))
      ∧ θ_run (Cert.PackReference.defs (F := Bits)) (onTc (τ := Cert.PackReference.τ) (Cert.PackReference.main (F := Bits))) ⟨m', fun _ => 0, g'⟩ (fun r => ∀ c : Dev Cert.PackReference.nD,
          r.2.mem ((c.tc : Thread Cert.PackReference.nD Cert.PackReference.τ).loc Cert.PackReference.main_v7) = v0 c
          ∧ r.2.mem ((c.tc : Thread Cert.PackReference.nD Cert.PackReference.τ).loc Cert.PackReference.main_arg0) = m' ((c.tc : Thread Cert.PackReference.nD Cert.PackReference.τ).loc Cert.PackReference.main_arg0))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)) (v2 : (c : Dev Cert.InProjIdeal.nD) → Buf (Elt Ideal) ((c.tc : Thread Cert.InProjIdeal.nD Cert.InProjIdeal.τ).loc Cert.InProjIdeal.main_v16_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_v16_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v23) = v0 c
          ∧ r.2.mem ((c.tc : Thread Cert.InProjReferenceIdeal.nD Cert.InProjReferenceIdeal.τ).loc Cert.InProjReferenceIdeal.main_v22) = v1 c
          ∧ r.2.mem ((c.tc : Thread Cert.InProjReferenceIdeal.nD Cert.InProjReferenceIdeal.τ).loc Cert.InProjReferenceIdeal.main_v24) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v15) = v0 c
          ∧ r.2.mem ((c.tc : Thread Cert.MixReferenceIdeal.nD Cert.MixReferenceIdeal.τ).loc Cert.MixReferenceIdeal.main_v29) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_Act_ActIdeal : Prop :=
  True

def algebraic_ActIdeal_ActReferenceIdeal [hActIdeal : Cert.ActIdeal.Facts] [hActReferenceIdeal : Cert.ActReferenceIdeal.Facts] [hPre_experts_named : Cert.Pre_experts_named.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)
      ∧ m' ((c.tc : Thread Cert.ActReferenceIdeal.nD Cert.ActReferenceIdeal.τ).loc Cert.ActReferenceIdeal.main_arg3) = m ((c.tc : Thread Cert.ActIdeal.nD Cert.ActIdeal.τ).loc Cert.ActIdeal.main_arg3)
      ∧ m' ((c.tc : Thread Cert.ActReferenceIdeal.nD Cert.ActReferenceIdeal.τ).loc Cert.ActReferenceIdeal.main_arg4) = m ((c.tc : Thread Cert.ActIdeal.nD Cert.ActIdeal.τ).loc Cert.ActIdeal.main_arg4)) →
    ∃ (v0 : (c : Dev Cert.ActIdeal.nD) → Buf (Elt Ideal) ((c.tc : Thread Cert.ActIdeal.nD Cert.ActIdeal.τ).loc Cert.ActIdeal.main_v6)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v6) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v29) = v0 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3)
          ∧ r.2.mem ((c.tc : Thread Cert.ActReferenceIdeal.nD Cert.ActReferenceIdeal.τ).loc Cert.ActReferenceIdeal.main_arg4) = m' ((c.tc : Thread Cert.ActReferenceIdeal.nD Cert.ActReferenceIdeal.τ).loc Cert.ActReferenceIdeal.main_arg4))

def Claim : Prop :=
  ∃ (hPack : Cert.Pack.Facts) (hPackReference : Cert.PackReference.Facts) (hInProj : Cert.InProj.Facts) (hInProjIdeal : Cert.InProjIdeal.Facts) (hInProjReferenceIdeal : Cert.InProjReferenceIdeal.Facts) (hMix : Cert.Mix.Facts) (hMixIdeal : Cert.MixIdeal.Facts) (hMixReferenceIdeal : Cert.MixReferenceIdeal.Facts) (hAct : Cert.Act.Facts) (hActIdeal : Cert.ActIdeal.Facts) (hActReferenceIdeal : Cert.ActReferenceIdeal.Facts) (hPre_experts_named : Cert.Pre_experts_named.Facts),
    quiescent_Pack (hPack := hPack)
    ∧ quiescent_PackReference (hPackReference := hPackReference)
    ∧ quiescent_InProj (hInProj := hInProj)
    ∧ quiescent_InProjIdeal (hInProjIdeal := hInProjIdeal)
    ∧ quiescent_InProjReferenceIdeal (hInProjReferenceIdeal := hInProjReferenceIdeal)
    ∧ quiescent_Mix (hMix := hMix)
    ∧ quiescent_MixIdeal (hMixIdeal := hMixIdeal)
    ∧ quiescent_MixReferenceIdeal (hMixReferenceIdeal := hMixReferenceIdeal)
    ∧ quiescent_Act (hAct := hAct) (hPre_experts_named := hPre_experts_named)
    ∧ quiescent_ActIdeal (hActIdeal := hActIdeal) (hPre_experts_named := hPre_experts_named)
    ∧ quiescent_ActReferenceIdeal (hActReferenceIdeal := hActReferenceIdeal) (hPre_experts_named := hPre_experts_named)
    ∧ bitexact_Pack_PackReference (hPack := hPack) (hPackReference := hPackReference)
    ∧ preserves_InProj_InProjIdeal
    ∧ algebraic_InProjIdeal_InProjReferenceIdeal (hInProjIdeal := hInProjIdeal) (hInProjReferenceIdeal := hInProjReferenceIdeal)
    ∧ preserves_Mix_MixIdeal
    ∧ algebraic_MixIdeal_MixReferenceIdeal (hMixIdeal := hMixIdeal) (hMixReferenceIdeal := hMixReferenceIdeal)
    ∧ preserves_Act_ActIdeal
    ∧ algebraic_ActIdeal_ActReferenceIdeal (hActIdeal := hActIdeal) (hActReferenceIdeal := hActReferenceIdeal) (hPre_experts_named := hPre_experts_named)
-- ==== Pre_experts_named.lean ====
abbrev S16384x128 : Shape := ⟨2, ![16384, 128]⟩
abbrev S16384x1024 : Shape := ⟨2, ![16384, 1024]⟩
abbrev S1x1024 : Shape := ⟨2, ![1, 1024]⟩
abbrev S65536x128 : Shape := ⟨2, ![65536, 128]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : IVec S16384x128 32) (main_arg1 : FVec F S16384x128 .f32) (main_arg2 : FVec F S16384x1024 .f32) (main_arg3 : FVec F S1x1024 .f32) (main_arg4 : IVec S65536x128 32) : IVec S16384x128 1 :=
  let main_c : IVec S_ 32 := constantI S_ 32 0#32
  let main_v0 : IVec S16384x128 32 := broadcastInDim S16384x128 ![] bcast_S_S16384x128 main_c
  let main_v1 : IVec S16384x128 1 := cmpi .sge main_arg0 main_v0
  let main_c_0 : IVec S_ 32 := constantI S_ 32 16384#32
  let main_v2 : IVec S16384x128 32 := broadcastInDim S16384x128 ![] bcast_S_S16384x128 main_c_0
  let main_v3 : IVec S16384x128 1 := cmpi .slt main_arg0 main_v2
  let main_v4 : IVec S16384x128 1 := andi main_v1 main_v3
  main_v4
-- ==== Pack.lean ====
abbrev S16384x1024 : Shape := ⟨2, ![16384, 1024]⟩
abbrev S65536x128 : Shape := ⟨2, ![65536, 128]⟩
abbrev S512x1024 : Shape := ⟨2, ![512, 1024]⟩
abbrev S2048x128 : Shape := ⟨2, ![2048, 128]⟩
abbrev S512x128 : Shape := ⟨2, ![512, 128]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S65536x128, .i32⟩
  | .local _ .vmem, ⟨0, _⟩ => ⟨S512x1024, .f32⟩
  | .local _ .vmem, ⟨1, _⟩ => ⟨S512x1024, .f32⟩
  | .local _ .vmem, ⟨2, _⟩ => ⟨S2048x128, .i32⟩
  | .local _ .vmem, ⟨3, _⟩ => ⟨S2048x128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PackReference.lean ====
abbrev S16384x1024 : Shape := ⟨2, ![16384, 1024]⟩
abbrev S16384x512 : Shape := ⟨2, ![16384, 512]⟩
abbrev S16384x512x1 : Shape := ⟨3, ![16384, 512, 1]⟩
abbrev S16384x512x2 : Shape := ⟨3, ![16384, 512, 2]⟩
abbrev S65536x128 : Shape := ⟨2, ![65536, 128]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S16384x512x1, .bf16⟩
  | .hbm, ⟨5, _⟩ => ⟨S16384x512x1, .bf16⟩
  | .hbm, ⟨6, _⟩ => ⟨S16384x512x2, .bf16⟩
  | .hbm, ⟨7, _⟩ => ⟨S16384x512, .i32⟩
  | .hbm, ⟨8, _⟩ => ⟨S65536x128, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [BitOps F]
-- ==== InProj.lean ====
abbrev S16384x1024 : Shape := ⟨2, ![16384, 1024]⟩
abbrev S1x1024 : Shape := ⟨2, ![1, 1024]⟩
abbrev S1024x4768 : Shape := ⟨2, ![1024, 4768]⟩
abbrev S1024x2560 : Shape := ⟨2, ![1024, 2560]⟩
abbrev S1024x32 : Shape := ⟨2, ![1024, 32]⟩
abbrev S_ : Shape := ⟨0, ![]⟩
abbrev S1024x128 : Shape := ⟨2, ![1024, 128]⟩
abbrev S1 : Shape := ⟨1, ![1]⟩
abbrev S1024x96 : Shape := ⟨2, ![1024, 96]⟩
abbrev S1024x2048 : Shape := ⟨2, ![1024, 2048]⟩
abbrev S1024x4992 : Shape := ⟨2, ![1024, 4992]⟩
abbrev S16384x1920 : Shape := ⟨2, ![16384, 1920]⟩
abbrev S16384x2048 : Shape := ⟨2, ![16384, 2048]⟩
abbrev S256x1024 : Shape := ⟨2, ![256, 1024]⟩
abbrev S256x1920 : Shape := ⟨2, ![256, 1920]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩
abbrev S1024x1920 : Shape := ⟨2, ![1024, 1920]⟩

abbrev nBuf : Space → Nat
  | .hbm => 28
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4768, .f32⟩
  | .hbm, ⟨3, _⟩ => ⟨S1024x2560, .f32⟩
  | .hbm, ⟨4, _⟩ => ⟨S1024x32, .f32⟩
  | .hbm, ⟨5, _⟩ => ⟨S_, .f32⟩
  | .hbm, ⟨6, _⟩ => ⟨S1024x128, .f32⟩
  | .hbm, ⟨7, _⟩ => ⟨S_, .i32⟩
  | .hbm, ⟨8, _⟩ => ⟨S1, .i32⟩
  | .hbm, ⟨9, _⟩ => ⟨S1024x128, .f32⟩
  | .hbm, ⟨10, _⟩ => ⟨S1024x32, .f32⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x96, .f32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S1024x2048, .f32⟩
  | .hbm, ⟨23, _⟩ => ⟨S1024x4992, .f32⟩
  | .hbm, ⟨24, _⟩ => ⟨S1024x4992, .bf16⟩
  | .hbm, ⟨25, _⟩ => ⟨S16384x1024, .bf16⟩
  | .hbm, ⟨26, _⟩ => ⟨S16384x1920, .f32⟩
  | .hbm, ⟨27, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4992, .bf16⟩
  | .local _ .vmem, ⟨4, _⟩ => ⟨S256x1024, .bf16⟩
  | .local _ .vmem, ⟨5, _⟩ => ⟨S256x1024, .bf16⟩
  | .local _ .vmem, ⟨6, _⟩ => ⟨S256x1920, .f32⟩
  | .local _ .vmem, ⟨7, _⟩ => ⟨S256x1920, .f32⟩
  | .local _ .vmem, ⟨8, _⟩ => ⟨S256x2048, .bf16⟩
  | .local _ .vmem, ⟨9, _⟩ => ⟨S256x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjReferenceIdeal.lean ====
abbrev S16384x1024 : Shape := ⟨2, ![16384, 1024]⟩
abbrev S1x1024 : Shape := ⟨2, ![1, 1024]⟩
abbrev S1024x4768 : Shape := ⟨2, ![1024, 4768]⟩
abbrev S_ : Shape := ⟨0, ![]⟩
abbrev S16384 : Shape := ⟨1, ![16384]⟩
abbrev S16384x1 : Shape := ⟨2, ![16384, 1]⟩
abbrev S16384x4768 : Shape := ⟨2, ![16384, 4768]⟩
abbrev S16384x1536 : Shape := ⟨2, ![16384, 1536]⟩
abbrev S16384x32 : Shape := ⟨2, ![16384, 32]⟩
abbrev S16384x96 : Shape := ⟨2, ![16384, 96]⟩
abbrev S16384x2048 : Shape := ⟨2, ![16384, 2048]⟩
abbrev S16384x128 : Shape := ⟨2, ![16384, 128]⟩
abbrev S16384x1920 : Shape := ⟨2, ![16384, 1920]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4768, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x4768, .f32⟩
  | .hbm, ⟨19, _⟩ => ⟨S16384x1024, .f32⟩
  | .hbm, ⟨20, _⟩ => ⟨S16384x1536, .f32⟩
  | .hbm, ⟨21, _⟩ => ⟨S16384x32, .f32⟩
  | .hbm, ⟨22, _⟩ => ⟨S16384x32, .f32⟩
  | .hbm, ⟨23, _⟩ => ⟨S16384x96, .f32⟩
  | .hbm, ⟨24, _⟩ => ⟨S16384x2048, .f32⟩
  | .hbm, ⟨25, _⟩ => ⟨S_, .i32⟩
  | .hbm, ⟨26, _⟩ => ⟨S_, .f32⟩
  | .hbm, ⟨27, _⟩ => ⟨S16384x128, .f32⟩
  | .hbm, ⟨28, _⟩ => ⟨S_, .i32⟩
  | .hbm, ⟨29, _⟩ => ⟨S_, .f32⟩
  | .hbm, ⟨30, _⟩ => ⟨S16384x128, .f32⟩
  | .hbm, ⟨31, _⟩ => ⟨S_, .i32⟩
  | .hbm, ⟨32, _⟩ => ⟨S_, .f32⟩
  | .hbm, ⟨33, _⟩ => ⟨S16384x128, .f32⟩
  | .hbm, ⟨34, _⟩ => ⟨S16384x1920, .f32⟩
  | .hbm, ⟨35, _⟩ => ⟨S16384x1024, .bf16⟩
  | .hbm, ⟨36, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_c_2 : Ref sig .tc := ⟨.hbm, 28, rfl⟩
abbrev main_call1_v0 : Ref sig .tc := ⟨.hbm, 29, rfl⟩
abbrev main_v20 : Ref sig .tc := ⟨.hbm, 30, rfl⟩
abbrev main_c_3 : Ref sig .tc := ⟨.hbm, 31, rfl⟩
abbrev main_call2_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Mix.lean ====
abbrev S16384x1024 : Shape := ⟨2, ![16384, 1024]⟩
abbrev S16384x2048 : Shape := ⟨2, ![16384, 2048]⟩
abbrev S1024x1024 : Shape := ⟨2, ![1024, 1024]⟩
abbrev S1x1024 : Shape := ⟨2, ![1, 1024]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x1024, .f32⟩
  | .hbm, ⟨4, _⟩ => ⟨S1024x1024, .f32⟩
  | .hbm, ⟨5, _⟩ => ⟨S1x1024, .f32⟩
  | .hbm, ⟨6, _⟩ => ⟨S1024x2048, .f32⟩
  | .hbm, ⟨7, _⟩ => ⟨S1024x1024, .bf16⟩
  | .hbm, ⟨8, _⟩ => ⟨S1024x2048, .bf16⟩
  | .hbm, ⟨9, _⟩ => ⟨S16384x1024, .f32⟩
  | .hbm, ⟨10, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1x1024, .f32⟩
  | .local _ .vmem, ⟨10, _⟩ => ⟨S1024x2048, .bf16⟩
  | .local _ .vmem, ⟨11, _⟩ => ⟨S256x1024, .f32⟩
  | .local _ .vmem, ⟨12, _⟩ => ⟨S256x1024, .f32⟩
  | .local _ .vmem, ⟨13, _⟩ => ⟨S256x2048, .bf16⟩
  | .local _ .vmem, ⟨14, _⟩ => ⟨S256x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixReferenceIdeal.lean ====
abbrev S16384x1024 : Shape := ⟨2, ![16384, 1024]⟩
abbrev S16384x2048 : Shape := ⟨2, ![16384, 2048]⟩
abbrev S1024x1024 : Shape := ⟨2, ![1024, 1024]⟩
abbrev S1x1024 : Shape := ⟨2, ![1, 1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S16384x1024, .f32⟩
  | .hbm, ⟨4, _⟩ => ⟨S1024x1024, .f32⟩
  | .hbm, ⟨5, _⟩ => ⟨S1x1024, .f32⟩
  | .hbm, ⟨6, _⟩ => ⟨S1024x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x2048, .f32⟩
  | .hbm, ⟨41, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Act.lean ====
abbrev S16384x128 : Shape := ⟨2, ![16384, 128]⟩
abbrev S16384x1024 : Shape := ⟨2, ![16384, 1024]⟩
abbrev S1x1024 : Shape := ⟨2, ![1, 1024]⟩
abbrev S65536x128 : Shape := ⟨2, ![65536, 128]⟩
abbrev S_ : Shape := ⟨0, ![]⟩
abbrev S128x16384 : Shape := ⟨2, ![128, 16384]⟩
abbrev S2 : Shape := ⟨1, ![2]⟩
abbrev S128x128x128 : Shape := ⟨3, ![128, 128, 128]⟩
abbrev S128x8x128 : Shape := ⟨3, ![128, 8, 128]⟩
abbrev S128x128 : Shape := ⟨2, ![128, 128]⟩
abbrev S1x8x128 : Shape := ⟨3, ![1, 8, 128]⟩
abbrev S128x1024 : Shape := ⟨2, ![128, 1024]⟩
abbrev S2x8x544x128 : Shape := ⟨4, ![2, 8, 544, 128]⟩
abbrev S128 : Shape := ⟨1, ![128]⟩
abbrev S128x1 : Shape := ⟨2, ![128, 1]⟩
abbrev S1 : Shape := ⟨1, ![1]⟩
abbrev S1x8 : Shape := ⟨2, ![1, 8]⟩
abbrev S8 : Shape := ⟨1, ![8]⟩
abbrev S4x128 : Shape := ⟨2, ![4, 128]⟩
abbrev S1x1x4x128 : Shape := ⟨4, ![1, 1, 4, 128]⟩
abbrev S8x1024 : Shape := ⟨2, ![8, 1024]⟩
abbrev S1x1x544x128 : Shape := ⟨4, ![1, 1, 544, 128]⟩
abbrev S544x128 : Shape := ⟨2, ![544, 128]⟩
abbrev S1x128 : Shape := ⟨2, ![1, 128]⟩
abbrev S1x1x8 : Shape := ⟨3, ![1, 1, 8]⟩

abbrev nBuf : Space → Nat
  | .hbm => 13
  | .vmem => 10
  | .smem => 5
  | _ => 0

abbrev bufTy : (tb : Table) → Fin (tcTables nBuf tb) → BufTy
  | .hbm, ⟨0, _⟩ => ⟨S16384x128, .i32⟩
  | .hbm, ⟨1, _⟩ => ⟨S16384x128, .f32⟩
  | .hbm, ⟨2, _⟩ => ⟨S16384x1024, .f32⟩
  | .hbm, ⟨3, _⟩ => ⟨S1x1024, .f32⟩
  | .hbm, ⟨4, _⟩ => ⟨S65536x128, .i32⟩
  | .hbm, ⟨5, _⟩ => ⟨S_, .i32⟩
  | .hbm, ⟨6, _⟩ => ⟨S16384x128, .i32⟩
  | .hbm, ⟨7, _⟩ => ⟨S16384x128, .i32⟩
  | .hbm, ⟨8, _⟩ => ⟨S128x16384, .f32⟩
  | .hbm, ⟨9, _⟩ => ⟨S2, .i32⟩
  | .hbm, ⟨10, _⟩ => ⟨S128x128x128, .i32⟩
  | .hbm, ⟨11, _⟩ => ⟨S128x8x128, .i32⟩
  | .hbm, ⟨12, _⟩ => ⟨S16384x128, .f32⟩
  | .local _ .vmem, ⟨0, _⟩ => ⟨S128x128, .f32⟩
  | .local _ .vmem, ⟨1, _⟩ => ⟨S128x128, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S65536x128, .i32⟩
  | .local _ .vmem, ⟨6, _⟩ => ⟨S128x128, .f32⟩
  | .local _ .vmem, ⟨7, _⟩ => ⟨S128x128, .f32⟩
  | .local _ .vmem, ⟨8, _⟩ => ⟨S2x8x544x128, .i32⟩
  | .local _ .vmem, ⟨9, _⟩ => ⟨S128x1024, .f32⟩
  | .local _ .smem, ⟨0, _⟩ => ⟨S128x128, .i32⟩
  | .local _ .smem, ⟨1, _⟩ => ⟨S128x128, .i32⟩
  | .local _ .smem, ⟨2, _⟩ => ⟨S1x8x128, .i32⟩
  | .local _ .smem, ⟨3, _⟩ => ⟨S1x8x128, .i32⟩
  | .local _ .smem, ⟨4, _⟩ => ⟨S2, .i32⟩
  | _, _ => ⟨S16384x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_mult1 : BitVec 32 :=
  let c0_i32_537 : BitVec 32 := 0#32
  c0_i32_537
@[reducible] def k0_t1_loop : Scf.Loop 32 :=
  let c0_i32_538 : BitVec 32 := 0#32
  let c8_i32_539 : BitVec 32 := 8#32
  let v1238 : BitVec 32 := Scalar.addi c0_i32_538 c8_i32_539
  let c1_i32_540 : BitVec 32 := 1#32
  ⟨c0_i32_538, v1238, c1_i32_540⟩
@[reducible] def k0_t2_loop : Scf.Loop 32 :=
  let c0_i32_542 : BitVec 32 := 0#32
  let c16_i32 : BitVec 32 := 16#32
  let v1239 : BitVec 32 := Scalar.addi c0_i32_542 c16_i32
  let c1_i32_543 : BitVec 32 := 1#32
  ⟨c0_i32_542, v1239, c1_i32_543⟩
def k0_off1 (k0_t1 : Fin k0_t1_loop.trips) (k0_t2 : Fin k0_t2_loop.trips) : Fin 2 → Nat :=
  let c0_i32_537 : BitVec 32 := 0#32
  let v1237 : BitVec 32 := c0_i32_537
  let c0_i32_538 : BitVec 32 := 0#32
  let c1_i32_540 : BitVec 32 := 1#32
  let arg11 : BitVec 32 := Scf.iv c0_i32_538 c1_i32_540 k0_t1
  let v1240 : BitVec 32 := Scalar.addi v1237 arg11
  let c0_i32_542 : BitVec 32 := 0#32
  let c1_i32_543 : BitVec 32 := 1#32
  let arg12 : BitVec 32 := Scf.iv c0_i32_542 c1_i32_543 k0_t2
  let c8_i32_545 : BitVec 32 := 8#32
  let v1241 : BitVec 32 := Scalar.muli arg12 c8_i32_545
  ![v1240.toNat, v1241.toNat]
def k0_off2 (v21 : BitVec 32) : Fin 1 → Nat :=
  let v1244 : Index := Scalar.indexCast v21
  ![v1244.toNat]

def k0_mult2 (v1245 : BitVec 32) : BitVec 32 :=
  v1245

def k0_off3 (v1245 : BitVec 32) : Fin 2 → Nat :=
  let v1246 : BitVec 32 := v1245
  let v1247 : Index := Scalar.indexCast v1246
  let c0_546 : Index := 0#32
  ![v1247.toNat, 0]

def k0_chk2 (i : grid0.Coords) (v1245 : BitVec 32) : Prop :=
  (∀ (k0_h1 : k0_cond1 i = 1#1), 4 ∣ (k0_mult2 v1245).toNat) ∧
  (∀ (k0_h1 : k0_cond1 i = 1#1), ∀ a, (k0_off3 v1245) a + S4x128.size a ≤ S65536x128.size a)
theorem k0_mult2_dvd : ∀ (i : grid0.Coords) (v1245 : BitVec 32) (k0_hw2 : k0_chk2 i v1245), ∀ (k0_h1 : k0_cond1 i = 1#1), 4 ∣ (k0_mult2 v1245).toNat := fun i v1245 k0_hw2 k0_h1 => k0_hw2.1 k0_h1
theorem k0_off3_inb : ∀ (i : grid0.Coords) (v1245 : BitVec 32) (k0_hw2 : k0_chk2 i v1245), ∀ (k0_h1 : k0_cond1 i = 1#1), ∀ a, (k0_off3 v1245) a + S4x128.size a ≤ S65536x128.size a := fun i v1245 k0_hw2 k0_h1 => k0_hw2.2 k0_h1

def k0_off4 (k0_t1 : Fin k0_t1_loop.trips) (k0_t2 : Fin k0_t2_loop.trips) : Fin 4 → Nat :=
  let c0_549 : Index := 0#32
  let c0_i32_538 : BitVec 32 := 0#32
  let c1_i32_540 : BitVec 32 := 1#32
  let arg11 : BitVec 32 := Scf.iv c0_i32_538 c1_i32_540 k0_t1
  let v1251 : Index := Scalar.indexCast arg11
  let c0_i32_542 : BitVec 32 := 0#32
  let c1_i32_543 : BitVec 32 := 1#32
  let arg12 : BitVec 32 := Scf.iv c0_i32_542 c1_i32_543 k0_t2
  let c8_i32_547 : BitVec 32 := 8#32
  let v1249 : BitVec 32 := Scalar.muli arg12 c8_i32_547
  let c0_i32_548 : BitVec 32 := 0#32
  let v1250 : BitVec 32 := Scalar.addi v1249 c0_i32_548
  let v1252 : Index := Scalar.indexCast v1250
  let c0_550 : Index := 0#32
  ![0, v1251.toNat, v1252.toNat, 0]
def k0_off5 (k0_t1 : Fin k0_t1_loop.trips) (k0_t2 : Fin k0_t2_loop.trips) : Fin 2 → Nat :=
  let c0_i32_537 : BitVec 32 := 0#32
  let v1237 : BitVec 32 := c0_i32_537
  let c0_i32_538 : BitVec 32 := 0#32
  let c1_i32_540 : BitVec 32 := 1#32
  let arg11 : BitVec 32 := Scf.iv c0_i32_538 c1_i32_540 k0_t1
  let v1240 : BitVec 32 := Scalar.addi v1237 arg11
  let c0_i32_542 : BitVec 32 := 0#32
  let c1_i32_543 : BitVec 32 := 1#32
  let arg12 : BitVec 32 := Scf.iv c0_i32_542 c1_i32_543 k0_t2
  let c8_i32_545 : BitVec 32 := 8#32
  let v1241 : BitVec 32 := Scalar.muli arg12 c8_i32_545
  ![v1240.toNat, v1241.toNat]
def k0_off6 (v21 : BitVec 32) (v22 : BitVec 32) : Fin 1 → Nat :=
  let v23 : BitVec 32 := Scalar.addi v21 v22
  let v1258 : Index := Scalar.indexCast v23
  ![v1258.toNat]

def k0_mult3 (v1259 : BitVec 32) : BitVec 32 :=
  v1259

def k0_off7 (v1259 : BitVec 32) : Fin 2 → Nat :=
  let v1260 : BitVec 32 := v1259
  let v1261 : Index := Scalar.indexCast v1260
  let c0_551 : Index := 0#32
  ![v1261.toNat, 0]

def k0_chk4 (i : grid0.Coords) (v1259 : BitVec 32) : Prop :=
  (∀ (k0_h1 : k0_cond1 i = 1#1), 4 ∣ (k0_mult3 v1259).toNat) ∧
  (∀ (k0_h1 : k0_cond1 i = 1#1), ∀ a, (k0_off7 v1259) a + S4x128.size a ≤ S65536x128.size a)
theorem k0_mult3_dvd : ∀ (i : grid0.Coords) (v1259 : BitVec 32) (k0_hw4 : k0_chk4 i v1259), ∀ (k0_h1 : k0_cond1 i = 1#1), 4 ∣ (k0_mult3 v1259).toNat := fun i v1259 k0_hw4 k0_h1 => k0_hw4.1 k0_h1
theorem k0_off7_inb : ∀ (i : grid0.Coords) (v1259 : BitVec 32) (k0_hw4 : k0_chk4 i v1259), ∀ (k0_h1 : k0_cond1 i = 1#1), ∀ a, (k0_off7 v1259) a + S4x128.size a ≤ S65536x128.size a := fun i v1259 k0_hw4 k0_h1 => k0_hw4.2 k0_h1

def k0_off8 (k0_t1 : Fin k0_t1_loop.trips) (k0_t2 : Fin k0_t2_loop.trips) : Fin 4 → Nat :=
  let c0_554 : Index := 0#32
  let c0_i32_538 : BitVec 32 := 0#32
  let c1_i32_540 : BitVec 32 := 1#32
  let arg11 : BitVec 32 := Scf.iv c0_i32_538 c1_i32_540 k0_t1
  let v1265 : Index := Scalar.indexCast arg11
  let c0_i32_542 : BitVec 32 := 0#32
  let c1_i32_543 : BitVec 32 := 1#32
  let arg12 : BitVec 32 := Scf.iv c0_i32_542 c1_i32_543 k0_t2
  let c8_i32_552 : BitVec 32 := 8#32
  let v1263 : BitVec 32 := Scalar.muli arg12 c8_i32_552
  let c1_i32_553 : BitVec 32 := 1#32
  let v1264 : BitVec 32 := Scalar.addi v1263 c1_i32_553
  let v1266 : Index := Scalar.indexCast v1264
  let c0_555 : Index := 0#32
  ![0, v1265.toNat, v1266.toNat, 0]
def k0_off9 (k0_t1 : Fin k0_t1_loop.trips) (k0_t2 : Fin k0_t2_loop.trips) : Fin 2 → Nat :=
  let c0_i32_537 : BitVec 32 := 0#32
  let v1237 : BitVec 32 := c0_i32_537
  let c0_i32_538 : BitVec 32 := 0#32
  let c1_i32_540 : BitVec 32 := 1#32
  let arg11 : BitVec 32 := Scf.iv c0_i32_538 c1_i32_540 k0_t1
  let v1240 : BitVec 32 := Scalar.addi v1237 arg11
  let c0_i32_542 : BitVec 32 := 0#32
  let c1_i32_543 : BitVec 32 := 1#32
  let arg12 : BitVec 32 := Scf.iv c0_i32_542 c1_i32_543 k0_t2
  let c8_i32_545 : BitVec 32 := 8#32
  let v1241 : BitVec 32 := Scalar.muli arg12 c8_i32_545
  ![v1240.toNat, v1241.toNat]
def k0_off10 (v21 : BitVec 32) (v22 : BitVec 32) (v24 : BitVec 32) : Fin 1 → Nat :=
  let v23 : BitVec 32 := Scalar.addi v21 v22
  let v25 : BitVec 32 := Scalar.addi v23 v24
  let v1272 : Index := Scalar.indexCast v25
  ![v1272.toNat]

def k0_mult4 (v1273 : BitVec 32) : BitVec 32 :=
  v1273

def k0_off11 (v1273 : BitVec 32) : Fin 2 → Nat :=
  let v1274 : BitVec 32 := v1273
  let v1275 : Index := Scalar.indexCast v1274
  let c0_556 : Index := 0#32
  ![v1275.toNat, 0]

def k0_chk6 (i : grid0.Coords) (v1273 : BitVec 32) : Prop :=
  (∀ (k0_h1 : k0_cond1 i = 1#1), 4 ∣ (k0_mult4 v1273).toNat) ∧
  (∀ (k0_h1 : k0_cond1 i = 1#1), ∀ a, (k0_off11 v1273) a + S4x128.size a ≤ S65536x128.size a)
theorem k0_mult4_dvd : ∀ (i : grid0.Coords) (v1273 : BitVec 32) (k0_hw6 : k0_chk6 i v1273), ∀ (k0_h1 : k0_cond1 i = 1#1), 4 ∣ (k0_mult4 v1273).toNat := fun i v1273 k0_hw6 k0_h1 => k0_hw6.1 k0_h1
theorem k0_off11_inb : ∀ (i : grid0.Coords) (v1273 : BitVec 32) (k0_hw6 : k0_chk6 i v1273), ∀ (k0_h1 : k0_cond1 i = 1#1), ∀ a, (k0_off11 v1273) a + S4x128.size a ≤ S65536x128.size a := fun i v1273 k0_hw6 k0_h1 => k0_hw6.2 k0_h1

def k0_off12 (k0_t1 : Fin k0_t1_loop.trips) (k0_t2 : Fin k0_t2_loop.trips) : Fin 4 → Nat :=
  let c0_559 : Index := 0#32
  let c0_i32_538 : BitVec 32 := 0#32
  let c1_i32_540 : BitVec 32 := 1#32
  let arg11 : BitVec 32 := Scf.iv c0_i32_538 c1_i32_540 k0_t1
  let v1279 : Index := Scalar.indexCast arg11
  let c0_i32_542 : BitVec 32 := 0#32
  let c1_i32_543 : BitVec 32 := 1#32
  let arg12 : BitVec 32 := Scf.iv c0_i32_542 c1_i32_543 k0_t2
  let c8_i32_557 : BitVec 32 := 8#32
  let v1277 : BitVec 32 := Scalar.muli arg12 c8_i32_557
  let c2_i32_558 : BitVec 32 := 2#32
  let v1278 : BitVec 32 := Scalar.addi v1277 c2_i32_558
  let v1280 : Index := Scalar.indexCast v1278
  let c0_560 : Index := 0#32
  ![0, v1279.toNat, v1280.toNat, 0]
def k0_off13 (k0_t1 : Fin k0_t1_loop.trips) (k0_t2 : Fin k0_t2_loop.trips) : Fin 2 → Nat :=
  let c0_i32_537 : BitVec 32 := 0#32
  let v1237 : BitVec 32 := c0_i32_537
  let c0_i32_538 : BitVec 32 := 0#32
  let c1_i32_540 : BitVec 32 := 1#32
  let arg11 : BitVec 32 := Scf.iv c0_i32_538 c1_i32_540 k0_t1
  let v1240 : BitVec 32 := Scalar.addi v1237 arg11
  let c0_i32_542 : BitVec 32 := 0#32
  let c1_i32_543 : BitVec 32 := 1#32
  let arg12 : BitVec 32 := Scf.iv c0_i32_542 c1_i32_543 k0_t2
  let c8_i32_545 : BitVec 32 := 8#32
  let v1241 : BitVec 32 := Scalar.muli arg12 c8_i32_545
  ![v1240.toNat, v1241.toNat]
def k0_off14 (v21 : BitVec 32) (v22 : BitVec 32) (v24 : BitVec 32) (v26 : BitVec 32) : Fin 1 → Nat :=
  let v23 : BitVec 32 := Scalar.addi v21 v22
  let v25 : BitVec 32 := Scalar.addi v23 v24
  let v27 : BitVec 32 := Scalar.addi v25 v26
  let v1286 : Index := Scalar.indexCast v27
  ![v1286.toNat]

def k0_mult5 (v1287 : BitVec 32) : BitVec 32 :=
  v1287

def k0_off15 (v1287 : BitVec 32) : Fin 2 → Nat :=
  let v1288 : BitVec 32 := v1287
  let v1289 : Index := Scalar.indexCast v1288
  let c0_561 : Index := 0#32
  ![v1289.toNat, 0]

def k0_chk8 (i : grid0.Coords) (v1287 : BitVec 32) : Prop :=
  (∀ (k0_h1 : k0_cond1 i = 1#1), 4 ∣ (k0_mult5 v1287).toNat) ∧
  (∀ (k0_h1 : k0_cond1 i = 1#1), ∀ a, (k0_off15 v1287) a + S4x128.size a ≤ S65536x128.size a)
theorem k0_mult5_dvd : ∀ (i : grid0.Coords) (v1287 : BitVec 32) (k0_hw8 : k0_chk8 i v1287), ∀ (k0_h1 : k0_cond1 i = 1#1), 4 ∣ (k0_mult5 v1287).toNat := fun i v1287 k0_hw8 k0_h1 => k0_hw8.1 k0_h1
theorem k0_off15_inb : ∀ (i : grid0.Coords) (v1287 : BitVec 32) (k0_hw8 : k0_chk8 i v1287), ∀ (k0_h1 : k0_cond1 i = 1#1), ∀ a, (k0_off15 v1287) a + S4x128.size a ≤ S65536x128.size a := fun i v1287 k0_hw8 k0_h1 => k0_hw8.2 k0_h1

def k0_off16 (k0_t1 : Fin k0_t1_loop.trips) (k0_t2 : Fin k0_t2_loop.trips) : Fin 4 → Nat :=
  let c0_564 : Index := 0#32
  let c0_i32_538 : BitVec 32 := 0#32
  let c1_i32_540 : BitVec 32 := 1#32
  let arg11 : BitVec 32 := Scf.iv c0_i32_538 c1_i32_540 k0_t1
  let v1293 : Index := Scalar.indexCast arg11
  let c0_i32_542 : BitVec 32 := 0#32
  let c1_i32_543 : BitVec 32 := 1#32
  let arg12 : BitVec 32 := Scf.iv c0_i32_542 c1_i32_543 k0_t2
  let c8_i32_562 : BitVec 32 := 8#32
  let v1291 : BitVec 32 := Scalar.muli arg12 c8_i32_562
  let c3_i32_563 : BitVec 32 := 3#32
  let v1292 : BitVec 32 := Scalar.addi v1291 c3_i32_563
  let v1294 : Index := Scalar.indexCast v1292
  let c0_565 : Index := 0#32
  ![0, v1293.toNat, v1294.toNat, 0]
def k0_off17 (k0_t1 : Fin k0_t1_loop.trips) (k0_t2 : Fin k0_t2_loop.trips) : Fin 2 → Nat :=
  let c0_i32_537 : BitVec 32 := 0#32
  let v1237 : BitVec 32 := c0_i32_537
  let c0_i32_538 : BitVec 32 := 0#32
  let c1_i32_540 : BitVec 32 := 1#32
  let arg11 : BitVec 32 := Scf.iv c0_i32_538 c1_i32_540 k0_t1
  let v1240 : BitVec 32 := Scalar.addi v1237 arg11
  let c0_i32_542 : BitVec 32 := 0#32
  let c1_i32_543 : BitVec 32 := 1#32
  let arg12 : BitVec 32 := Scf.iv c0_i32_542 c1_i32_543 k0_t2
  let c8_i32_545 : BitVec 32 := 8#32
  let v1241 : BitVec 32 := Scalar.muli arg12 c8_i32_545
  ![v1240.toNat, v1241.toNat]
def k0_off18 (v21 : BitVec 32) (v22 : BitVec 32) (v24 : BitVec 32) (v26 : BitVec 32) (v28 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v1300 : Index := Scalar.indexCast v29
  ![v1300.toNat]

def k0_mult6 (v1301 : BitVec 32) : BitVec 32 :=
  v1301

def k0_off19 (v1301 : BitVec 32) : Fin 2 → Nat :=
  let v1302 : BitVec 32 := v1301
  let v1303 : Index := Scalar.indexCast v1302
  let c0_566 : Index := 0#32
  ![v1303.toNat, 0]

def k0_chk10 (i : grid0.Coords) (v1301 : BitVec 32) : Prop :=
  (∀ (k0_h1 : k0_cond1 i = 1#1), 4 ∣ (k0_mult6 v1301).toNat) ∧
  (∀ (k0_h1 : k0_cond1 i = 1#1), ∀ a, (k0_off19 v1301) a + S4x128.size a ≤ S65536x128.size a)
theorem k0_mult6_dvd : ∀ (i : grid0.Coords) (v1301 : BitVec 32) (k0_hw10 : k0_chk10 i v1301), ∀ (k0_h1 : k0_cond1 i = 1#1), 4 ∣ (k0_mult6 v1301).toNat := fun i v1301 k0_hw10 k0_h1 => k0_hw10.1 k0_h1
theorem k0_off19_inb : ∀ (i : grid0.Coords) (v1301 : BitVec 32) (k0_hw10 : k0_chk10 i v1301), ∀ (k0_h1 : k0_cond1 i = 1#1), ∀ a, (k0_off19 v1301) a + S4x128.size a ≤ S65536x128.size a := fun i v1301 k0_hw10 k0_h1 => k0_hw10.2 k0_h1

def k0_off20 (k0_t1 : Fin k0_t1_loop.trips) (k0_t2 : Fin k0_t2_loop.trips) : Fin 4 → Nat :=
  let c0_569 : Index := 0#32
  let c0_i32_538 : BitVec 32 := 0#32
  let c1_i32_540 : BitVec 32 := 1#32
  let arg11 : BitVec 32 := Scf.iv c0_i32_538 c1_i32_540 k0_t1
  let v1307 : Index := Scalar.indexCast arg11
  let c0_i32_542 : BitVec 32 := 0#32
  let c1_i32_543 : BitVec 32 := 1#32
  let arg12 : BitVec 32 := Scf.iv c0_i32_542 c1_i32_543 k0_t2
  let c8_i32_567 : BitVec 32 := 8#32
  let v1305 : BitVec 32 := Scalar.muli arg12 c8_i32_567
  let c4_i32_568 : BitVec 32 := 4#32
  let v1306 : BitVec 32 := Scalar.addi v1305 c4_i32_568
  let v1308 : Index := Scalar.indexCast v1306
  let c0_570 : Index := 0#32
  ![0, v1307.toNat, v1308.toNat, 0]
def k0_off21 (k0_t1 : Fin k0_t1_loop.trips) (k0_t2 : Fin k0_t2_loop.trips) : Fin 2 → Nat :=
  let c0_i32_537 : BitVec 32 := 0#32
  let v1237 : BitVec 32 := c0_i32_537
  let c0_i32_538 : BitVec 32 := 0#32
  let c1_i32_540 : BitVec 32 := 1#32
  let arg11 : BitVec 32 := Scf.iv c0_i32_538 c1_i32_540 k0_t1
  let v1240 : BitVec 32 := Scalar.addi v1237 arg11
  let c0_i32_542 : BitVec 32 := 0#32
  let c1_i32_543 : BitVec 32 := 1#32
  let arg12 : BitVec 32 := Scf.iv c0_i32_542 c1_i32_543 k0_t2
  let c8_i32_545 : BitVec 32 := 8#32
  let v1241 : BitVec 32 := Scalar.muli arg12 c8_i32_545
  ![v1240.toNat, v1241.toNat]
def k0_off22 (v21 : BitVec 32) (v22 : BitVec 32) (v24 : BitVec 32) (v26 : BitVec 32) (v28 : BitVec 32) (v30 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v1314 : Index := Scalar.indexCast v31
  ![v1314.toNat]

def k0_mult7 (v1315 : BitVec 32) : BitVec 32 :=
  v1315

def k0_off23 (v1315 : BitVec 32) : Fin 2 → Nat :=
  let v1316 : BitVec 32 := v1315
  let v1317 : Index := Scalar.indexCast v1316
  let c0_571 : Index := 0#32
  ![v1317.toNat, 0]

def k0_chk12 (i : grid0.Coords) (v1315 : BitVec 32) : Prop :=
  (∀ (k0_h1 : k0_cond1 i = 1#1), 4 ∣ (k0_mult7 v1315).toNat) ∧
  (∀ (k0_h1 : k0_cond1 i = 1#1), ∀ a, (k0_off23 v1315) a + S4x128.size a ≤ S65536x128.size a)
theorem k0_mult7_dvd : ∀ (i : grid0.Coords) (v1315 : BitVec 32) (k0_hw12 : k0_chk12 i v1315), ∀ (k0_h1 : k0_cond1 i = 1#1), 4 ∣ (k0_mult7 v1315).toNat := fun i v1315 k0_hw12 k0_h1 => k0_hw12.1 k0_h1
theorem k0_off23_inb : ∀ (i : grid0.Coords) (v1315 : BitVec 32) (k0_hw12 : k0_chk12 i v1315), ∀ (k0_h1 : k0_cond1 i = 1#1), ∀ a, (k0_off23 v1315) a + S4x128.size a ≤ S65536x128.size a := fun i v1315 k0_hw12 k0_h1 => k0_hw12.2 k0_h1

def k0_off24 (k0_t1 : Fin k0_t1_loop.trips) (k0_t2 : Fin k0_t2_loop.trips) : Fin 4 → Nat :=
  let c0_574 : Index := 0#32
  let c0_i32_538 : BitVec 32 := 0#32
  let c1_i32_540 : BitVec 32 := 1#32
  let arg11 : BitVec 32 := Scf.iv c0_i32_538 c1_i32_540 k0_t1
  let v1321 : Index := Scalar.indexCast arg11
  let c0_i32_542 : BitVec 32 := 0#32
  let c1_i32_543 : BitVec 32 := 1#32
  let arg12 : BitVec 32 := Scf.iv c0_i32_542 c1_i32_543 k0_t2
  let c8_i32_572 : BitVec 32 := 8#32
  let v1319 : BitVec 32 := Scalar.muli arg12 c8_i32_572
  let c5_i32_573 : BitVec 32 := 5#32
  let v1320 : BitVec 32 := Scalar.addi v1319 c5_i32_573
  let v1322 : Index := Scalar.indexCast v1320
  let c0_575 : Index := 0#32
  ![0, v1321.toNat, v1322.toNat, 0]
def k0_off25 (k0_t1 : Fin k0_t1_loop.trips) (k0_t2 : Fin k0_t2_loop.trips) : Fin 2 → Nat :=
  let c0_i32_537 : BitVec 32 := 0#32
  let v1237 : BitVec 32 := c0_i32_537
  let c0_i32_538 : BitVec 32 := 0#32
  let c1_i32_540 : BitVec 32 := 1#32
  let arg11 : BitVec 32 := Scf.iv c0_i32_538 c1_i32_540 k0_t1
  let v1240 : BitVec 32 := Scalar.addi v1237 arg11
  let c0_i32_542 : BitVec 32 := 0#32
  let c1_i32_543 : BitVec 32 := 1#32
  let arg12 : BitVec 32 := Scf.iv c0_i32_542 c1_i32_543 k0_t2
  let c8_i32_545 : BitVec 32 := 8#32
  let v1241 : BitVec 32 := Scalar.muli arg12 c8_i32_545
  ![v1240.toNat, v1241.toNat]
def k0_off26 (v21 : BitVec 32) (v22 : BitVec 32) (v24 : BitVec 32) (v26 : BitVec 32) (v28 : BitVec 32) (v30 : BitVec 32) (v32 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v33 : BitVec 32 := Scalar.addi v31 v32
  let v1328 : Index := Scalar.indexCast v33
  ![v1328.toNat]

def k0_mult8 (v1329 : BitVec 32) : BitVec 32 :=
  v1329

def k0_off27 (v1329 : BitVec 32) : Fin 2 → Nat :=
  let v1330 : BitVec 32 := v1329
  let v1331 : Index := Scalar.indexCast v1330
  let c0_576 : Index := 0#32
  ![v1331.toNat, 0]

def k0_chk14 (i : grid0.Coords) (v1329 : BitVec 32) : Prop :=
  (∀ (k0_h1 : k0_cond1 i = 1#1), 4 ∣ (k0_mult8 v1329).toNat) ∧
  (∀ (k0_h1 : k0_cond1 i = 1#1), ∀ a, (k0_off27 v1329) a + S4x128.size a ≤ S65536x128.size a)
theorem k0_mult8_dvd : ∀ (i : grid0.Coords) (v1329 : BitVec 32) (k0_hw14 : k0_chk14 i v1329), ∀ (k0_h1 : k0_cond1 i = 1#1), 4 ∣ (k0_mult8 v1329).toNat := fun i v1329 k0_hw14 k0_h1 => k0_hw14.1 k0_h1
theorem k0_off27_inb : ∀ (i : grid0.Coords) (v1329 : BitVec 32) (k0_hw14 : k0_chk14 i v1329), ∀ (k0_h1 : k0_cond1 i = 1#1), ∀ a, (k0_off27 v1329) a + S4x128.size a ≤ S65536x128.size a := fun i v1329 k0_hw14 k0_h1 => k0_hw14.2 k0_h1

def k0_off28 (k0_t1 : Fin k0_t1_loop.trips) (k0_t2 : Fin k0_t2_loop.trips) : Fin 4 → Nat :=
  let c0_579 : Index := 0#32
  let c0_i32_538 : BitVec 32 := 0#32
  let c1_i32_540 : BitVec 32 := 1#32
  let arg11 : BitVec 32 := Scf.iv c0_i32_538 c1_i32_540 k0_t1
  let v1335 : Index := Scalar.indexCast arg11
  let c0_i32_542 : BitVec 32 := 0#32
  let c1_i32_543 : BitVec 32 := 1#32
  let arg12 : BitVec 32 := Scf.iv c0_i32_542 c1_i32_543 k0_t2
  let c8_i32_577 : BitVec 32 := 8#32
  let v1333 : BitVec 32 := Scalar.muli arg12 c8_i32_577
  let c6_i32_578 : BitVec 32 := 6#32
  let v1334 : BitVec 32 := Scalar.addi v1333 c6_i32_578
  let v1336 : Index := Scalar.indexCast v1334
  let c0_580 : Index := 0#32
  ![0, v1335.toNat, v1336.toNat, 0]
def k0_off29 (k0_t1 : Fin k0_t1_loop.trips) (k0_t2 : Fin k0_t2_loop.trips) : Fin 2 → Nat :=
  let c0_i32_537 : BitVec 32 := 0#32
  let v1237 : BitVec 32 := c0_i32_537
  let c0_i32_538 : BitVec 32 := 0#32
  let c1_i32_540 : BitVec 32 := 1#32
  let arg11 : BitVec 32 := Scf.iv c0_i32_538 c1_i32_540 k0_t1
  let v1240 : BitVec 32 := Scalar.addi v1237 arg11
  let c0_i32_542 : BitVec 32 := 0#32
  let c1_i32_543 : BitVec 32 := 1#32
  let arg12 : BitVec 32 := Scf.iv c0_i32_542 c1_i32_543 k0_t2
  let c8_i32_545 : BitVec 32 := 8#32
  let v1241 : BitVec 32 := Scalar.muli arg12 c8_i32_545
  ![v1240.toNat, v1241.toNat]
def k0_off30 (v21 : BitVec 32) (v22 : BitVec 32) (v24 : BitVec 32) (v26 : BitVec 32) (v28 : BitVec 32) (v30 : BitVec 32) (v32 : BitVec 32) (v34 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v33 : BitVec 32 := Scalar.addi v31 v32
  let v35 : BitVec 32 := Scalar.addi v33 v34
  let v1342 : Index := Scalar.indexCast v35
  ![v1342.toNat]

def k0_mult9 (v1343 : BitVec 32) : BitVec 32 :=
  v1343

def k0_off31 (v1343 : BitVec 32) : Fin 2 → Nat :=
  let v1344 : BitVec 32 := v1343
  let v1345 : Index := Scalar.indexCast v1344
  let c0_581 : Index := 0#32
  ![v1345.toNat, 0]

def k0_chk16 (i : grid0.Coords) (v1343 : BitVec 32) : Prop :=
  (∀ (k0_h1 : k0_cond1 i = 1#1), 4 ∣ (k0_mult9 v1343).toNat) ∧
  (∀ (k0_h1 : k0_cond1 i = 1#1), ∀ a, (k0_off31 v1343) a + S4x128.size a ≤ S65536x128.size a)
theorem k0_mult9_dvd : ∀ (i : grid0.Coords) (v1343 : BitVec 32) (k0_hw16 : k0_chk16 i v1343), ∀ (k0_h1 : k0_cond1 i = 1#1), 4 ∣ (k0_mult9 v1343).toNat := fun i v1343 k0_hw16 k0_h1 => k0_hw16.1 k0_h1
theorem k0_off31_inb : ∀ (i : grid0.Coords) (v1343 : BitVec 32) (k0_hw16 : k0_chk16 i v1343), ∀ (k0_h1 : k0_cond1 i = 1#1), ∀ a, (k0_off31 v1343) a + S4x128.size a ≤ S65536x128.size a := fun i v1343 k0_hw16 k0_h1 => k0_hw16.2 k0_h1

def k0_off32 (k0_t1 : Fin k0_t1_loop.trips) (k0_t2 : Fin k0_t2_loop.trips) : Fin 4 → Nat :=
  let c0_584 : Index := 0#32
  let c0_i32_538 : BitVec 32 := 0#32
  let c1_i32_540 : BitVec 32 := 1#32
  let arg11 : BitVec 32 := Scf.iv c0_i32_538 c1_i32_540 k0_t1
  let v1349 : Index := Scalar.indexCast arg11
  let c0_i32_542 : BitVec 32 := 0#32
  let c1_i32_543 : BitVec 32 := 1#32
  let arg12 : BitVec 32 := Scf.iv c0_i32_542 c1_i32_543 k0_t2
  let c8_i32_582 : BitVec 32 := 8#32
  let v1347 : BitVec 32 := Scalar.muli arg12 c8_i32_582
  let c7_i32_583 : BitVec 32 := 7#32
  let v1348 : BitVec 32 := Scalar.addi v1347 c7_i32_583
  let v1350 : Index := Scalar.indexCast v1348
  let c0_585 : Index := 0#32
  ![0, v1349.toNat, v1350.toNat, 0]
@[reducible] def k0_t3_loop : Scf.Loop 32 :=
  let c0_i32_18 : BitVec 32 := 0#32
  let c7_i32 : BitVec 32 := 7#32
  let v39 : BitVec 32 := Scalar.addi c0_i32_18 c7_i32
  let c1_i32 : BitVec 32 := 1#32
  ⟨c0_i32_18, v39, c1_i32⟩
def k0_mult10 (k0_t3 : Fin k0_t3_loop.trips) : BitVec 32 :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_538 : BitVec 32 := 1#32
  let v1238 : BitVec 32 := Scalar.addi v1237 c1_i32_538
  let c8_i32_539 : BitVec 32 := 8#32
  let v1239 : BitVec 32 := Scalar.muli v1238 c8_i32_539
  v1239
@[reducible] def k0_t4_loop : Scf.Loop 32 :=
  let c0_i32_540 : BitVec 32 := 0#32
  let c8_i32_541 : BitVec 32 := 8#32
  let v1241 : BitVec 32 := Scalar.addi c0_i32_540 c8_i32_541
  let c1_i32_542 : BitVec 32 := 1#32
  ⟨c0_i32_540, v1241, c1_i32_542⟩
@[reducible] def k0_t5_loop : Scf.Loop 32 :=
  let c0_i32_1067 : BitVec 32 := 0#32
  let c16_i32 : BitVec 32 := 16#32
  let v2439 : BitVec 32 := Scalar.addi c0_i32_1067 c16_i32
  let c1_i32_1068 : BitVec 32 := 1#32
  ⟨c0_i32_1067, v2439, c1_i32_1068⟩
def k0_off33 (k0_t3 : Fin k0_t3_loop.trips) (k0_t4 : Fin k0_t4_loop.trips) (k0_t5 : Fin k0_t5_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_538 : BitVec 32 := 1#32
  let v1238 : BitVec 32 := Scalar.addi v1237 c1_i32_538
  let c8_i32_539 : BitVec 32 := 8#32
  let v1239 : BitVec 32 := Scalar.muli v1238 c8_i32_539
  let v1240 : BitVec 32 := v1239
  let c0_i32_540 : BitVec 32 := 0#32
  let c1_i32_542 : BitVec 32 := 1#32
  let arg13 : BitVec 32 := Scf.iv c0_i32_540 c1_i32_542 k0_t4
  let v2440 : BitVec 32 := Scalar.addi v1240 arg13
  let c0_i32_1067 : BitVec 32 := 0#32
  let c1_i32_1068 : BitVec 32 := 1#32
  let arg14 : BitVec 32 := Scf.iv c0_i32_1067 c1_i32_1068 k0_t5
  let c8_i32_1070 : BitVec 32 := 8#32
  let v2441 : BitVec 32 := Scalar.muli arg14 c8_i32_1070
  ![v2440.toNat, v2441.toNat]
def k0_off34 (v21 : BitVec 32) : Fin 1 → Nat :=
  let v2444 : Index := Scalar.indexCast v21
  ![v2444.toNat]
def k0_mult11 (v2445 : BitVec 32) : BitVec 32 :=
  v2445

def k0_off35 (v2445 : BitVec 32) : Fin 2 → Nat :=
  let v2446 : BitVec 32 := v2445
  let v2447 : Index := Scalar.indexCast v2446
  let c0_1071 : Index := 0#32
  ![v2447.toNat, 0]

def k0_chk17 (v2445 : BitVec 32) : Prop :=
  (4 ∣ (k0_mult11 v2445).toNat) ∧
  (∀ a, (k0_off35 v2445) a + S4x128.size a ≤ S65536x128.size a)
theorem k0_mult11_dvd : ∀ (v2445 : BitVec 32) (k0_hw17 : k0_chk17 v2445), 4 ∣ (k0_mult11 v2445).toNat := fun v2445 k0_hw17 => k0_hw17.1
theorem k0_off35_inb : ∀ (v2445 : BitVec 32) (k0_hw17 : k0_chk17 v2445), ∀ a, (k0_off35 v2445) a + S4x128.size a ≤ S65536x128.size a := fun v2445 k0_hw17 => k0_hw17.2

def k0_off36 (k0_t4 : Fin k0_t4_loop.trips) (k0_t5 : Fin k0_t5_loop.trips) : Fin 4 → Nat :=
  let c1_1074 : Index := 1#32
  let c0_i32_540 : BitVec 32 := 0#32
  let c1_i32_542 : BitVec 32 := 1#32
  let arg13 : BitVec 32 := Scf.iv c0_i32_540 c1_i32_542 k0_t4
  let v2451 : Index := Scalar.indexCast arg13
  let c0_i32_1067 : BitVec 32 := 0#32
  let c1_i32_1068 : BitVec 32 := 1#32
  let arg14 : BitVec 32 := Scf.iv c0_i32_1067 c1_i32_1068 k0_t5
  let c8_i32_1072 : BitVec 32 := 8#32
  let v2449 : BitVec 32 := Scalar.muli arg14 c8_i32_1072
  let c0_i32_1073 : BitVec 32 := 0#32
  let v2450 : BitVec 32 := Scalar.addi v2449 c0_i32_1073
  let v2452 : Index := Scalar.indexCast v2450
  let c0_1075 : Index := 0#32
  ![1, v2451.toNat, v2452.toNat, 0]
def k0_off37 (k0_t3 : Fin k0_t3_loop.trips) (k0_t4 : Fin k0_t4_loop.trips) (k0_t5 : Fin k0_t5_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_538 : BitVec 32 := 1#32
  let v1238 : BitVec 32 := Scalar.addi v1237 c1_i32_538
  let c8_i32_539 : BitVec 32 := 8#32
  let v1239 : BitVec 32 := Scalar.muli v1238 c8_i32_539
  let v1240 : BitVec 32 := v1239
  let c0_i32_540 : BitVec 32 := 0#32
  let c1_i32_542 : BitVec 32 := 1#32
  let arg13 : BitVec 32 := Scf.iv c0_i32_540 c1_i32_542 k0_t4
  let v2440 : BitVec 32 := Scalar.addi v1240 arg13
  let c0_i32_1067 : BitVec 32 := 0#32
  let c1_i32_1068 : BitVec 32 := 1#32
  let arg14 : BitVec 32 := Scf.iv c0_i32_1067 c1_i32_1068 k0_t5
  let c8_i32_1070 : BitVec 32 := 8#32
  let v2441 : BitVec 32 := Scalar.muli arg14 c8_i32_1070
  ![v2440.toNat, v2441.toNat]
def k0_off38 (v21 : BitVec 32) (v22 : BitVec 32) : Fin 1 → Nat :=
  let v23 : BitVec 32 := Scalar.addi v21 v22
  let v2458 : Index := Scalar.indexCast v23
  ![v2458.toNat]
def k0_mult12 (v2459 : BitVec 32) : BitVec 32 :=
  v2459

def k0_off39 (v2459 : BitVec 32) : Fin 2 → Nat :=
  let v2460 : BitVec 32 := v2459
  let v2461 : Index := Scalar.indexCast v2460
  let c0_1076 : Index := 0#32
  ![v2461.toNat, 0]

def k0_chk18 (v2459 : BitVec 32) : Prop :=
  (4 ∣ (k0_mult12 v2459).toNat) ∧
  (∀ a, (k0_off39 v2459) a + S4x128.size a ≤ S65536x128.size a)
theorem k0_mult12_dvd : ∀ (v2459 : BitVec 32) (k0_hw18 : k0_chk18 v2459), 4 ∣ (k0_mult12 v2459).toNat := fun v2459 k0_hw18 => k0_hw18.1
theorem k0_off39_inb : ∀ (v2459 : BitVec 32) (k0_hw18 : k0_chk18 v2459), ∀ a, (k0_off39 v2459) a + S4x128.size a ≤ S65536x128.size a := fun v2459 k0_hw18 => k0_hw18.2

def k0_off40 (k0_t4 : Fin k0_t4_loop.trips) (k0_t5 : Fin k0_t5_loop.trips) : Fin 4 → Nat :=
  let c1_1079 : Index := 1#32
  let c0_i32_540 : BitVec 32 := 0#32
  let c1_i32_542 : BitVec 32 := 1#32
  let arg13 : BitVec 32 := Scf.iv c0_i32_540 c1_i32_542 k0_t4
  let v2465 : Index := Scalar.indexCast arg13
  let c0_i32_1067 : BitVec 32 := 0#32
  let c1_i32_1068 : BitVec 32 := 1#32
  let arg14 : BitVec 32 := Scf.iv c0_i32_1067 c1_i32_1068 k0_t5
  let c8_i32_1077 : BitVec 32 := 8#32
  let v2463 : BitVec 32 := Scalar.muli arg14 c8_i32_1077
  let c1_i32_1078 : BitVec 32 := 1#32
  let v2464 : BitVec 32 := Scalar.addi v2463 c1_i32_1078
  let v2466 : Index := Scalar.indexCast v2464
  let c0_1080 : Index := 0#32
  ![1, v2465.toNat, v2466.toNat, 0]
def k0_off41 (k0_t3 : Fin k0_t3_loop.trips) (k0_t4 : Fin k0_t4_loop.trips) (k0_t5 : Fin k0_t5_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_538 : BitVec 32 := 1#32
  let v1238 : BitVec 32 := Scalar.addi v1237 c1_i32_538
  let c8_i32_539 : BitVec 32 := 8#32
  let v1239 : BitVec 32 := Scalar.muli v1238 c8_i32_539
  let v1240 : BitVec 32 := v1239
  let c0_i32_540 : BitVec 32 := 0#32
  let c1_i32_542 : BitVec 32 := 1#32
  let arg13 : BitVec 32 := Scf.iv c0_i32_540 c1_i32_542 k0_t4
  let v2440 : BitVec 32 := Scalar.addi v1240 arg13
  let c0_i32_1067 : BitVec 32 := 0#32
  let c1_i32_1068 : BitVec 32 := 1#32
  let arg14 : BitVec 32 := Scf.iv c0_i32_1067 c1_i32_1068 k0_t5
  let c8_i32_1070 : BitVec 32 := 8#32
  let v2441 : BitVec 32 := Scalar.muli arg14 c8_i32_1070
  ![v2440.toNat, v2441.toNat]
def k0_off42 (v21 : BitVec 32) (v22 : BitVec 32) (v24 : BitVec 32) : Fin 1 → Nat :=
  let v23 : BitVec 32 := Scalar.addi v21 v22
  let v25 : BitVec 32 := Scalar.addi v23 v24
  let v2472 : Index := Scalar.indexCast v25
  ![v2472.toNat]
def k0_mult13 (v2473 : BitVec 32) : BitVec 32 :=
  v2473

def k0_off43 (v2473 : BitVec 32) : Fin 2 → Nat :=
  let v2474 : BitVec 32 := v2473
  let v2475 : Index := Scalar.indexCast v2474
  let c0_1081 : Index := 0#32
  ![v2475.toNat, 0]

def k0_chk19 (v2473 : BitVec 32) : Prop :=
  (4 ∣ (k0_mult13 v2473).toNat) ∧
  (∀ a, (k0_off43 v2473) a + S4x128.size a ≤ S65536x128.size a)
theorem k0_mult13_dvd : ∀ (v2473 : BitVec 32) (k0_hw19 : k0_chk19 v2473), 4 ∣ (k0_mult13 v2473).toNat := fun v2473 k0_hw19 => k0_hw19.1
theorem k0_off43_inb : ∀ (v2473 : BitVec 32) (k0_hw19 : k0_chk19 v2473), ∀ a, (k0_off43 v2473) a + S4x128.size a ≤ S65536x128.size a := fun v2473 k0_hw19 => k0_hw19.2

def k0_off44 (k0_t4 : Fin k0_t4_loop.trips) (k0_t5 : Fin k0_t5_loop.trips) : Fin 4 → Nat :=
  let c1_1084 : Index := 1#32
  let c0_i32_540 : BitVec 32 := 0#32
  let c1_i32_542 : BitVec 32 := 1#32
  let arg13 : BitVec 32 := Scf.iv c0_i32_540 c1_i32_542 k0_t4
  let v2479 : Index := Scalar.indexCast arg13
  let c0_i32_1067 : BitVec 32 := 0#32
  let c1_i32_1068 : BitVec 32 := 1#32
  let arg14 : BitVec 32 := Scf.iv c0_i32_1067 c1_i32_1068 k0_t5
  let c8_i32_1082 : BitVec 32 := 8#32
  let v2477 : BitVec 32 := Scalar.muli arg14 c8_i32_1082
  let c2_i32_1083 : BitVec 32 := 2#32
  let v2478 : BitVec 32 := Scalar.addi v2477 c2_i32_1083
  let v2480 : Index := Scalar.indexCast v2478
  let c0_1085 : Index := 0#32
  ![1, v2479.toNat, v2480.toNat, 0]
def k0_off45 (k0_t3 : Fin k0_t3_loop.trips) (k0_t4 : Fin k0_t4_loop.trips) (k0_t5 : Fin k0_t5_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_538 : BitVec 32 := 1#32
  let v1238 : BitVec 32 := Scalar.addi v1237 c1_i32_538
  let c8_i32_539 : BitVec 32 := 8#32
  let v1239 : BitVec 32 := Scalar.muli v1238 c8_i32_539
  let v1240 : BitVec 32 := v1239
  let c0_i32_540 : BitVec 32 := 0#32
  let c1_i32_542 : BitVec 32 := 1#32
  let arg13 : BitVec 32 := Scf.iv c0_i32_540 c1_i32_542 k0_t4
  let v2440 : BitVec 32 := Scalar.addi v1240 arg13
  let c0_i32_1067 : BitVec 32 := 0#32
  let c1_i32_1068 : BitVec 32 := 1#32
  let arg14 : BitVec 32 := Scf.iv c0_i32_1067 c1_i32_1068 k0_t5
  let c8_i32_1070 : BitVec 32 := 8#32
  let v2441 : BitVec 32 := Scalar.muli arg14 c8_i32_1070
  ![v2440.toNat, v2441.toNat]
def k0_off46 (v21 : BitVec 32) (v22 : BitVec 32) (v24 : BitVec 32) (v26 : BitVec 32) : Fin 1 → Nat :=
  let v23 : BitVec 32 := Scalar.addi v21 v22
  let v25 : BitVec 32 := Scalar.addi v23 v24
  let v27 : BitVec 32 := Scalar.addi v25 v26
  let v2486 : Index := Scalar.indexCast v27
  ![v2486.toNat]
def k0_mult14 (v2487 : BitVec 32) : BitVec 32 :=
  v2487

def k0_off47 (v2487 : BitVec 32) : Fin 2 → Nat :=
  let v2488 : BitVec 32 := v2487
  let v2489 : Index := Scalar.indexCast v2488
  let c0_1086 : Index := 0#32
  ![v2489.toNat, 0]

def k0_chk20 (v2487 : BitVec 32) : Prop :=
  (4 ∣ (k0_mult14 v2487).toNat) ∧
  (∀ a, (k0_off47 v2487) a + S4x128.size a ≤ S65536x128.size a)
theorem k0_mult14_dvd : ∀ (v2487 : BitVec 32) (k0_hw20 : k0_chk20 v2487), 4 ∣ (k0_mult14 v2487).toNat := fun v2487 k0_hw20 => k0_hw20.1
theorem k0_off47_inb : ∀ (v2487 : BitVec 32) (k0_hw20 : k0_chk20 v2487), ∀ a, (k0_off47 v2487) a + S4x128.size a ≤ S65536x128.size a := fun v2487 k0_hw20 => k0_hw20.2

def k0_off48 (k0_t4 : Fin k0_t4_loop.trips) (k0_t5 : Fin k0_t5_loop.trips) : Fin 4 → Nat :=
  let c1_1089 : Index := 1#32
  let c0_i32_540 : BitVec 32 := 0#32
  let c1_i32_542 : BitVec 32 := 1#32
  let arg13 : BitVec 32 := Scf.iv c0_i32_540 c1_i32_542 k0_t4
  let v2493 : Index := Scalar.indexCast arg13
  let c0_i32_1067 : BitVec 32 := 0#32
  let c1_i32_1068 : BitVec 32 := 1#32
  let arg14 : BitVec 32 := Scf.iv c0_i32_1067 c1_i32_1068 k0_t5
  let c8_i32_1087 : BitVec 32 := 8#32
  let v2491 : BitVec 32 := Scalar.muli arg14 c8_i32_1087
  let c3_i32_1088 : BitVec 32 := 3#32
  let v2492 : BitVec 32 := Scalar.addi v2491 c3_i32_1088
  let v2494 : Index := Scalar.indexCast v2492
  let c0_1090 : Index := 0#32
  ![1, v2493.toNat, v2494.toNat, 0]
def k0_off49 (k0_t3 : Fin k0_t3_loop.trips) (k0_t4 : Fin k0_t4_loop.trips) (k0_t5 : Fin k0_t5_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_538 : BitVec 32 := 1#32
  let v1238 : BitVec 32 := Scalar.addi v1237 c1_i32_538
  let c8_i32_539 : BitVec 32 := 8#32
  let v1239 : BitVec 32 := Scalar.muli v1238 c8_i32_539
  let v1240 : BitVec 32 := v1239
  let c0_i32_540 : BitVec 32 := 0#32
  let c1_i32_542 : BitVec 32 := 1#32
  let arg13 : BitVec 32 := Scf.iv c0_i32_540 c1_i32_542 k0_t4
  let v2440 : BitVec 32 := Scalar.addi v1240 arg13
  let c0_i32_1067 : BitVec 32 := 0#32
  let c1_i32_1068 : BitVec 32 := 1#32
  let arg14 : BitVec 32 := Scf.iv c0_i32_1067 c1_i32_1068 k0_t5
  let c8_i32_1070 : BitVec 32 := 8#32
  let v2441 : BitVec 32 := Scalar.muli arg14 c8_i32_1070
  ![v2440.toNat, v2441.toNat]
def k0_off50 (v21 : BitVec 32) (v22 : BitVec 32) (v24 : BitVec 32) (v26 : BitVec 32) (v28 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v2500 : Index := Scalar.indexCast v29
  ![v2500.toNat]
def k0_mult15 (v2501 : BitVec 32) : BitVec 32 :=
  v2501

def k0_off51 (v2501 : BitVec 32) : Fin 2 → Nat :=
  let v2502 : BitVec 32 := v2501
  let v2503 : Index := Scalar.indexCast v2502
  let c0_1091 : Index := 0#32
  ![v2503.toNat, 0]

def k0_chk21 (v2501 : BitVec 32) : Prop :=
  (4 ∣ (k0_mult15 v2501).toNat) ∧
  (∀ a, (k0_off51 v2501) a + S4x128.size a ≤ S65536x128.size a)
theorem k0_mult15_dvd : ∀ (v2501 : BitVec 32) (k0_hw21 : k0_chk21 v2501), 4 ∣ (k0_mult15 v2501).toNat := fun v2501 k0_hw21 => k0_hw21.1
theorem k0_off51_inb : ∀ (v2501 : BitVec 32) (k0_hw21 : k0_chk21 v2501), ∀ a, (k0_off51 v2501) a + S4x128.size a ≤ S65536x128.size a := fun v2501 k0_hw21 => k0_hw21.2

def k0_off52 (k0_t4 : Fin k0_t4_loop.trips) (k0_t5 : Fin k0_t5_loop.trips) : Fin 4 → Nat :=
  let c1_1094 : Index := 1#32
  let c0_i32_540 : BitVec 32 := 0#32
  let c1_i32_542 : BitVec 32 := 1#32
  let arg13 : BitVec 32 := Scf.iv c0_i32_540 c1_i32_542 k0_t4
  let v2507 : Index := Scalar.indexCast arg13
  let c0_i32_1067 : BitVec 32 := 0#32
  let c1_i32_1068 : BitVec 32 := 1#32
  let arg14 : BitVec 32 := Scf.iv c0_i32_1067 c1_i32_1068 k0_t5
  let c8_i32_1092 : BitVec 32 := 8#32
  let v2505 : BitVec 32 := Scalar.muli arg14 c8_i32_1092
  let c4_i32_1093 : BitVec 32 := 4#32
  let v2506 : BitVec 32 := Scalar.addi v2505 c4_i32_1093
  let v2508 : Index := Scalar.indexCast v2506
  let c0_1095 : Index := 0#32
  ![1, v2507.toNat, v2508.toNat, 0]
def k0_off53 (k0_t3 : Fin k0_t3_loop.trips) (k0_t4 : Fin k0_t4_loop.trips) (k0_t5 : Fin k0_t5_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_538 : BitVec 32 := 1#32
  let v1238 : BitVec 32 := Scalar.addi v1237 c1_i32_538
  let c8_i32_539 : BitVec 32 := 8#32
  let v1239 : BitVec 32 := Scalar.muli v1238 c8_i32_539
  let v1240 : BitVec 32 := v1239
  let c0_i32_540 : BitVec 32 := 0#32
  let c1_i32_542 : BitVec 32 := 1#32
  let arg13 : BitVec 32 := Scf.iv c0_i32_540 c1_i32_542 k0_t4
  let v2440 : BitVec 32 := Scalar.addi v1240 arg13
  let c0_i32_1067 : BitVec 32 := 0#32
  let c1_i32_1068 : BitVec 32 := 1#32
  let arg14 : BitVec 32 := Scf.iv c0_i32_1067 c1_i32_1068 k0_t5
  let c8_i32_1070 : BitVec 32 := 8#32
  let v2441 : BitVec 32 := Scalar.muli arg14 c8_i32_1070
  ![v2440.toNat, v2441.toNat]
def k0_off54 (v21 : BitVec 32) (v22 : BitVec 32) (v24 : BitVec 32) (v26 : BitVec 32) (v28 : BitVec 32) (v30 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v2514 : Index := Scalar.indexCast v31
  ![v2514.toNat]
def k0_mult16 (v2515 : BitVec 32) : BitVec 32 :=
  v2515

def k0_off55 (v2515 : BitVec 32) : Fin 2 → Nat :=
  let v2516 : BitVec 32 := v2515
  let v2517 : Index := Scalar.indexCast v2516
  let c0_1096 : Index := 0#32
  ![v2517.toNat, 0]

def k0_chk22 (v2515 : BitVec 32) : Prop :=
  (4 ∣ (k0_mult16 v2515).toNat) ∧
  (∀ a, (k0_off55 v2515) a + S4x128.size a ≤ S65536x128.size a)
theorem k0_mult16_dvd : ∀ (v2515 : BitVec 32) (k0_hw22 : k0_chk22 v2515), 4 ∣ (k0_mult16 v2515).toNat := fun v2515 k0_hw22 => k0_hw22.1
theorem k0_off55_inb : ∀ (v2515 : BitVec 32) (k0_hw22 : k0_chk22 v2515), ∀ a, (k0_off55 v2515) a + S4x128.size a ≤ S65536x128.size a := fun v2515 k0_hw22 => k0_hw22.2

def k0_off56 (k0_t4 : Fin k0_t4_loop.trips) (k0_t5 : Fin k0_t5_loop.trips) : Fin 4 → Nat :=
  let c1_1099 : Index := 1#32
  let c0_i32_540 : BitVec 32 := 0#32
  let c1_i32_542 : BitVec 32 := 1#32
  let arg13 : BitVec 32 := Scf.iv c0_i32_540 c1_i32_542 k0_t4
  let v2521 : Index := Scalar.indexCast arg13
  let c0_i32_1067 : BitVec 32 := 0#32
  let c1_i32_1068 : BitVec 32 := 1#32
  let arg14 : BitVec 32 := Scf.iv c0_i32_1067 c1_i32_1068 k0_t5
  let c8_i32_1097 : BitVec 32 := 8#32
  let v2519 : BitVec 32 := Scalar.muli arg14 c8_i32_1097
  let c5_i32_1098 : BitVec 32 := 5#32
  let v2520 : BitVec 32 := Scalar.addi v2519 c5_i32_1098
  let v2522 : Index := Scalar.indexCast v2520
  let c0_1100 : Index := 0#32
  ![1, v2521.toNat, v2522.toNat, 0]
def k0_off57 (k0_t3 : Fin k0_t3_loop.trips) (k0_t4 : Fin k0_t4_loop.trips) (k0_t5 : Fin k0_t5_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_538 : BitVec 32 := 1#32
  let v1238 : BitVec 32 := Scalar.addi v1237 c1_i32_538
  let c8_i32_539 : BitVec 32 := 8#32
  let v1239 : BitVec 32 := Scalar.muli v1238 c8_i32_539
  let v1240 : BitVec 32 := v1239
  let c0_i32_540 : BitVec 32 := 0#32
  let c1_i32_542 : BitVec 32 := 1#32
  let arg13 : BitVec 32 := Scf.iv c0_i32_540 c1_i32_542 k0_t4
  let v2440 : BitVec 32 := Scalar.addi v1240 arg13
  let c0_i32_1067 : BitVec 32 := 0#32
  let c1_i32_1068 : BitVec 32 := 1#32
  let arg14 : BitVec 32 := Scf.iv c0_i32_1067 c1_i32_1068 k0_t5
  let c8_i32_1070 : BitVec 32 := 8#32
  let v2441 : BitVec 32 := Scalar.muli arg14 c8_i32_1070
  ![v2440.toNat, v2441.toNat]
def k0_off58 (v21 : BitVec 32) (v22 : BitVec 32) (v24 : BitVec 32) (v26 : BitVec 32) (v28 : BitVec 32) (v30 : BitVec 32) (v32 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v33 : BitVec 32 := Scalar.addi v31 v32
  let v2528 : Index := Scalar.indexCast v33
  ![v2528.toNat]
def k0_mult17 (v2529 : BitVec 32) : BitVec 32 :=
  v2529

def k0_off59 (v2529 : BitVec 32) : Fin 2 → Nat :=
  let v2530 : BitVec 32 := v2529
  let v2531 : Index := Scalar.indexCast v2530
  let c0_1101 : Index := 0#32
  ![v2531.toNat, 0]

def k0_chk23 (v2529 : BitVec 32) : Prop :=
  (4 ∣ (k0_mult17 v2529).toNat) ∧
  (∀ a, (k0_off59 v2529) a + S4x128.size a ≤ S65536x128.size a)
theorem k0_mult17_dvd : ∀ (v2529 : BitVec 32) (k0_hw23 : k0_chk23 v2529), 4 ∣ (k0_mult17 v2529).toNat := fun v2529 k0_hw23 => k0_hw23.1
theorem k0_off59_inb : ∀ (v2529 : BitVec 32) (k0_hw23 : k0_chk23 v2529), ∀ a, (k0_off59 v2529) a + S4x128.size a ≤ S65536x128.size a := fun v2529 k0_hw23 => k0_hw23.2

def k0_off60 (k0_t4 : Fin k0_t4_loop.trips) (k0_t5 : Fin k0_t5_loop.trips) : Fin 4 → Nat :=
  let c1_1104 : Index := 1#32
  let c0_i32_540 : BitVec 32 := 0#32
  let c1_i32_542 : BitVec 32 := 1#32
  let arg13 : BitVec 32 := Scf.iv c0_i32_540 c1_i32_542 k0_t4
  let v2535 : Index := Scalar.indexCast arg13
  let c0_i32_1067 : BitVec 32 := 0#32
  let c1_i32_1068 : BitVec 32 := 1#32
  let arg14 : BitVec 32 := Scf.iv c0_i32_1067 c1_i32_1068 k0_t5
  let c8_i32_1102 : BitVec 32 := 8#32
  let v2533 : BitVec 32 := Scalar.muli arg14 c8_i32_1102
  let c6_i32_1103 : BitVec 32 := 6#32
  let v2534 : BitVec 32 := Scalar.addi v2533 c6_i32_1103
  let v2536 : Index := Scalar.indexCast v2534
  let c0_1105 : Index := 0#32
  ![1, v2535.toNat, v2536.toNat, 0]
def k0_off61 (k0_t3 : Fin k0_t3_loop.trips) (k0_t4 : Fin k0_t4_loop.trips) (k0_t5 : Fin k0_t5_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_538 : BitVec 32 := 1#32
  let v1238 : BitVec 32 := Scalar.addi v1237 c1_i32_538
  let c8_i32_539 : BitVec 32 := 8#32
  let v1239 : BitVec 32 := Scalar.muli v1238 c8_i32_539
  let v1240 : BitVec 32 := v1239
  let c0_i32_540 : BitVec 32 := 0#32
  let c1_i32_542 : BitVec 32 := 1#32
  let arg13 : BitVec 32 := Scf.iv c0_i32_540 c1_i32_542 k0_t4
  let v2440 : BitVec 32 := Scalar.addi v1240 arg13
  let c0_i32_1067 : BitVec 32 := 0#32
  let c1_i32_1068 : BitVec 32 := 1#32
  let arg14 : BitVec 32 := Scf.iv c0_i32_1067 c1_i32_1068 k0_t5
  let c8_i32_1070 : BitVec 32 := 8#32
  let v2441 : BitVec 32 := Scalar.muli arg14 c8_i32_1070
  ![v2440.toNat, v2441.toNat]
def k0_off62 (v21 : BitVec 32) (v22 : BitVec 32) (v24 : BitVec 32) (v26 : BitVec 32) (v28 : BitVec 32) (v30 : BitVec 32) (v32 : BitVec 32) (v34 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v33 : BitVec 32 := Scalar.addi v31 v32
  let v35 : BitVec 32 := Scalar.addi v33 v34
  let v2542 : Index := Scalar.indexCast v35
  ![v2542.toNat]
def k0_mult18 (v2543 : BitVec 32) : BitVec 32 :=
  v2543

def k0_off63 (v2543 : BitVec 32) : Fin 2 → Nat :=
  let v2544 : BitVec 32 := v2543
  let v2545 : Index := Scalar.indexCast v2544
  let c0_1106 : Index := 0#32
  ![v2545.toNat, 0]

def k0_chk24 (v2543 : BitVec 32) : Prop :=
  (4 ∣ (k0_mult18 v2543).toNat) ∧
  (∀ a, (k0_off63 v2543) a + S4x128.size a ≤ S65536x128.size a)
theorem k0_mult18_dvd : ∀ (v2543 : BitVec 32) (k0_hw24 : k0_chk24 v2543), 4 ∣ (k0_mult18 v2543).toNat := fun v2543 k0_hw24 => k0_hw24.1
theorem k0_off63_inb : ∀ (v2543 : BitVec 32) (k0_hw24 : k0_chk24 v2543), ∀ a, (k0_off63 v2543) a + S4x128.size a ≤ S65536x128.size a := fun v2543 k0_hw24 => k0_hw24.2

def k0_off64 (k0_t4 : Fin k0_t4_loop.trips) (k0_t5 : Fin k0_t5_loop.trips) : Fin 4 → Nat :=
  let c1_1109 : Index := 1#32
  let c0_i32_540 : BitVec 32 := 0#32
  let c1_i32_542 : BitVec 32 := 1#32
  let arg13 : BitVec 32 := Scf.iv c0_i32_540 c1_i32_542 k0_t4
  let v2549 : Index := Scalar.indexCast arg13
  let c0_i32_1067 : BitVec 32 := 0#32
  let c1_i32_1068 : BitVec 32 := 1#32
  let arg14 : BitVec 32 := Scf.iv c0_i32_1067 c1_i32_1068 k0_t5
  let c8_i32_1107 : BitVec 32 := 8#32
  let v2547 : BitVec 32 := Scalar.muli arg14 c8_i32_1107
  let c7_i32_1108 : BitVec 32 := 7#32
  let v2548 : BitVec 32 := Scalar.addi v2547 c7_i32_1108
  let v2550 : Index := Scalar.indexCast v2548
  let c0_1110 : Index := 0#32
  ![1, v2549.toNat, v2550.toNat, 0]
def k0_mult19 (k0_t3 : Fin k0_t3_loop.trips) : BitVec 32 :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c8_i32_544 : BitVec 32 := 8#32
  let v1242 : BitVec 32 := Scalar.muli v1237 c8_i32_544
  v1242
def k0_off65 (k0_t3 : Fin k0_t3_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c8_i32_544 : BitVec 32 := 8#32
  let v1242 : BitVec 32 := Scalar.muli v1237 c8_i32_544
  let v1243 : BitVec 32 := v1242
  let v1244 : Index := Scalar.indexCast v1243
  let c0_545 : Index := 0#32
  ![v1244.toNat, 0]
def k0_mult20 (k0_t3 : Fin k0_t3_loop.trips) : BitVec 32 :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c2_i32_802 : BitVec 32 := 2#32
  let v1838 : BitVec 32 := Scalar.addi v1237 c2_i32_802
  let c8_i32_803 : BitVec 32 := 8#32
  let v1839 : BitVec 32 := Scalar.muli v1838 c8_i32_803
  v1839
@[reducible] def k0_t6_loop : Scf.Loop 32 :=
  let c0_i32_804 : BitVec 32 := 0#32
  let c8_i32_805 : BitVec 32 := 8#32
  let v1841 : BitVec 32 := Scalar.addi c0_i32_804 c8_i32_805
  let c1_i32_806 : BitVec 32 := 1#32
  ⟨c0_i32_804, v1841, c1_i32_806⟩
@[reducible] def k0_t7_loop : Scf.Loop 32 :=
  let c0_i32_1067 : BitVec 32 := 0#32
  let c16_i32 : BitVec 32 := 16#32
  let v2439 : BitVec 32 := Scalar.addi c0_i32_1067 c16_i32
  let c1_i32_1068 : BitVec 32 := 1#32
  ⟨c0_i32_1067, v2439, c1_i32_1068⟩
def k0_off66 (k0_t3 : Fin k0_t3_loop.trips) (k0_t6 : Fin k0_t6_loop.trips) (k0_t7 : Fin k0_t7_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c2_i32_802 : BitVec 32 := 2#32
  let v1838 : BitVec 32 := Scalar.addi v1237 c2_i32_802
  let c8_i32_803 : BitVec 32 := 8#32
  let v1839 : BitVec 32 := Scalar.muli v1838 c8_i32_803
  let v1840 : BitVec 32 := v1839
  let c0_i32_804 : BitVec 32 := 0#32
  let c1_i32_806 : BitVec 32 := 1#32
  let arg13 : BitVec 32 := Scf.iv c0_i32_804 c1_i32_806 k0_t6
  let v2440 : BitVec 32 := Scalar.addi v1840 arg13
  let c0_i32_1067 : BitVec 32 := 0#32
  let c1_i32_1068 : BitVec 32 := 1#32
  let arg14 : BitVec 32 := Scf.iv c0_i32_1067 c1_i32_1068 k0_t7
  let c8_i32_1070 : BitVec 32 := 8#32
  let v2441 : BitVec 32 := Scalar.muli arg14 c8_i32_1070
  ![v2440.toNat, v2441.toNat]
def k0_off67 (v21 : BitVec 32) : Fin 1 → Nat :=
  let v2444 : Index := Scalar.indexCast v21
  ![v2444.toNat]
def k0_mult21 (v2445 : BitVec 32) : BitVec 32 :=
  v2445

def k0_off68 (v2445 : BitVec 32) : Fin 2 → Nat :=
  let v2446 : BitVec 32 := v2445
  let v2447 : Index := Scalar.indexCast v2446
  let c0_1071 : Index := 0#32
  ![v2447.toNat, 0]

def k0_chk25 (v2445 : BitVec 32) : Prop :=
  (4 ∣ (k0_mult21 v2445).toNat) ∧
  (∀ a, (k0_off68 v2445) a + S4x128.size a ≤ S65536x128.size a)
theorem k0_mult21_dvd : ∀ (v2445 : BitVec 32) (k0_hw25 : k0_chk25 v2445), 4 ∣ (k0_mult21 v2445).toNat := fun v2445 k0_hw25 => k0_hw25.1
theorem k0_off68_inb : ∀ (v2445 : BitVec 32) (k0_hw25 : k0_chk25 v2445), ∀ a, (k0_off68 v2445) a + S4x128.size a ≤ S65536x128.size a := fun v2445 k0_hw25 => k0_hw25.2

def k0_off69 (k0_t6 : Fin k0_t6_loop.trips) (k0_t7 : Fin k0_t7_loop.trips) : Fin 4 → Nat :=
  let c0_1074 : Index := 0#32
  let c0_i32_804 : BitVec 32 := 0#32
  let c1_i32_806 : BitVec 32 := 1#32
  let arg13 : BitVec 32 := Scf.iv c0_i32_804 c1_i32_806 k0_t6
  let v2451 : Index := Scalar.indexCast arg13
  let c0_i32_1067 : BitVec 32 := 0#32
  let c1_i32_1068 : BitVec 32 := 1#32
  let arg14 : BitVec 32 := Scf.iv c0_i32_1067 c1_i32_1068 k0_t7
  let c8_i32_1072 : BitVec 32 := 8#32
  let v2449 : BitVec 32 := Scalar.muli arg14 c8_i32_1072
  let c0_i32_1073 : BitVec 32 := 0#32
  let v2450 : BitVec 32 := Scalar.addi v2449 c0_i32_1073
  let v2452 : Index := Scalar.indexCast v2450
  let c0_1075 : Index := 0#32
  ![0, v2451.toNat, v2452.toNat, 0]
def k0_off70 (k0_t3 : Fin k0_t3_loop.trips) (k0_t6 : Fin k0_t6_loop.trips) (k0_t7 : Fin k0_t7_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c2_i32_802 : BitVec 32 := 2#32
  let v1838 : BitVec 32 := Scalar.addi v1237 c2_i32_802
  let c8_i32_803 : BitVec 32 := 8#32
  let v1839 : BitVec 32 := Scalar.muli v1838 c8_i32_803
  let v1840 : BitVec 32 := v1839
  let c0_i32_804 : BitVec 32 := 0#32
  let c1_i32_806 : BitVec 32 := 1#32
  let arg13 : BitVec 32 := Scf.iv c0_i32_804 c1_i32_806 k0_t6
  let v2440 : BitVec 32 := Scalar.addi v1840 arg13
  let c0_i32_1067 : BitVec 32 := 0#32
  let c1_i32_1068 : BitVec 32 := 1#32
  let arg14 : BitVec 32 := Scf.iv c0_i32_1067 c1_i32_1068 k0_t7
  let c8_i32_1070 : BitVec 32 := 8#32
  let v2441 : BitVec 32 := Scalar.muli arg14 c8_i32_1070
  ![v2440.toNat, v2441.toNat]
def k0_off71 (v21 : BitVec 32) (v22 : BitVec 32) : Fin 1 → Nat :=
  let v23 : BitVec 32 := Scalar.addi v21 v22
  let v2458 : Index := Scalar.indexCast v23
  ![v2458.toNat]
def k0_mult22 (v2459 : BitVec 32) : BitVec 32 :=
  v2459

def k0_off72 (v2459 : BitVec 32) : Fin 2 → Nat :=
  let v2460 : BitVec 32 := v2459
  let v2461 : Index := Scalar.indexCast v2460
  let c0_1076 : Index := 0#32
  ![v2461.toNat, 0]

def k0_chk26 (v2459 : BitVec 32) : Prop :=
  (4 ∣ (k0_mult22 v2459).toNat) ∧
  (∀ a, (k0_off72 v2459) a + S4x128.size a ≤ S65536x128.size a)
theorem k0_mult22_dvd : ∀ (v2459 : BitVec 32) (k0_hw26 : k0_chk26 v2459), 4 ∣ (k0_mult22 v2459).toNat := fun v2459 k0_hw26 => k0_hw26.1
theorem k0_off72_inb : ∀ (v2459 : BitVec 32) (k0_hw26 : k0_chk26 v2459), ∀ a, (k0_off72 v2459) a + S4x128.size a ≤ S65536x128.size a := fun v2459 k0_hw26 => k0_hw26.2

def k0_off73 (k0_t6 : Fin k0_t6_loop.trips) (k0_t7 : Fin k0_t7_loop.trips) : Fin 4 → Nat :=
  let c0_1079 : Index := 0#32
  let c0_i32_804 : BitVec 32 := 0#32
  let c1_i32_806 : BitVec 32 := 1#32
  let arg13 : BitVec 32 := Scf.iv c0_i32_804 c1_i32_806 k0_t6
  let v2465 : Index := Scalar.indexCast arg13
  let c0_i32_1067 : BitVec 32 := 0#32
  let c1_i32_1068 : BitVec 32 := 1#32
  let arg14 : BitVec 32 := Scf.iv c0_i32_1067 c1_i32_1068 k0_t7
  let c8_i32_1077 : BitVec 32 := 8#32
  let v2463 : BitVec 32 := Scalar.muli arg14 c8_i32_1077
  let c1_i32_1078 : BitVec 32 := 1#32
  let v2464 : BitVec 32 := Scalar.addi v2463 c1_i32_1078
  let v2466 : Index := Scalar.indexCast v2464
  let c0_1080 : Index := 0#32
  ![0, v2465.toNat, v2466.toNat, 0]
def k0_off74 (k0_t3 : Fin k0_t3_loop.trips) (k0_t6 : Fin k0_t6_loop.trips) (k0_t7 : Fin k0_t7_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c2_i32_802 : BitVec 32 := 2#32
  let v1838 : BitVec 32 := Scalar.addi v1237 c2_i32_802
  let c8_i32_803 : BitVec 32 := 8#32
  let v1839 : BitVec 32 := Scalar.muli v1838 c8_i32_803
  let v1840 : BitVec 32 := v1839
  let c0_i32_804 : BitVec 32 := 0#32
  let c1_i32_806 : BitVec 32 := 1#32
  let arg13 : BitVec 32 := Scf.iv c0_i32_804 c1_i32_806 k0_t6
  let v2440 : BitVec 32 := Scalar.addi v1840 arg13
  let c0_i32_1067 : BitVec 32 := 0#32
  let c1_i32_1068 : BitVec 32 := 1#32
  let arg14 : BitVec 32 := Scf.iv c0_i32_1067 c1_i32_1068 k0_t7
  let c8_i32_1070 : BitVec 32 := 8#32
  let v2441 : BitVec 32 := Scalar.muli arg14 c8_i32_1070
  ![v2440.toNat, v2441.toNat]
def k0_off75 (v21 : BitVec 32) (v22 : BitVec 32) (v24 : BitVec 32) : Fin 1 → Nat :=
  let v23 : BitVec 32 := Scalar.addi v21 v22
  let v25 : BitVec 32 := Scalar.addi v23 v24
  let v2472 : Index := Scalar.indexCast v25
  ![v2472.toNat]
def k0_mult23 (v2473 : BitVec 32) : BitVec 32 :=
  v2473

def k0_off76 (v2473 : BitVec 32) : Fin 2 → Nat :=
  let v2474 : BitVec 32 := v2473
  let v2475 : Index := Scalar.indexCast v2474
  let c0_1081 : Index := 0#32
  ![v2475.toNat, 0]

def k0_chk27 (v2473 : BitVec 32) : Prop :=
  (4 ∣ (k0_mult23 v2473).toNat) ∧
  (∀ a, (k0_off76 v2473) a + S4x128.size a ≤ S65536x128.size a)
theorem k0_mult23_dvd : ∀ (v2473 : BitVec 32) (k0_hw27 : k0_chk27 v2473), 4 ∣ (k0_mult23 v2473).toNat := fun v2473 k0_hw27 => k0_hw27.1
theorem k0_off76_inb : ∀ (v2473 : BitVec 32) (k0_hw27 : k0_chk27 v2473), ∀ a, (k0_off76 v2473) a + S4x128.size a ≤ S65536x128.size a := fun v2473 k0_hw27 => k0_hw27.2

def k0_off77 (k0_t6 : Fin k0_t6_loop.trips) (k0_t7 : Fin k0_t7_loop.trips) : Fin 4 → Nat :=
  let c0_1084 : Index := 0#32
  let c0_i32_804 : BitVec 32 := 0#32
  let c1_i32_806 : BitVec 32 := 1#32
  let arg13 : BitVec 32 := Scf.iv c0_i32_804 c1_i32_806 k0_t6
  let v2479 : Index := Scalar.indexCast arg13
  let c0_i32_1067 : BitVec 32 := 0#32
  let c1_i32_1068 : BitVec 32 := 1#32
  let arg14 : BitVec 32 := Scf.iv c0_i32_1067 c1_i32_1068 k0_t7
  let c8_i32_1082 : BitVec 32 := 8#32
  let v2477 : BitVec 32 := Scalar.muli arg14 c8_i32_1082
  let c2_i32_1083 : BitVec 32 := 2#32
  let v2478 : BitVec 32 := Scalar.addi v2477 c2_i32_1083
  let v2480 : Index := Scalar.indexCast v2478
  let c0_1085 : Index := 0#32
  ![0, v2479.toNat, v2480.toNat, 0]
def k0_off78 (k0_t3 : Fin k0_t3_loop.trips) (k0_t6 : Fin k0_t6_loop.trips) (k0_t7 : Fin k0_t7_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c2_i32_802 : BitVec 32 := 2#32
  let v1838 : BitVec 32 := Scalar.addi v1237 c2_i32_802
  let c8_i32_803 : BitVec 32 := 8#32
  let v1839 : BitVec 32 := Scalar.muli v1838 c8_i32_803
  let v1840 : BitVec 32 := v1839
  let c0_i32_804 : BitVec 32 := 0#32
  let c1_i32_806 : BitVec 32 := 1#32
  let arg13 : BitVec 32 := Scf.iv c0_i32_804 c1_i32_806 k0_t6
  let v2440 : BitVec 32 := Scalar.addi v1840 arg13
  let c0_i32_1067 : BitVec 32 := 0#32
  let c1_i32_1068 : BitVec 32 := 1#32
  let arg14 : BitVec 32 := Scf.iv c0_i32_1067 c1_i32_1068 k0_t7
  let c8_i32_1070 : BitVec 32 := 8#32
  let v2441 : BitVec 32 := Scalar.muli arg14 c8_i32_1070
  ![v2440.toNat, v2441.toNat]
def k0_off79 (v21 : BitVec 32) (v22 : BitVec 32) (v24 : BitVec 32) (v26 : BitVec 32) : Fin 1 → Nat :=
  let v23 : BitVec 32 := Scalar.addi v21 v22
  let v25 : BitVec 32 := Scalar.addi v23 v24
  let v27 : BitVec 32 := Scalar.addi v25 v26
  let v2486 : Index := Scalar.indexCast v27
  ![v2486.toNat]
def k0_mult24 (v2487 : BitVec 32) : BitVec 32 :=
  v2487

def k0_off80 (v2487 : BitVec 32) : Fin 2 → Nat :=
  let v2488 : BitVec 32 := v2487
  let v2489 : Index := Scalar.indexCast v2488
  let c0_1086 : Index := 0#32
  ![v2489.toNat, 0]

def k0_chk28 (v2487 : BitVec 32) : Prop :=
  (4 ∣ (k0_mult24 v2487).toNat) ∧
  (∀ a, (k0_off80 v2487) a + S4x128.size a ≤ S65536x128.size a)
theorem k0_mult24_dvd : ∀ (v2487 : BitVec 32) (k0_hw28 : k0_chk28 v2487), 4 ∣ (k0_mult24 v2487).toNat := fun v2487 k0_hw28 => k0_hw28.1
theorem k0_off80_inb : ∀ (v2487 : BitVec 32) (k0_hw28 : k0_chk28 v2487), ∀ a, (k0_off80 v2487) a + S4x128.size a ≤ S65536x128.size a := fun v2487 k0_hw28 => k0_hw28.2

def k0_off81 (k0_t6 : Fin k0_t6_loop.trips) (k0_t7 : Fin k0_t7_loop.trips) : Fin 4 → Nat :=
  let c0_1089 : Index := 0#32
  let c0_i32_804 : BitVec 32 := 0#32
  let c1_i32_806 : BitVec 32 := 1#32
  let arg13 : BitVec 32 := Scf.iv c0_i32_804 c1_i32_806 k0_t6
  let v2493 : Index := Scalar.indexCast arg13
  let c0_i32_1067 : BitVec 32 := 0#32
  let c1_i32_1068 : BitVec 32 := 1#32
  let arg14 : BitVec 32 := Scf.iv c0_i32_1067 c1_i32_1068 k0_t7
  let c8_i32_1087 : BitVec 32 := 8#32
  let v2491 : BitVec 32 := Scalar.muli arg14 c8_i32_1087
  let c3_i32_1088 : BitVec 32 := 3#32
  let v2492 : BitVec 32 := Scalar.addi v2491 c3_i32_1088
  let v2494 : Index := Scalar.indexCast v2492
  let c0_1090 : Index := 0#32
  ![0, v2493.toNat, v2494.toNat, 0]
def k0_off82 (k0_t3 : Fin k0_t3_loop.trips) (k0_t6 : Fin k0_t6_loop.trips) (k0_t7 : Fin k0_t7_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c2_i32_802 : BitVec 32 := 2#32
  let v1838 : BitVec 32 := Scalar.addi v1237 c2_i32_802
  let c8_i32_803 : BitVec 32 := 8#32
  let v1839 : BitVec 32 := Scalar.muli v1838 c8_i32_803
  let v1840 : BitVec 32 := v1839
  let c0_i32_804 : BitVec 32 := 0#32
  let c1_i32_806 : BitVec 32 := 1#32
  let arg13 : BitVec 32 := Scf.iv c0_i32_804 c1_i32_806 k0_t6
  let v2440 : BitVec 32 := Scalar.addi v1840 arg13
  let c0_i32_1067 : BitVec 32 := 0#32
  let c1_i32_1068 : BitVec 32 := 1#32
  let arg14 : BitVec 32 := Scf.iv c0_i32_1067 c1_i32_1068 k0_t7
  let c8_i32_1070 : BitVec 32 := 8#32
  let v2441 : BitVec 32 := Scalar.muli arg14 c8_i32_1070
  ![v2440.toNat, v2441.toNat]
def k0_off83 (v21 : BitVec 32) (v22 : BitVec 32) (v24 : BitVec 32) (v26 : BitVec 32) (v28 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v2500 : Index := Scalar.indexCast v29
  ![v2500.toNat]
def k0_mult25 (v2501 : BitVec 32) : BitVec 32 :=
  v2501

def k0_off84 (v2501 : BitVec 32) : Fin 2 → Nat :=
  let v2502 : BitVec 32 := v2501
  let v2503 : Index := Scalar.indexCast v2502
  let c0_1091 : Index := 0#32
  ![v2503.toNat, 0]

def k0_chk29 (v2501 : BitVec 32) : Prop :=
  (4 ∣ (k0_mult25 v2501).toNat) ∧
  (∀ a, (k0_off84 v2501) a + S4x128.size a ≤ S65536x128.size a)
theorem k0_mult25_dvd : ∀ (v2501 : BitVec 32) (k0_hw29 : k0_chk29 v2501), 4 ∣ (k0_mult25 v2501).toNat := fun v2501 k0_hw29 => k0_hw29.1
theorem k0_off84_inb : ∀ (v2501 : BitVec 32) (k0_hw29 : k0_chk29 v2501), ∀ a, (k0_off84 v2501) a + S4x128.size a ≤ S65536x128.size a := fun v2501 k0_hw29 => k0_hw29.2

def k0_off85 (k0_t6 : Fin k0_t6_loop.trips) (k0_t7 : Fin k0_t7_loop.trips) : Fin 4 → Nat :=
  let c0_1094 : Index := 0#32
  let c0_i32_804 : BitVec 32 := 0#32
  let c1_i32_806 : BitVec 32 := 1#32
  let arg13 : BitVec 32 := Scf.iv c0_i32_804 c1_i32_806 k0_t6
  let v2507 : Index := Scalar.indexCast arg13
  let c0_i32_1067 : BitVec 32 := 0#32
  let c1_i32_1068 : BitVec 32 := 1#32
  let arg14 : BitVec 32 := Scf.iv c0_i32_1067 c1_i32_1068 k0_t7
  let c8_i32_1092 : BitVec 32 := 8#32
  let v2505 : BitVec 32 := Scalar.muli arg14 c8_i32_1092
  let c4_i32_1093 : BitVec 32 := 4#32
  let v2506 : BitVec 32 := Scalar.addi v2505 c4_i32_1093
  let v2508 : Index := Scalar.indexCast v2506
  let c0_1095 : Index := 0#32
  ![0, v2507.toNat, v2508.toNat, 0]
def k0_off86 (k0_t3 : Fin k0_t3_loop.trips) (k0_t6 : Fin k0_t6_loop.trips) (k0_t7 : Fin k0_t7_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c2_i32_802 : BitVec 32 := 2#32
  let v1838 : BitVec 32 := Scalar.addi v1237 c2_i32_802
  let c8_i32_803 : BitVec 32 := 8#32
  let v1839 : BitVec 32 := Scalar.muli v1838 c8_i32_803
  let v1840 : BitVec 32 := v1839
  let c0_i32_804 : BitVec 32 := 0#32
  let c1_i32_806 : BitVec 32 := 1#32
  let arg13 : BitVec 32 := Scf.iv c0_i32_804 c1_i32_806 k0_t6
  let v2440 : BitVec 32 := Scalar.addi v1840 arg13
  let c0_i32_1067 : BitVec 32 := 0#32
  let c1_i32_1068 : BitVec 32 := 1#32
  let arg14 : BitVec 32 := Scf.iv c0_i32_1067 c1_i32_1068 k0_t7
  let c8_i32_1070 : BitVec 32 := 8#32
  let v2441 : BitVec 32 := Scalar.muli arg14 c8_i32_1070
  ![v2440.toNat, v2441.toNat]
def k0_off87 (v21 : BitVec 32) (v22 : BitVec 32) (v24 : BitVec 32) (v26 : BitVec 32) (v28 : BitVec 32) (v30 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v2514 : Index := Scalar.indexCast v31
  ![v2514.toNat]
def k0_mult26 (v2515 : BitVec 32) : BitVec 32 :=
  v2515

def k0_off88 (v2515 : BitVec 32) : Fin 2 → Nat :=
  let v2516 : BitVec 32 := v2515
  let v2517 : Index := Scalar.indexCast v2516
  let c0_1096 : Index := 0#32
  ![v2517.toNat, 0]

def k0_chk30 (v2515 : BitVec 32) : Prop :=
  (4 ∣ (k0_mult26 v2515).toNat) ∧
  (∀ a, (k0_off88 v2515) a + S4x128.size a ≤ S65536x128.size a)
theorem k0_mult26_dvd : ∀ (v2515 : BitVec 32) (k0_hw30 : k0_chk30 v2515), 4 ∣ (k0_mult26 v2515).toNat := fun v2515 k0_hw30 => k0_hw30.1
theorem k0_off88_inb : ∀ (v2515 : BitVec 32) (k0_hw30 : k0_chk30 v2515), ∀ a, (k0_off88 v2515) a + S4x128.size a ≤ S65536x128.size a := fun v2515 k0_hw30 => k0_hw30.2

def k0_off89 (k0_t6 : Fin k0_t6_loop.trips) (k0_t7 : Fin k0_t7_loop.trips) : Fin 4 → Nat :=
  let c0_1099 : Index := 0#32
  let c0_i32_804 : BitVec 32 := 0#32
  let c1_i32_806 : BitVec 32 := 1#32
  let arg13 : BitVec 32 := Scf.iv c0_i32_804 c1_i32_806 k0_t6
  let v2521 : Index := Scalar.indexCast arg13
  let c0_i32_1067 : BitVec 32 := 0#32
  let c1_i32_1068 : BitVec 32 := 1#32
  let arg14 : BitVec 32 := Scf.iv c0_i32_1067 c1_i32_1068 k0_t7
  let c8_i32_1097 : BitVec 32 := 8#32
  let v2519 : BitVec 32 := Scalar.muli arg14 c8_i32_1097
  let c5_i32_1098 : BitVec 32 := 5#32
  let v2520 : BitVec 32 := Scalar.addi v2519 c5_i32_1098
  let v2522 : Index := Scalar.indexCast v2520
  let c0_1100 : Index := 0#32
  ![0, v2521.toNat, v2522.toNat, 0]
def k0_off90 (k0_t3 : Fin k0_t3_loop.trips) (k0_t6 : Fin k0_t6_loop.trips) (k0_t7 : Fin k0_t7_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c2_i32_802 : BitVec 32 := 2#32
  let v1838 : BitVec 32 := Scalar.addi v1237 c2_i32_802
  let c8_i32_803 : BitVec 32 := 8#32
  let v1839 : BitVec 32 := Scalar.muli v1838 c8_i32_803
  let v1840 : BitVec 32 := v1839
  let c0_i32_804 : BitVec 32 := 0#32
  let c1_i32_806 : BitVec 32 := 1#32
  let arg13 : BitVec 32 := Scf.iv c0_i32_804 c1_i32_806 k0_t6
  let v2440 : BitVec 32 := Scalar.addi v1840 arg13
  let c0_i32_1067 : BitVec 32 := 0#32
  let c1_i32_1068 : BitVec 32 := 1#32
  let arg14 : BitVec 32 := Scf.iv c0_i32_1067 c1_i32_1068 k0_t7
  let c8_i32_1070 : BitVec 32 := 8#32
  let v2441 : BitVec 32 := Scalar.muli arg14 c8_i32_1070
  ![v2440.toNat, v2441.toNat]
def k0_off91 (v21 : BitVec 32) (v22 : BitVec 32) (v24 : BitVec 32) (v26 : BitVec 32) (v28 : BitVec 32) (v30 : BitVec 32) (v32 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v33 : BitVec 32 := Scalar.addi v31 v32
  let v2528 : Index := Scalar.indexCast v33
  ![v2528.toNat]
def k0_mult27 (v2529 : BitVec 32) : BitVec 32 :=
  v2529

def k0_off92 (v2529 : BitVec 32) : Fin 2 → Nat :=
  let v2530 : BitVec 32 := v2529
  let v2531 : Index := Scalar.indexCast v2530
  let c0_1101 : Index := 0#32
  ![v2531.toNat, 0]

def k0_chk31 (v2529 : BitVec 32) : Prop :=
  (4 ∣ (k0_mult27 v2529).toNat) ∧
  (∀ a, (k0_off92 v2529) a + S4x128.size a ≤ S65536x128.size a)
theorem k0_mult27_dvd : ∀ (v2529 : BitVec 32) (k0_hw31 : k0_chk31 v2529), 4 ∣ (k0_mult27 v2529).toNat := fun v2529 k0_hw31 => k0_hw31.1
theorem k0_off92_inb : ∀ (v2529 : BitVec 32) (k0_hw31 : k0_chk31 v2529), ∀ a, (k0_off92 v2529) a + S4x128.size a ≤ S65536x128.size a := fun v2529 k0_hw31 => k0_hw31.2

def k0_off93 (k0_t6 : Fin k0_t6_loop.trips) (k0_t7 : Fin k0_t7_loop.trips) : Fin 4 → Nat :=
  let c0_1104 : Index := 0#32
  let c0_i32_804 : BitVec 32 := 0#32
  let c1_i32_806 : BitVec 32 := 1#32
  let arg13 : BitVec 32 := Scf.iv c0_i32_804 c1_i32_806 k0_t6
  let v2535 : Index := Scalar.indexCast arg13
  let c0_i32_1067 : BitVec 32 := 0#32
  let c1_i32_1068 : BitVec 32 := 1#32
  let arg14 : BitVec 32 := Scf.iv c0_i32_1067 c1_i32_1068 k0_t7
  let c8_i32_1102 : BitVec 32 := 8#32
  let v2533 : BitVec 32 := Scalar.muli arg14 c8_i32_1102
  let c6_i32_1103 : BitVec 32 := 6#32
  let v2534 : BitVec 32 := Scalar.addi v2533 c6_i32_1103
  let v2536 : Index := Scalar.indexCast v2534
  let c0_1105 : Index := 0#32
  ![0, v2535.toNat, v2536.toNat, 0]
def k0_off94 (k0_t3 : Fin k0_t3_loop.trips) (k0_t6 : Fin k0_t6_loop.trips) (k0_t7 : Fin k0_t7_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c2_i32_802 : BitVec 32 := 2#32
  let v1838 : BitVec 32 := Scalar.addi v1237 c2_i32_802
  let c8_i32_803 : BitVec 32 := 8#32
  let v1839 : BitVec 32 := Scalar.muli v1838 c8_i32_803
  let v1840 : BitVec 32 := v1839
  let c0_i32_804 : BitVec 32 := 0#32
  let c1_i32_806 : BitVec 32 := 1#32
  let arg13 : BitVec 32 := Scf.iv c0_i32_804 c1_i32_806 k0_t6
  let v2440 : BitVec 32 := Scalar.addi v1840 arg13
  let c0_i32_1067 : BitVec 32 := 0#32
  let c1_i32_1068 : BitVec 32 := 1#32
  let arg14 : BitVec 32 := Scf.iv c0_i32_1067 c1_i32_1068 k0_t7
  let c8_i32_1070 : BitVec 32 := 8#32
  let v2441 : BitVec 32 := Scalar.muli arg14 c8_i32_1070
  ![v2440.toNat, v2441.toNat]
def k0_off95 (v21 : BitVec 32) (v22 : BitVec 32) (v24 : BitVec 32) (v26 : BitVec 32) (v28 : BitVec 32) (v30 : BitVec 32) (v32 : BitVec 32) (v34 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v33 : BitVec 32 := Scalar.addi v31 v32
  let v35 : BitVec 32 := Scalar.addi v33 v34
  let v2542 : Index := Scalar.indexCast v35
  ![v2542.toNat]
def k0_mult28 (v2543 : BitVec 32) : BitVec 32 :=
  v2543

def k0_off96 (v2543 : BitVec 32) : Fin 2 → Nat :=
  let v2544 : BitVec 32 := v2543
  let v2545 : Index := Scalar.indexCast v2544
  let c0_1106 : Index := 0#32
  ![v2545.toNat, 0]

def k0_chk32 (v2543 : BitVec 32) : Prop :=
  (4 ∣ (k0_mult28 v2543).toNat) ∧
  (∀ a, (k0_off96 v2543) a + S4x128.size a ≤ S65536x128.size a)
theorem k0_mult28_dvd : ∀ (v2543 : BitVec 32) (k0_hw32 : k0_chk32 v2543), 4 ∣ (k0_mult28 v2543).toNat := fun v2543 k0_hw32 => k0_hw32.1
theorem k0_off96_inb : ∀ (v2543 : BitVec 32) (k0_hw32 : k0_chk32 v2543), ∀ a, (k0_off96 v2543) a + S4x128.size a ≤ S65536x128.size a := fun v2543 k0_hw32 => k0_hw32.2

def k0_off97 (k0_t6 : Fin k0_t6_loop.trips) (k0_t7 : Fin k0_t7_loop.trips) : Fin 4 → Nat :=
  let c0_1109 : Index := 0#32
  let c0_i32_804 : BitVec 32 := 0#32
  let c1_i32_806 : BitVec 32 := 1#32
  let arg13 : BitVec 32 := Scf.iv c0_i32_804 c1_i32_806 k0_t6
  let v2549 : Index := Scalar.indexCast arg13
  let c0_i32_1067 : BitVec 32 := 0#32
  let c1_i32_1068 : BitVec 32 := 1#32
  let arg14 : BitVec 32 := Scf.iv c0_i32_1067 c1_i32_1068 k0_t7
  let c8_i32_1107 : BitVec 32 := 8#32
  let v2547 : BitVec 32 := Scalar.muli arg14 c8_i32_1107
  let c7_i32_1108 : BitVec 32 := 7#32
  let v2548 : BitVec 32 := Scalar.addi v2547 c7_i32_1108
  let v2550 : Index := Scalar.indexCast v2548
  let c0_1110 : Index := 0#32
  ![0, v2549.toNat, v2550.toNat, 0]
def k0_mult29 (k0_t3 : Fin k0_t3_loop.trips) : BitVec 32 :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_808 : BitVec 32 := 1#32
  let v1842 : BitVec 32 := Scalar.addi v1237 c1_i32_808
  let c8_i32_809 : BitVec 32 := 8#32
  let v1843 : BitVec 32 := Scalar.muli v1842 c8_i32_809
  v1843
def k0_off98 (k0_t3 : Fin k0_t3_loop.trips) : Fin 2 → Nat :=
  let c2_i32_537 : BitVec 32 := 2#32
  let c0_i32_18 : BitVec 32 := 0#32
  let c1_i32 : BitVec 32 := 1#32
  let arg11 : BitVec 32 := Scf.iv c0_i32_18 c1_i32 k0_t3
  let v1237 : BitVec 32 := Scalar.muli c2_i32_537 arg11
  let c1_i32_808 : BitVec 32 := 1#32
  let v1842 : BitVec 32 := Scalar.addi v1237 c1_i32_808
  let c8_i32_809 : BitVec 32 := 8#32
  let v1843 : BitVec 32 := Scalar.muli v1842 c8_i32_809
  let v1844 : BitVec 32 := v1843
  let v1845 : Index := Scalar.indexCast v1844
  let c0_810 : Index := 0#32
  ![v1845.toNat, 0]
def k0_mult30 : BitVec 32 :=
  let c120_i32 : BitVec 32 := 120#32
  c120_i32
@[reducible] def k0_t8_loop : Scf.Loop 32 :=
  let c0_i32_20 : BitVec 32 := 0#32
  let c8_i32 : BitVec 32 := 8#32
  let v42 : BitVec 32 := Scalar.addi c0_i32_20 c8_i32
  let c1_i32_21 : BitVec 32 := 1#32
  ⟨c0_i32_20, v42, c1_i32_21⟩
@[reducible] def k0_t9_loop : Scf.Loop 32 :=
  let c0_i32_537 : BitVec 32 := 0#32
  let c16_i32 : BitVec 32 := 16#32
  let v1237 : BitVec 32 := Scalar.addi c0_i32_537 c16_i32
  let c1_i32_538 : BitVec 32 := 1#32
  ⟨c0_i32_537, v1237, c1_i32_538⟩
def k0_off99 (k0_t8 : Fin k0_t8_loop.trips) (k0_t9 : Fin k0_t9_loop.trips) : Fin 2 → Nat :=
  let c120_i32 : BitVec 32 := 120#32
  let v41 : BitVec 32 := c120_i32
  let c0_i32_20 : BitVec 32 := 0#32
  let c1_i32_21 : BitVec 32 := 1#32
  let arg11 : BitVec 32 := Scf.iv c0_i32_20 c1_i32_21 k0_t8
  let v1238 : BitVec 32 := Scalar.addi v41 arg11
  let c0_i32_537 : BitVec 32 := 0#32
  let c1_i32_538 : BitVec 32 := 1#32
  let arg12 : BitVec 32 := Scf.iv c0_i32_537 c1_i32_538 k0_t9
  let c8_i32_540 : BitVec 32 := 8#32
  let v1239 : BitVec 32 := Scalar.muli arg12 c8_i32_540
  ![v1238.toNat, v1239.toNat]
def k0_off100 (v21 : BitVec 32) : Fin 1 → Nat :=
  let v1242 : Index := Scalar.indexCast v21
  ![v1242.toNat]
def k0_mult31 (v1243 : BitVec 32) : BitVec 32 :=
  v1243

def k0_off101 (v1243 : BitVec 32) : Fin 2 → Nat :=
  let v1244 : BitVec 32 := v1243
  let v1245 : Index := Scalar.indexCast v1244
  let c0_541 : Index := 0#32
  ![v1245.toNat, 0]

def k0_chk33 (v1243 : BitVec 32) : Prop :=
  (4 ∣ (k0_mult31 v1243).toNat) ∧
  (∀ a, (k0_off101 v1243) a + S4x128.size a ≤ S65536x128.size a)
theorem k0_mult31_dvd : ∀ (v1243 : BitVec 32) (k0_hw33 : k0_chk33 v1243), 4 ∣ (k0_mult31 v1243).toNat := fun v1243 k0_hw33 => k0_hw33.1
theorem k0_off101_inb : ∀ (v1243 : BitVec 32) (k0_hw33 : k0_chk33 v1243), ∀ a, (k0_off101 v1243) a + S4x128.size a ≤ S65536x128.size a := fun v1243 k0_hw33 => k0_hw33.2

def k0_off102 (k0_t8 : Fin k0_t8_loop.trips) (k0_t9 : Fin k0_t9_loop.trips) : Fin 4 → Nat :=
  let c1_544 : Index := 1#32
  let c0_i32_20 : BitVec 32 := 0#32
  let c1_i32_21 : BitVec 32 := 1#32
  let arg11 : BitVec 32 := Scf.iv c0_i32_20 c1_i32_21 k0_t8
  let v1249 : Index := Scalar.indexCast arg11
  let c0_i32_537 : BitVec 32 := 0#32
  let c1_i32_538 : BitVec 32 := 1#32
  let arg12 : BitVec 32 := Scf.iv c0_i32_537 c1_i32_538 k0_t9
  let c8_i32_542 : BitVec 32 := 8#32
  let v1247 : BitVec 32 := Scalar.muli arg12 c8_i32_542
  let c0_i32_543 : BitVec 32 := 0#32
  let v1248 : BitVec 32 := Scalar.addi v1247 c0_i32_543
  let v1250 : Index := Scalar.indexCast v1248
  let c0_545 : Index := 0#32
  ![1, v1249.toNat, v1250.toNat, 0]
def k0_off103 (k0_t8 : Fin k0_t8_loop.trips) (k0_t9 : Fin k0_t9_loop.trips) : Fin 2 → Nat :=
  let c120_i32 : BitVec 32 := 120#32
  let v41 : BitVec 32 := c120_i32
  let c0_i32_20 : BitVec 32 := 0#32
  let c1_i32_21 : BitVec 32 := 1#32
  let arg11 : BitVec 32 := Scf.iv c0_i32_20 c1_i32_21 k0_t8
  let v1238 : BitVec 32 := Scalar.addi v41 arg11
  let c0_i32_537 : BitVec 32 := 0#32
  let c1_i32_538 : BitVec 32 := 1#32
  let arg12 : BitVec 32 := Scf.iv c0_i32_537 c1_i32_538 k0_t9
  let c8_i32_540 : BitVec 32 := 8#32
  let v1239 : BitVec 32 := Scalar.muli arg12 c8_i32_540
  ![v1238.toNat, v1239.toNat]
def k0_off104 (v21 : BitVec 32) (v22 : BitVec 32) : Fin 1 → Nat :=
  let v23 : BitVec 32 := Scalar.addi v21 v22
  let v1256 : Index := Scalar.indexCast v23
  ![v1256.toNat]
def k0_mult32 (v1257 : BitVec 32) : BitVec 32 :=
  v1257

def k0_off105 (v1257 : BitVec 32) : Fin 2 → Nat :=
  let v1258 : BitVec 32 := v1257
  let v1259 : Index := Scalar.indexCast v1258
  let c0_546 : Index := 0#32
  ![v1259.toNat, 0]

def k0_chk34 (v1257 : BitVec 32) : Prop :=
  (4 ∣ (k0_mult32 v1257).toNat) ∧
  (∀ a, (k0_off105 v1257) a + S4x128.size a ≤ S65536x128.size a)
theorem k0_mult32_dvd : ∀ (v1257 : BitVec 32) (k0_hw34 : k0_chk34 v1257), 4 ∣ (k0_mult32 v1257).toNat := fun v1257 k0_hw34 => k0_hw34.1
theorem k0_off105_inb : ∀ (v1257 : BitVec 32) (k0_hw34 : k0_chk34 v1257), ∀ a, (k0_off105 v1257) a + S4x128.size a ≤ S65536x128.size a := fun v1257 k0_hw34 => k0_hw34.2

def k0_off106 (k0_t8 : Fin k0_t8_loop.trips) (k0_t9 : Fin k0_t9_loop.trips) : Fin 4 → Nat :=
  let c1_549 : Index := 1#32
  let c0_i32_20 : BitVec 32 := 0#32
  let c1_i32_21 : BitVec 32 := 1#32
  let arg11 : BitVec 32 := Scf.iv c0_i32_20 c1_i32_21 k0_t8
  let v1263 : Index := Scalar.indexCast arg11
  let c0_i32_537 : BitVec 32 := 0#32
  let c1_i32_538 : BitVec 32 := 1#32
  let arg12 : BitVec 32 := Scf.iv c0_i32_537 c1_i32_538 k0_t9
  let c8_i32_547 : BitVec 32 := 8#32
  let v1261 : BitVec 32 := Scalar.muli arg12 c8_i32_547
  let c1_i32_548 : BitVec 32 := 1#32
  let v1262 : BitVec 32 := Scalar.addi v1261 c1_i32_548
  let v1264 : Index := Scalar.indexCast v1262
  let c0_550 : Index := 0#32
  ![1, v1263.toNat, v1264.toNat, 0]
def k0_off107 (k0_t8 : Fin k0_t8_loop.trips) (k0_t9 : Fin k0_t9_loop.trips) : Fin 2 → Nat :=
  let c120_i32 : BitVec 32 := 120#32
  let v41 : BitVec 32 := c120_i32
  let c0_i32_20 : BitVec 32 := 0#32
  let c1_i32_21 : BitVec 32 := 1#32
  let arg11 : BitVec 32 := Scf.iv c0_i32_20 c1_i32_21 k0_t8
  let v1238 : BitVec 32 := Scalar.addi v41 arg11
  let c0_i32_537 : BitVec 32 := 0#32
  let c1_i32_538 : BitVec 32 := 1#32
  let arg12 : BitVec 32 := Scf.iv c0_i32_537 c1_i32_538 k0_t9
  let c8_i32_540 : BitVec 32 := 8#32
  let v1239 : BitVec 32 := Scalar.muli arg12 c8_i32_540
  ![v1238.toNat, v1239.toNat]
def k0_off108 (v21 : BitVec 32) (v22 : BitVec 32) (v24 : BitVec 32) : Fin 1 → Nat :=
  let v23 : BitVec 32 := Scalar.addi v21 v22
  let v25 : BitVec 32 := Scalar.addi v23 v24
  let v1270 : Index := Scalar.indexCast v25
  ![v1270.toNat]
def k0_mult33 (v1271 : BitVec 32) : BitVec 32 :=
  v1271

def k0_off109 (v1271 : BitVec 32) : Fin 2 → Nat :=
  let v1272 : BitVec 32 := v1271
  let v1273 : Index := Scalar.indexCast v1272
  let c0_551 : Index := 0#32
  ![v1273.toNat, 0]

def k0_chk35 (v1271 : BitVec 32) : Prop :=
  (4 ∣ (k0_mult33 v1271).toNat) ∧
  (∀ a, (k0_off109 v1271) a + S4x128.size a ≤ S65536x128.size a)
theorem k0_mult33_dvd : ∀ (v1271 : BitVec 32) (k0_hw35 : k0_chk35 v1271), 4 ∣ (k0_mult33 v1271).toNat := fun v1271 k0_hw35 => k0_hw35.1
theorem k0_off109_inb : ∀ (v1271 : BitVec 32) (k0_hw35 : k0_chk35 v1271), ∀ a, (k0_off109 v1271) a + S4x128.size a ≤ S65536x128.size a := fun v1271 k0_hw35 => k0_hw35.2

def k0_off110 (k0_t8 : Fin k0_t8_loop.trips) (k0_t9 : Fin k0_t9_loop.trips) : Fin 4 → Nat :=
  let c1_554 : Index := 1#32
  let c0_i32_20 : BitVec 32 := 0#32
  let c1_i32_21 : BitVec 32 := 1#32
  let arg11 : BitVec 32 := Scf.iv c0_i32_20 c1_i32_21 k0_t8
  let v1277 : Index := Scalar.indexCast arg11
  let c0_i32_537 : BitVec 32 := 0#32
  let c1_i32_538 : BitVec 32 := 1#32
  let arg12 : BitVec 32 := Scf.iv c0_i32_537 c1_i32_538 k0_t9
  let c8_i32_552 : BitVec 32 := 8#32
  let v1275 : BitVec 32 := Scalar.muli arg12 c8_i32_552
  let c2_i32_553 : BitVec 32 := 2#32
  let v1276 : BitVec 32 := Scalar.addi v1275 c2_i32_553
  let v1278 : Index := Scalar.indexCast v1276
  let c0_555 : Index := 0#32
  ![1, v1277.toNat, v1278.toNat, 0]
def k0_off111 (k0_t8 : Fin k0_t8_loop.trips) (k0_t9 : Fin k0_t9_loop.trips) : Fin 2 → Nat :=
  let c120_i32 : BitVec 32 := 120#32
  let v41 : BitVec 32 := c120_i32
  let c0_i32_20 : BitVec 32 := 0#32
  let c1_i32_21 : BitVec 32 := 1#32
  let arg11 : BitVec 32 := Scf.iv c0_i32_20 c1_i32_21 k0_t8
  let v1238 : BitVec 32 := Scalar.addi v41 arg11
  let c0_i32_537 : BitVec 32 := 0#32
  let c1_i32_538 : BitVec 32 := 1#32
  let arg12 : BitVec 32 := Scf.iv c0_i32_537 c1_i32_538 k0_t9
  let c8_i32_540 : BitVec 32 := 8#32
  let v1239 : BitVec 32 := Scalar.muli arg12 c8_i32_540
  ![v1238.toNat, v1239.toNat]
def k0_off112 (v21 : BitVec 32) (v22 : BitVec 32) (v24 : BitVec 32) (v26 : BitVec 32) : Fin 1 → Nat :=
  let v23 : BitVec 32 := Scalar.addi v21 v22
  let v25 : BitVec 32 := Scalar.addi v23 v24
  let v27 : BitVec 32 := Scalar.addi v25 v26
  let v1284 : Index := Scalar.indexCast v27
  ![v1284.toNat]
def k0_mult34 (v1285 : BitVec 32) : BitVec 32 :=
  v1285

def k0_off113 (v1285 : BitVec 32) : Fin 2 → Nat :=
  let v1286 : BitVec 32 := v1285
  let v1287 : Index := Scalar.indexCast v1286
  let c0_556 : Index := 0#32
  ![v1287.toNat, 0]

def k0_chk36 (v1285 : BitVec 32) : Prop :=
  (4 ∣ (k0_mult34 v1285).toNat) ∧
  (∀ a, (k0_off113 v1285) a + S4x128.size a ≤ S65536x128.size a)
theorem k0_mult34_dvd : ∀ (v1285 : BitVec 32) (k0_hw36 : k0_chk36 v1285), 4 ∣ (k0_mult34 v1285).toNat := fun v1285 k0_hw36 => k0_hw36.1
theorem k0_off113_inb : ∀ (v1285 : BitVec 32) (k0_hw36 : k0_chk36 v1285), ∀ a, (k0_off113 v1285) a + S4x128.size a ≤ S65536x128.size a := fun v1285 k0_hw36 => k0_hw36.2

def k0_off114 (k0_t8 : Fin k0_t8_loop.trips) (k0_t9 : Fin k0_t9_loop.trips) : Fin 4 → Nat :=
  let c1_559 : Index := 1#32
  let c0_i32_20 : BitVec 32 := 0#32
  let c1_i32_21 : BitVec 32 := 1#32
  let arg11 : BitVec 32 := Scf.iv c0_i32_20 c1_i32_21 k0_t8
  let v1291 : Index := Scalar.indexCast arg11
  let c0_i32_537 : BitVec 32 := 0#32
  let c1_i32_538 : BitVec 32 := 1#32
  let arg12 : BitVec 32 := Scf.iv c0_i32_537 c1_i32_538 k0_t9
  let c8_i32_557 : BitVec 32 := 8#32
  let v1289 : BitVec 32 := Scalar.muli arg12 c8_i32_557
  let c3_i32_558 : BitVec 32 := 3#32
  let v1290 : BitVec 32 := Scalar.addi v1289 c3_i32_558
  let v1292 : Index := Scalar.indexCast v1290
  let c0_560 : Index := 0#32
  ![1, v1291.toNat, v1292.toNat, 0]
def k0_off115 (k0_t8 : Fin k0_t8_loop.trips) (k0_t9 : Fin k0_t9_loop.trips) : Fin 2 → Nat :=
  let c120_i32 : BitVec 32 := 120#32
  let v41 : BitVec 32 := c120_i32
  let c0_i32_20 : BitVec 32 := 0#32
  let c1_i32_21 : BitVec 32 := 1#32
  let arg11 : BitVec 32 := Scf.iv c0_i32_20 c1_i32_21 k0_t8
  let v1238 : BitVec 32 := Scalar.addi v41 arg11
  let c0_i32_537 : BitVec 32 := 0#32
  let c1_i32_538 : BitVec 32 := 1#32
  let arg12 : BitVec 32 := Scf.iv c0_i32_537 c1_i32_538 k0_t9
  let c8_i32_540 : BitVec 32 := 8#32
  let v1239 : BitVec 32 := Scalar.muli arg12 c8_i32_540
  ![v1238.toNat, v1239.toNat]
def k0_off116 (v21 : BitVec 32) (v22 : BitVec 32) (v24 : BitVec 32) (v26 : BitVec 32) (v28 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v1298 : Index := Scalar.indexCast v29
  ![v1298.toNat]
def k0_mult35 (v1299 : BitVec 32) : BitVec 32 :=
  v1299

def k0_off117 (v1299 : BitVec 32) : Fin 2 → Nat :=
  let v1300 : BitVec 32 := v1299
  let v1301 : Index := Scalar.indexCast v1300
  let c0_561 : Index := 0#32
  ![v1301.toNat, 0]

def k0_chk37 (v1299 : BitVec 32) : Prop :=
  (4 ∣ (k0_mult35 v1299).toNat) ∧
  (∀ a, (k0_off117 v1299) a + S4x128.size a ≤ S65536x128.size a)
theorem k0_mult35_dvd : ∀ (v1299 : BitVec 32) (k0_hw37 : k0_chk37 v1299), 4 ∣ (k0_mult35 v1299).toNat := fun v1299 k0_hw37 => k0_hw37.1
theorem k0_off117_inb : ∀ (v1299 : BitVec 32) (k0_hw37 : k0_chk37 v1299), ∀ a, (k0_off117 v1299) a + S4x128.size a ≤ S65536x128.size a := fun v1299 k0_hw37 => k0_hw37.2

def k0_off118 (k0_t8 : Fin k0_t8_loop.trips) (k0_t9 : Fin k0_t9_loop.trips) : Fin 4 → Nat :=
  let c1_564 : Index := 1#32
  let c0_i32_20 : BitVec 32 := 0#32
  let c1_i32_21 : BitVec 32 := 1#32
  let arg11 : BitVec 32 := Scf.iv c0_i32_20 c1_i32_21 k0_t8
  let v1305 : Index := Scalar.indexCast arg11
  let c0_i32_537 : BitVec 32 := 0#32
  let c1_i32_538 : BitVec 32 := 1#32
  let arg12 : BitVec 32 := Scf.iv c0_i32_537 c1_i32_538 k0_t9
  let c8_i32_562 : BitVec 32 := 8#32
  let v1303 : BitVec 32 := Scalar.muli arg12 c8_i32_562
  let c4_i32_563 : BitVec 32 := 4#32
  let v1304 : BitVec 32 := Scalar.addi v1303 c4_i32_563
  let v1306 : Index := Scalar.indexCast v1304
  let c0_565 : Index := 0#32
  ![1, v1305.toNat, v1306.toNat, 0]
def k0_off119 (k0_t8 : Fin k0_t8_loop.trips) (k0_t9 : Fin k0_t9_loop.trips) : Fin 2 → Nat :=
  let c120_i32 : BitVec 32 := 120#32
  let v41 : BitVec 32 := c120_i32
  let c0_i32_20 : BitVec 32 := 0#32
  let c1_i32_21 : BitVec 32 := 1#32
  let arg11 : BitVec 32 := Scf.iv c0_i32_20 c1_i32_21 k0_t8
  let v1238 : BitVec 32 := Scalar.addi v41 arg11
  let c0_i32_537 : BitVec 32 := 0#32
  let c1_i32_538 : BitVec 32 := 1#32
  let arg12 : BitVec 32 := Scf.iv c0_i32_537 c1_i32_538 k0_t9
  let c8_i32_540 : BitVec 32 := 8#32
  let v1239 : BitVec 32 := Scalar.muli arg12 c8_i32_540
  ![v1238.toNat, v1239.toNat]
def k0_off120 (v21 : BitVec 32) (v22 : BitVec 32) (v24 : BitVec 32) (v26 : BitVec 32) (v28 : BitVec 32) (v30 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v1312 : Index := Scalar.indexCast v31
  ![v1312.toNat]
def k0_mult36 (v1313 : BitVec 32) : BitVec 32 :=
  v1313

def k0_off121 (v1313 : BitVec 32) : Fin 2 → Nat :=
  let v1314 : BitVec 32 := v1313
  let v1315 : Index := Scalar.indexCast v1314
  let c0_566 : Index := 0#32
  ![v1315.toNat, 0]

def k0_chk38 (v1313 : BitVec 32) : Prop :=
  (4 ∣ (k0_mult36 v1313).toNat) ∧
  (∀ a, (k0_off121 v1313) a + S4x128.size a ≤ S65536x128.size a)
theorem k0_mult36_dvd : ∀ (v1313 : BitVec 32) (k0_hw38 : k0_chk38 v1313), 4 ∣ (k0_mult36 v1313).toNat := fun v1313 k0_hw38 => k0_hw38.1
theorem k0_off121_inb : ∀ (v1313 : BitVec 32) (k0_hw38 : k0_chk38 v1313), ∀ a, (k0_off121 v1313) a + S4x128.size a ≤ S65536x128.size a := fun v1313 k0_hw38 => k0_hw38.2

def k0_off122 (k0_t8 : Fin k0_t8_loop.trips) (k0_t9 : Fin k0_t9_loop.trips) : Fin 4 → Nat :=
  let c1_569 : Index := 1#32
  let c0_i32_20 : BitVec 32 := 0#32
  let c1_i32_21 : BitVec 32 := 1#32
  let arg11 : BitVec 32 := Scf.iv c0_i32_20 c1_i32_21 k0_t8
  let v1319 : Index := Scalar.indexCast arg11
  let c0_i32_537 : BitVec 32 := 0#32
  let c1_i32_538 : BitVec 32 := 1#32
  let arg12 : BitVec 32 := Scf.iv c0_i32_537 c1_i32_538 k0_t9
  let c8_i32_567 : BitVec 32 := 8#32
  let v1317 : BitVec 32 := Scalar.muli arg12 c8_i32_567
  let c5_i32_568 : BitVec 32 := 5#32
  let v1318 : BitVec 32 := Scalar.addi v1317 c5_i32_568
  let v1320 : Index := Scalar.indexCast v1318
  let c0_570 : Index := 0#32
  ![1, v1319.toNat, v1320.toNat, 0]
def k0_off123 (k0_t8 : Fin k0_t8_loop.trips) (k0_t9 : Fin k0_t9_loop.trips) : Fin 2 → Nat :=
  let c120_i32 : BitVec 32 := 120#32
  let v41 : BitVec 32 := c120_i32
  let c0_i32_20 : BitVec 32 := 0#32
  let c1_i32_21 : BitVec 32 := 1#32
  let arg11 : BitVec 32 := Scf.iv c0_i32_20 c1_i32_21 k0_t8
  let v1238 : BitVec 32 := Scalar.addi v41 arg11
  let c0_i32_537 : BitVec 32 := 0#32
  let c1_i32_538 : BitVec 32 := 1#32
  let arg12 : BitVec 32 := Scf.iv c0_i32_537 c1_i32_538 k0_t9
  let c8_i32_540 : BitVec 32 := 8#32
  let v1239 : BitVec 32 := Scalar.muli arg12 c8_i32_540
  ![v1238.toNat, v1239.toNat]
def k0_off124 (v21 : BitVec 32) (v22 : BitVec 32) (v24 : BitVec 32) (v26 : BitVec 32) (v28 : BitVec 32) (v30 : BitVec 32) (v32 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v33 : BitVec 32 := Scalar.addi v31 v32
  let v1326 : Index := Scalar.indexCast v33
  ![v1326.toNat]
def k0_mult37 (v1327 : BitVec 32) : BitVec 32 :=
  v1327

def k0_off125 (v1327 : BitVec 32) : Fin 2 → Nat :=
  let v1328 : BitVec 32 := v1327
  let v1329 : Index := Scalar.indexCast v1328
  let c0_571 : Index := 0#32
  ![v1329.toNat, 0]

def k0_chk39 (v1327 : BitVec 32) : Prop :=
  (4 ∣ (k0_mult37 v1327).toNat) ∧
  (∀ a, (k0_off125 v1327) a + S4x128.size a ≤ S65536x128.size a)
theorem k0_mult37_dvd : ∀ (v1327 : BitVec 32) (k0_hw39 : k0_chk39 v1327), 4 ∣ (k0_mult37 v1327).toNat := fun v1327 k0_hw39 => k0_hw39.1
theorem k0_off125_inb : ∀ (v1327 : BitVec 32) (k0_hw39 : k0_chk39 v1327), ∀ a, (k0_off125 v1327) a + S4x128.size a ≤ S65536x128.size a := fun v1327 k0_hw39 => k0_hw39.2

def k0_off126 (k0_t8 : Fin k0_t8_loop.trips) (k0_t9 : Fin k0_t9_loop.trips) : Fin 4 → Nat :=
  let c1_574 : Index := 1#32
  let c0_i32_20 : BitVec 32 := 0#32
  let c1_i32_21 : BitVec 32 := 1#32
  let arg11 : BitVec 32 := Scf.iv c0_i32_20 c1_i32_21 k0_t8
  let v1333 : Index := Scalar.indexCast arg11
  let c0_i32_537 : BitVec 32 := 0#32
  let c1_i32_538 : BitVec 32 := 1#32
  let arg12 : BitVec 32 := Scf.iv c0_i32_537 c1_i32_538 k0_t9
  let c8_i32_572 : BitVec 32 := 8#32
  let v1331 : BitVec 32 := Scalar.muli arg12 c8_i32_572
  let c6_i32_573 : BitVec 32 := 6#32
  let v1332 : BitVec 32 := Scalar.addi v1331 c6_i32_573
  let v1334 : Index := Scalar.indexCast v1332
  let c0_575 : Index := 0#32
  ![1, v1333.toNat, v1334.toNat, 0]
def k0_off127 (k0_t8 : Fin k0_t8_loop.trips) (k0_t9 : Fin k0_t9_loop.trips) : Fin 2 → Nat :=
  let c120_i32 : BitVec 32 := 120#32
  let v41 : BitVec 32 := c120_i32
  let c0_i32_20 : BitVec 32 := 0#32
  let c1_i32_21 : BitVec 32 := 1#32
  let arg11 : BitVec 32 := Scf.iv c0_i32_20 c1_i32_21 k0_t8
  let v1238 : BitVec 32 := Scalar.addi v41 arg11
  let c0_i32_537 : BitVec 32 := 0#32
  let c1_i32_538 : BitVec 32 := 1#32
  let arg12 : BitVec 32 := Scf.iv c0_i32_537 c1_i32_538 k0_t9
  let c8_i32_540 : BitVec 32 := 8#32
  let v1239 : BitVec 32 := Scalar.muli arg12 c8_i32_540
  ![v1238.toNat, v1239.toNat]
def k0_off128 (v21 : BitVec 32) (v22 : BitVec 32) (v24 : BitVec 32) (v26 : BitVec 32) (v28 : BitVec 32) (v30 : BitVec 32) (v32 : BitVec 32) (v34 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v33 : BitVec 32 := Scalar.addi v31 v32
  let v35 : BitVec 32 := Scalar.addi v33 v34
  let v1340 : Index := Scalar.indexCast v35
  ![v1340.toNat]
def k0_mult38 (v1341 : BitVec 32) : BitVec 32 :=
  v1341

def k0_off129 (v1341 : BitVec 32) : Fin 2 → Nat :=
  let v1342 : BitVec 32 := v1341
  let v1343 : Index := Scalar.indexCast v1342
  let c0_576 : Index := 0#32
  ![v1343.toNat, 0]

def k0_chk40 (v1341 : BitVec 32) : Prop :=
  (4 ∣ (k0_mult38 v1341).toNat) ∧
  (∀ a, (k0_off129 v1341) a + S4x128.size a ≤ S65536x128.size a)
theorem k0_mult38_dvd : ∀ (v1341 : BitVec 32) (k0_hw40 : k0_chk40 v1341), 4 ∣ (k0_mult38 v1341).toNat := fun v1341 k0_hw40 => k0_hw40.1
theorem k0_off129_inb : ∀ (v1341 : BitVec 32) (k0_hw40 : k0_chk40 v1341), ∀ a, (k0_off129 v1341) a + S4x128.size a ≤ S65536x128.size a := fun v1341 k0_hw40 => k0_hw40.2

def k0_off130 (k0_t8 : Fin k0_t8_loop.trips) (k0_t9 : Fin k0_t9_loop.trips) : Fin 4 → Nat :=
  let c1_579 : Index := 1#32
  let c0_i32_20 : BitVec 32 := 0#32
  let c1_i32_21 : BitVec 32 := 1#32
  let arg11 : BitVec 32 := Scf.iv c0_i32_20 c1_i32_21 k0_t8
  let v1347 : Index := Scalar.indexCast arg11
  let c0_i32_537 : BitVec 32 := 0#32
  let c1_i32_538 : BitVec 32 := 1#32
  let arg12 : BitVec 32 := Scf.iv c0_i32_537 c1_i32_538 k0_t9
  let c8_i32_577 : BitVec 32 := 8#32
  let v1345 : BitVec 32 := Scalar.muli arg12 c8_i32_577
  let c7_i32_578 : BitVec 32 := 7#32
  let v1346 : BitVec 32 := Scalar.addi v1345 c7_i32_578
  let v1348 : Index := Scalar.indexCast v1346
  let c0_580 : Index := 0#32
  ![1, v1347.toNat, v1348.toNat, 0]
def k0_mult39 : BitVec 32 :=
  let c112_i32 : BitVec 32 := 112#32
  c112_i32
def k0_mult40 : BitVec 32 :=
  let c0_i32_272 : BitVec 32 := 0#32
  c0_i32_272
@[reducible] def k0_t10_loop : Scf.Loop 32 :=
  let c0_i32_273 : BitVec 32 := 0#32
  let c8_i32_274 : BitVec 32 := 8#32
  let v639 : BitVec 32 := Scalar.addi c0_i32_273 c8_i32_274
  let c1_i32_275 : BitVec 32 := 1#32
  ⟨c0_i32_273, v639, c1_i32_275⟩
@[reducible] def k0_t11_loop : Scf.Loop 32 :=
  let c0_i32_537 : BitVec 32 := 0#32
  let c16_i32 : BitVec 32 := 16#32
  let v1237 : BitVec 32 := Scalar.addi c0_i32_537 c16_i32
  let c1_i32_538 : BitVec 32 := 1#32
  ⟨c0_i32_537, v1237, c1_i32_538⟩
def k0_off131 (k0_t10 : Fin k0_t10_loop.trips) (k0_t11 : Fin k0_t11_loop.trips) : Fin 3 → Nat :=
  let c0_i32_541 : BitVec 32 := 0#32
  let c0_i32_272 : BitVec 32 := 0#32
  let v638 : BitVec 32 := c0_i32_272
  let c0_i32_273 : BitVec 32 := 0#32
  let c1_i32_275 : BitVec 32 := 1#32
  let arg11 : BitVec 32 := Scf.iv c0_i32_273 c1_i32_275 k0_t10
  let v1238 : BitVec 32 := Scalar.addi v638 arg11
  let c0_i32_537 : BitVec 32 := 0#32
  let c1_i32_538 : BitVec 32 := 1#32
  let arg12 : BitVec 32 := Scf.iv c0_i32_537 c1_i32_538 k0_t11
  let c8_i32_540 : BitVec 32 := 8#32
  let v1239 : BitVec 32 := Scalar.muli arg12 c8_i32_540
  ![0, v1238.toNat, v1239.toNat]
def k0_off132 (v21 : BitVec 32) : Fin 1 → Nat :=
  let v1242 : Index := Scalar.indexCast v21
  ![v1242.toNat]

def k0_chk1 (i : grid0.Coords) (v21 : BitVec 32) : Prop :=
  (∀ (k0_h1 : k0_cond1 i = 1#1), ∀ a, (k0_off2 v21) a + S1.size a ≤ S8.size a) ∧
  (∀ a, (k0_off34 v21) a + S1.size a ≤ S8.size a) ∧
  (∀ a, (k0_off67 v21) a + S1.size a ≤ S8.size a) ∧
  (∀ a, (k0_off100 v21) a + S1.size a ≤ S8.size a) ∧
  (∀ a, (k0_off132 v21) a + S1.size a ≤ S8.size a)
theorem k0_off2_inb : ∀ (i : grid0.Coords) (v21 : BitVec 32) (k0_hw1 : k0_chk1 i v21), ∀ (k0_h1 : k0_cond1 i = 1#1), ∀ a, (k0_off2 v21) a + S1.size a ≤ S8.size a := fun i v21 k0_hw1 k0_h1 => k0_hw1.1 k0_h1
theorem k0_off34_inb : ∀ (i : grid0.Coords) (v21 : BitVec 32) (k0_hw1 : k0_chk1 i v21), ∀ a, (k0_off34 v21) a + S1.size a ≤ S8.size a := fun i v21 k0_hw1 => k0_hw1.2.1
theorem k0_off67_inb : ∀ (i : grid0.Coords) (v21 : BitVec 32) (k0_hw1 : k0_chk1 i v21), ∀ a, (k0_off67 v21) a + S1.size a ≤ S8.size a := fun i v21 k0_hw1 => k0_hw1.2.2.1
theorem k0_off100_inb : ∀ (i : grid0.Coords) (v21 : BitVec 32) (k0_hw1 : k0_chk1 i v21), ∀ a, (k0_off100 v21) a + S1.size a ≤ S8.size a := fun i v21 k0_hw1 => k0_hw1.2.2.2.1
theorem k0_off132_inb : ∀ (i : grid0.Coords) (v21 : BitVec 32) (k0_hw1 : k0_chk1 i v21), ∀ a, (k0_off132 v21) a + S1.size a ≤ S8.size a := fun i v21 k0_hw1 => k0_hw1.2.2.2.2

def k0_mult41 (v1243 : BitVec 32) : BitVec 32 :=
  v1243

def k0_off133 (v1243 : BitVec 32) : Fin 2 → Nat :=
  let v1244 : BitVec 32 := v1243
  let v1245 : Index := Scalar.indexCast v1244
  let c0_542 : Index := 0#32
  ![v1245.toNat, 0]

def k0_chk41 (v1243 : BitVec 32) : Prop :=
  (4 ∣ (k0_mult41 v1243).toNat) ∧
  (∀ a, (k0_off133 v1243) a + S4x128.size a ≤ S65536x128.size a)
theorem k0_mult41_dvd : ∀ (v1243 : BitVec 32) (k0_hw41 : k0_chk41 v1243), 4 ∣ (k0_mult41 v1243).toNat := fun v1243 k0_hw41 => k0_hw41.1
theorem k0_off133_inb : ∀ (v1243 : BitVec 32) (k0_hw41 : k0_chk41 v1243), ∀ a, (k0_off133 v1243) a + S4x128.size a ≤ S65536x128.size a := fun v1243 k0_hw41 => k0_hw41.2

def k0_off134 (k0_t10 : Fin k0_t10_loop.trips) (k0_t11 : Fin k0_t11_loop.trips) : Fin 4 → Nat :=
  let c0_545 : Index := 0#32
  let c0_i32_273 : BitVec 32 := 0#32
  let c1_i32_275 : BitVec 32 := 1#32
  let arg11 : BitVec 32 := Scf.iv c0_i32_273 c1_i32_275 k0_t10
  let v1249 : Index := Scalar.indexCast arg11
  let c0_i32_537 : BitVec 32 := 0#32
  let c1_i32_538 : BitVec 32 := 1#32
  let arg12 : BitVec 32 := Scf.iv c0_i32_537 c1_i32_538 k0_t11
  let c8_i32_543 : BitVec 32 := 8#32
  let v1247 : BitVec 32 := Scalar.muli arg12 c8_i32_543
  let c0_i32_544 : BitVec 32 := 0#32
  let v1248 : BitVec 32 := Scalar.addi v1247 c0_i32_544
  let v1250 : Index := Scalar.indexCast v1248
  let c0_546 : Index := 0#32
  ![0, v1249.toNat, v1250.toNat, 0]
def k0_off135 (k0_t10 : Fin k0_t10_loop.trips) (k0_t11 : Fin k0_t11_loop.trips) : Fin 3 → Nat :=
  let c0_i32_547 : BitVec 32 := 0#32
  let c0_i32_272 : BitVec 32 := 0#32
  let v638 : BitVec 32 := c0_i32_272
  let c0_i32_273 : BitVec 32 := 0#32
  let c1_i32_275 : BitVec 32 := 1#32
  let arg11 : BitVec 32 := Scf.iv c0_i32_273 c1_i32_275 k0_t10
  let v1238 : BitVec 32 := Scalar.addi v638 arg11
  let c0_i32_537 : BitVec 32 := 0#32
  let c1_i32_538 : BitVec 32 := 1#32
  let arg12 : BitVec 32 := Scf.iv c0_i32_537 c1_i32_538 k0_t11
  let c8_i32_540 : BitVec 32 := 8#32
  let v1239 : BitVec 32 := Scalar.muli arg12 c8_i32_540
  ![0, v1238.toNat, v1239.toNat]
def k0_off136 (v21 : BitVec 32) (v22 : BitVec 32) : Fin 1 → Nat :=
  let v23 : BitVec 32 := Scalar.addi v21 v22
  let v1256 : Index := Scalar.indexCast v23
  ![v1256.toNat]

def k0_chk3 (i : grid0.Coords) (v21 : BitVec 32) (v22 : BitVec 32) : Prop :=
  (∀ (k0_h1 : k0_cond1 i = 1#1), ∀ a, (k0_off6 v21 v22) a + S1.size a ≤ S8.size a) ∧
  (∀ a, (k0_off38 v21 v22) a + S1.size a ≤ S8.size a) ∧
  (∀ a, (k0_off71 v21 v22) a + S1.size a ≤ S8.size a) ∧
  (∀ a, (k0_off104 v21 v22) a + S1.size a ≤ S8.size a) ∧
  (∀ a, (k0_off136 v21 v22) a + S1.size a ≤ S8.size a)
theorem k0_off6_inb : ∀ (i : grid0.Coords) (v21 : BitVec 32) (v22 : BitVec 32) (k0_hw3 : k0_chk3 i v21 v22), ∀ (k0_h1 : k0_cond1 i = 1#1), ∀ a, (k0_off6 v21 v22) a + S1.size a ≤ S8.size a := fun i v21 v22 k0_hw3 k0_h1 => k0_hw3.1 k0_h1
theorem k0_off38_inb : ∀ (i : grid0.Coords) (v21 : BitVec 32) (v22 : BitVec 32) (k0_hw3 : k0_chk3 i v21 v22), ∀ a, (k0_off38 v21 v22) a + S1.size a ≤ S8.size a := fun i v21 v22 k0_hw3 => k0_hw3.2.1
theorem k0_off71_inb : ∀ (i : grid0.Coords) (v21 : BitVec 32) (v22 : BitVec 32) (k0_hw3 : k0_chk3 i v21 v22), ∀ a, (k0_off71 v21 v22) a + S1.size a ≤ S8.size a := fun i v21 v22 k0_hw3 => k0_hw3.2.2.1
theorem k0_off104_inb : ∀ (i : grid0.Coords) (v21 : BitVec 32) (v22 : BitVec 32) (k0_hw3 : k0_chk3 i v21 v22), ∀ a, (k0_off104 v21 v22) a + S1.size a ≤ S8.size a := fun i v21 v22 k0_hw3 => k0_hw3.2.2.2.1
theorem k0_off136_inb : ∀ (i : grid0.Coords) (v21 : BitVec 32) (v22 : BitVec 32) (k0_hw3 : k0_chk3 i v21 v22), ∀ a, (k0_off136 v21 v22) a + S1.size a ≤ S8.size a := fun i v21 v22 k0_hw3 => k0_hw3.2.2.2.2

def k0_mult42 (v1257 : BitVec 32) : BitVec 32 :=
  v1257

def k0_off137 (v1257 : BitVec 32) : Fin 2 → Nat :=
  let v1258 : BitVec 32 := v1257
  let v1259 : Index := Scalar.indexCast v1258
  let c0_548 : Index := 0#32
  ![v1259.toNat, 0]

def k0_chk42 (v1257 : BitVec 32) : Prop :=
  (4 ∣ (k0_mult42 v1257).toNat) ∧
  (∀ a, (k0_off137 v1257) a + S4x128.size a ≤ S65536x128.size a)
theorem k0_mult42_dvd : ∀ (v1257 : BitVec 32) (k0_hw42 : k0_chk42 v1257), 4 ∣ (k0_mult42 v1257).toNat := fun v1257 k0_hw42 => k0_hw42.1
theorem k0_off137_inb : ∀ (v1257 : BitVec 32) (k0_hw42 : k0_chk42 v1257), ∀ a, (k0_off137 v1257) a + S4x128.size a ≤ S65536x128.size a := fun v1257 k0_hw42 => k0_hw42.2

def k0_off138 (k0_t10 : Fin k0_t10_loop.trips) (k0_t11 : Fin k0_t11_loop.trips) : Fin 4 → Nat :=
  let c0_551 : Index := 0#32
  let c0_i32_273 : BitVec 32 := 0#32
  let c1_i32_275 : BitVec 32 := 1#32
  let arg11 : BitVec 32 := Scf.iv c0_i32_273 c1_i32_275 k0_t10
  let v1263 : Index := Scalar.indexCast arg11
  let c0_i32_537 : BitVec 32 := 0#32
  let c1_i32_538 : BitVec 32 := 1#32
  let arg12 : BitVec 32 := Scf.iv c0_i32_537 c1_i32_538 k0_t11
  let c8_i32_549 : BitVec 32 := 8#32
  let v1261 : BitVec 32 := Scalar.muli arg12 c8_i32_549
  let c1_i32_550 : BitVec 32 := 1#32
  let v1262 : BitVec 32 := Scalar.addi v1261 c1_i32_550
  let v1264 : Index := Scalar.indexCast v1262
  let c0_552 : Index := 0#32
  ![0, v1263.toNat, v1264.toNat, 0]
def k0_off139 (k0_t10 : Fin k0_t10_loop.trips) (k0_t11 : Fin k0_t11_loop.trips) : Fin 3 → Nat :=
  let c0_i32_553 : BitVec 32 := 0#32
  let c0_i32_272 : BitVec 32 := 0#32
  let v638 : BitVec 32 := c0_i32_272
  let c0_i32_273 : BitVec 32 := 0#32
  let c1_i32_275 : BitVec 32 := 1#32
  let arg11 : BitVec 32 := Scf.iv c0_i32_273 c1_i32_275 k0_t10
  let v1238 : BitVec 32 := Scalar.addi v638 arg11
  let c0_i32_537 : BitVec 32 := 0#32
  let c1_i32_538 : BitVec 32 := 1#32
  let arg12 : BitVec 32 := Scf.iv c0_i32_537 c1_i32_538 k0_t11
  let c8_i32_540 : BitVec 32 := 8#32
  let v1239 : BitVec 32 := Scalar.muli arg12 c8_i32_540
  ![0, v1238.toNat, v1239.toNat]
def k0_off140 (v21 : BitVec 32) (v22 : BitVec 32) (v24 : BitVec 32) : Fin 1 → Nat :=
  let v23 : BitVec 32 := Scalar.addi v21 v22
  let v25 : BitVec 32 := Scalar.addi v23 v24
  let v1270 : Index := Scalar.indexCast v25
  ![v1270.toNat]

def k0_chk5 (i : grid0.Coords) (v21 : BitVec 32) (v22 : BitVec 32) (v24 : BitVec 32) : Prop :=
  (∀ (k0_h1 : k0_cond1 i = 1#1), ∀ a, (k0_off10 v21 v22 v24) a + S1.size a ≤ S8.size a) ∧
  (∀ a, (k0_off42 v21 v22 v24) a + S1.size a ≤ S8.size a) ∧
  (∀ a, (k0_off75 v21 v22 v24) a + S1.size a ≤ S8.size a) ∧
  (∀ a, (k0_off108 v21 v22 v24) a + S1.size a ≤ S8.size a) ∧
  (∀ a, (k0_off140 v21 v22 v24) a + S1.size a ≤ S8.size a)
theorem k0_off10_inb : ∀ (i : grid0.Coords) (v21 : BitVec 32) (v22 : BitVec 32) (v24 : BitVec 32) (k0_hw5 : k0_chk5 i v21 v22 v24), ∀ (k0_h1 : k0_cond1 i = 1#1), ∀ a, (k0_off10 v21 v22 v24) a + S1.size a ≤ S8.size a := fun i v21 v22 v24 k0_hw5 k0_h1 => k0_hw5.1 k0_h1
theorem k0_off42_inb : ∀ (i : grid0.Coords) (v21 : BitVec 32) (v22 : BitVec 32) (v24 : BitVec 32) (k0_hw5 : k0_chk5 i v21 v22 v24), ∀ a, (k0_off42 v21 v22 v24) a + S1.size a ≤ S8.size a := fun i v21 v22 v24 k0_hw5 => k0_hw5.2.1
theorem k0_off75_inb : ∀ (i : grid0.Coords) (v21 : BitVec 32) (v22 : BitVec 32) (v24 : BitVec 32) (k0_hw5 : k0_chk5 i v21 v22 v24), ∀ a, (k0_off75 v21 v22 v24) a + S1.size a ≤ S8.size a := fun i v21 v22 v24 k0_hw5 => k0_hw5.2.2.1
theorem k0_off108_inb : ∀ (i : grid0.Coords) (v21 : BitVec 32) (v22 : BitVec 32) (v24 : BitVec 32) (k0_hw5 : k0_chk5 i v21 v22 v24), ∀ a, (k0_off108 v21 v22 v24) a + S1.size a ≤ S8.size a := fun i v21 v22 v24 k0_hw5 => k0_hw5.2.2.2.1
theorem k0_off140_inb : ∀ (i : grid0.Coords) (v21 : BitVec 32) (v22 : BitVec 32) (v24 : BitVec 32) (k0_hw5 : k0_chk5 i v21 v22 v24), ∀ a, (k0_off140 v21 v22 v24) a + S1.size a ≤ S8.size a := fun i v21 v22 v24 k0_hw5 => k0_hw5.2.2.2.2

def k0_mult43 (v1271 : BitVec 32) : BitVec 32 :=
  v1271

def k0_off141 (v1271 : BitVec 32) : Fin 2 → Nat :=
  let v1272 : BitVec 32 := v1271
  let v1273 : Index := Scalar.indexCast v1272
  let c0_554 : Index := 0#32
  ![v1273.toNat, 0]

def k0_chk43 (v1271 : BitVec 32) : Prop :=
  (4 ∣ (k0_mult43 v1271).toNat) ∧
  (∀ a, (k0_off141 v1271) a + S4x128.size a ≤ S65536x128.size a)
theorem k0_mult43_dvd : ∀ (v1271 : BitVec 32) (k0_hw43 : k0_chk43 v1271), 4 ∣ (k0_mult43 v1271).toNat := fun v1271 k0_hw43 => k0_hw43.1
theorem k0_off141_inb : ∀ (v1271 : BitVec 32) (k0_hw43 : k0_chk43 v1271), ∀ a, (k0_off141 v1271) a + S4x128.size a ≤ S65536x128.size a := fun v1271 k0_hw43 => k0_hw43.2

def k0_off142 (k0_t10 : Fin k0_t10_loop.trips) (k0_t11 : Fin k0_t11_loop.trips) : Fin 4 → Nat :=
  let c0_557 : Index := 0#32
  let c0_i32_273 : BitVec 32 := 0#32
  let c1_i32_275 : BitVec 32 := 1#32
  let arg11 : BitVec 32 := Scf.iv c0_i32_273 c1_i32_275 k0_t10
  let v1277 : Index := Scalar.indexCast arg11
  let c0_i32_537 : BitVec 32 := 0#32
  let c1_i32_538 : BitVec 32 := 1#32
  let arg12 : BitVec 32 := Scf.iv c0_i32_537 c1_i32_538 k0_t11
  let c8_i32_555 : BitVec 32 := 8#32
  let v1275 : BitVec 32 := Scalar.muli arg12 c8_i32_555
  let c2_i32_556 : BitVec 32 := 2#32
  let v1276 : BitVec 32 := Scalar.addi v1275 c2_i32_556
  let v1278 : Index := Scalar.indexCast v1276
  let c0_558 : Index := 0#32
  ![0, v1277.toNat, v1278.toNat, 0]
def k0_off143 (k0_t10 : Fin k0_t10_loop.trips) (k0_t11 : Fin k0_t11_loop.trips) : Fin 3 → Nat :=
  let c0_i32_559 : BitVec 32 := 0#32
  let c0_i32_272 : BitVec 32 := 0#32
  let v638 : BitVec 32 := c0_i32_272
  let c0_i32_273 : BitVec 32 := 0#32
  let c1_i32_275 : BitVec 32 := 1#32
  let arg11 : BitVec 32 := Scf.iv c0_i32_273 c1_i32_275 k0_t10
  let v1238 : BitVec 32 := Scalar.addi v638 arg11
  let c0_i32_537 : BitVec 32 := 0#32
  let c1_i32_538 : BitVec 32 := 1#32
  let arg12 : BitVec 32 := Scf.iv c0_i32_537 c1_i32_538 k0_t11
  let c8_i32_540 : BitVec 32 := 8#32
  let v1239 : BitVec 32 := Scalar.muli arg12 c8_i32_540
  ![0, v1238.toNat, v1239.toNat]
def k0_off144 (v21 : BitVec 32) (v22 : BitVec 32) (v24 : BitVec 32) (v26 : BitVec 32) : Fin 1 → Nat :=
  let v23 : BitVec 32 := Scalar.addi v21 v22
  let v25 : BitVec 32 := Scalar.addi v23 v24
  let v27 : BitVec 32 := Scalar.addi v25 v26
  let v1284 : Index := Scalar.indexCast v27
  ![v1284.toNat]

def k0_chk7 (i : grid0.Coords) (v21 : BitVec 32) (v22 : BitVec 32) (v24 : BitVec 32) (v26 : BitVec 32) : Prop :=
  (∀ (k0_h1 : k0_cond1 i = 1#1), ∀ a, (k0_off14 v21 v22 v24 v26) a + S1.size a ≤ S8.size a) ∧
  (∀ a, (k0_off46 v21 v22 v24 v26) a + S1.size a ≤ S8.size a) ∧
  (∀ a, (k0_off79 v21 v22 v24 v26) a + S1.size a ≤ S8.size a) ∧
  (∀ a, (k0_off112 v21 v22 v24 v26) a + S1.size a ≤ S8.size a) ∧
  (∀ a, (k0_off144 v21 v22 v24 v26) a + S1.size a ≤ S8.size a)
theorem k0_off14_inb : ∀ (i : grid0.Coords) (v21 : BitVec 32) (v22 : BitVec 32) (v24 : BitVec 32) (v26 : BitVec 32) (k0_hw7 : k0_chk7 i v21 v22 v24 v26), ∀ (k0_h1 : k0_cond1 i = 1#1), ∀ a, (k0_off14 v21 v22 v24 v26) a + S1.size a ≤ S8.size a := fun i v21 v22 v24 v26 k0_hw7 k0_h1 => k0_hw7.1 k0_h1
theorem k0_off46_inb : ∀ (i : grid0.Coords) (v21 : BitVec 32) (v22 : BitVec 32) (v24 : BitVec 32) (v26 : BitVec 32) (k0_hw7 : k0_chk7 i v21 v22 v24 v26), ∀ a, (k0_off46 v21 v22 v24 v26) a + S1.size a ≤ S8.size a := fun i v21 v22 v24 v26 k0_hw7 => k0_hw7.2.1
theorem k0_off79_inb : ∀ (i : grid0.Coords) (v21 : BitVec 32) (v22 : BitVec 32) (v24 : BitVec 32) (v26 : BitVec 32) (k0_hw7 : k0_chk7 i v21 v22 v24 v26), ∀ a, (k0_off79 v21 v22 v24 v26) a + S1.size a ≤ S8.size a := fun i v21 v22 v24 v26 k0_hw7 => k0_hw7.2.2.1
theorem k0_off112_inb : ∀ (i : grid0.Coords) (v21 : BitVec 32) (v22 : BitVec 32) (v24 : BitVec 32) (v26 : BitVec 32) (k0_hw7 : k0_chk7 i v21 v22 v24 v26), ∀ a, (k0_off112 v21 v22 v24 v26) a + S1.size a ≤ S8.size a := fun i v21 v22 v24 v26 k0_hw7 => k0_hw7.2.2.2.1
theorem k0_off144_inb : ∀ (i : grid0.Coords) (v21 : BitVec 32) (v22 : BitVec 32) (v24 : BitVec 32) (v26 : BitVec 32) (k0_hw7 : k0_chk7 i v21 v22 v24 v26), ∀ a, (k0_off144 v21 v22 v24 v26) a + S1.size a ≤ S8.size a := fun i v21 v22 v24 v26 k0_hw7 => k0_hw7.2.2.2.2

def k0_mult44 (v1285 : BitVec 32) : BitVec 32 :=
  v1285

def k0_off145 (v1285 : BitVec 32) : Fin 2 → Nat :=
  let v1286 : BitVec 32 := v1285
  let v1287 : Index := Scalar.indexCast v1286
  let c0_560 : Index := 0#32
  ![v1287.toNat, 0]

def k0_chk44 (v1285 : BitVec 32) : Prop :=
  (4 ∣ (k0_mult44 v1285).toNat) ∧
  (∀ a, (k0_off145 v1285) a + S4x128.size a ≤ S65536x128.size a)
theorem k0_mult44_dvd : ∀ (v1285 : BitVec 32) (k0_hw44 : k0_chk44 v1285), 4 ∣ (k0_mult44 v1285).toNat := fun v1285 k0_hw44 => k0_hw44.1
theorem k0_off145_inb : ∀ (v1285 : BitVec 32) (k0_hw44 : k0_chk44 v1285), ∀ a, (k0_off145 v1285) a + S4x128.size a ≤ S65536x128.size a := fun v1285 k0_hw44 => k0_hw44.2

def k0_off146 (k0_t10 : Fin k0_t10_loop.trips) (k0_t11 : Fin k0_t11_loop.trips) : Fin 4 → Nat :=
  let c0_563 : Index := 0#32
  let c0_i32_273 : BitVec 32 := 0#32
  let c1_i32_275 : BitVec 32 := 1#32
  let arg11 : BitVec 32 := Scf.iv c0_i32_273 c1_i32_275 k0_t10
  let v1291 : Index := Scalar.indexCast arg11
  let c0_i32_537 : BitVec 32 := 0#32
  let c1_i32_538 : BitVec 32 := 1#32
  let arg12 : BitVec 32 := Scf.iv c0_i32_537 c1_i32_538 k0_t11
  let c8_i32_561 : BitVec 32 := 8#32
  let v1289 : BitVec 32 := Scalar.muli arg12 c8_i32_561
  let c3_i32_562 : BitVec 32 := 3#32
  let v1290 : BitVec 32 := Scalar.addi v1289 c3_i32_562
  let v1292 : Index := Scalar.indexCast v1290
  let c0_564 : Index := 0#32
  ![0, v1291.toNat, v1292.toNat, 0]
def k0_off147 (k0_t10 : Fin k0_t10_loop.trips) (k0_t11 : Fin k0_t11_loop.trips) : Fin 3 → Nat :=
  let c0_i32_565 : BitVec 32 := 0#32
  let c0_i32_272 : BitVec 32 := 0#32
  let v638 : BitVec 32 := c0_i32_272
  let c0_i32_273 : BitVec 32 := 0#32
  let c1_i32_275 : BitVec 32 := 1#32
  let arg11 : BitVec 32 := Scf.iv c0_i32_273 c1_i32_275 k0_t10
  let v1238 : BitVec 32 := Scalar.addi v638 arg11
  let c0_i32_537 : BitVec 32 := 0#32
  let c1_i32_538 : BitVec 32 := 1#32
  let arg12 : BitVec 32 := Scf.iv c0_i32_537 c1_i32_538 k0_t11
  let c8_i32_540 : BitVec 32 := 8#32
  let v1239 : BitVec 32 := Scalar.muli arg12 c8_i32_540
  ![0, v1238.toNat, v1239.toNat]
def k0_off148 (v21 : BitVec 32) (v22 : BitVec 32) (v24 : BitVec 32) (v26 : BitVec 32) (v28 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v1298 : Index := Scalar.indexCast v29
  ![v1298.toNat]

def k0_chk9 (i : grid0.Coords) (v21 : BitVec 32) (v22 : BitVec 32) (v24 : BitVec 32) (v26 : BitVec 32) (v28 : BitVec 32) : Prop :=
  (∀ (k0_h1 : k0_cond1 i = 1#1), ∀ a, (k0_off18 v21 v22 v24 v26 v28) a + S1.size a ≤ S8.size a) ∧
  (∀ a, (k0_off50 v21 v22 v24 v26 v28) a + S1.size a ≤ S8.size a) ∧
  (∀ a, (k0_off83 v21 v22 v24 v26 v28) a + S1.size a ≤ S8.size a) ∧
  (∀ a, (k0_off116 v21 v22 v24 v26 v28) a + S1.size a ≤ S8.size a) ∧
  (∀ a, (k0_off148 v21 v22 v24 v26 v28) a + S1.size a ≤ S8.size a)
theorem k0_off18_inb : ∀ (i : grid0.Coords) (v21 : BitVec 32) (v22 : BitVec 32) (v24 : BitVec 32) (v26 : BitVec 32) (v28 : BitVec 32) (k0_hw9 : k0_chk9 i v21 v22 v24 v26 v28), ∀ (k0_h1 : k0_cond1 i = 1#1), ∀ a, (k0_off18 v21 v22 v24 v26 v28) a + S1.size a ≤ S8.size a := fun i v21 v22 v24 v26 v28 k0_hw9 k0_h1 => k0_hw9.1 k0_h1
theorem k0_off50_inb : ∀ (i : grid0.Coords) (v21 : BitVec 32) (v22 : BitVec 32) (v24 : BitVec 32) (v26 : BitVec 32) (v28 : BitVec 32) (k0_hw9 : k0_chk9 i v21 v22 v24 v26 v28), ∀ a, (k0_off50 v21 v22 v24 v26 v28) a + S1.size a ≤ S8.size a := fun i v21 v22 v24 v26 v28 k0_hw9 => k0_hw9.2.1
theorem k0_off83_inb : ∀ (i : grid0.Coords) (v21 : BitVec 32) (v22 : BitVec 32) (v24 : BitVec 32) (v26 : BitVec 32) (v28 : BitVec 32) (k0_hw9 : k0_chk9 i v21 v22 v24 v26 v28), ∀ a, (k0_off83 v21 v22 v24 v26 v28) a + S1.size a ≤ S8.size a := fun i v21 v22 v24 v26 v28 k0_hw9 => k0_hw9.2.2.1
theorem k0_off116_inb : ∀ (i : grid0.Coords) (v21 : BitVec 32) (v22 : BitVec 32) (v24 : BitVec 32) (v26 : BitVec 32) (v28 : BitVec 32) (k0_hw9 : k0_chk9 i v21 v22 v24 v26 v28), ∀ a, (k0_off116 v21 v22 v24 v26 v28) a + S1.size a ≤ S8.size a := fun i v21 v22 v24 v26 v28 k0_hw9 => k0_hw9.2.2.2.1
theorem k0_off148_inb : ∀ (i : grid0.Coords) (v21 : BitVec 32) (v22 : BitVec 32) (v24 : BitVec 32) (v26 : BitVec 32) (v28 : BitVec 32) (k0_hw9 : k0_chk9 i v21 v22 v24 v26 v28), ∀ a, (k0_off148 v21 v22 v24 v26 v28) a + S1.size a ≤ S8.size a := fun i v21 v22 v24 v26 v28 k0_hw9 => k0_hw9.2.2.2.2

def k0_mult45 (v1299 : BitVec 32) : BitVec 32 :=
  v1299

def k0_off149 (v1299 : BitVec 32) : Fin 2 → Nat :=
  let v1300 : BitVec 32 := v1299
  let v1301 : Index := Scalar.indexCast v1300
  let c0_566 : Index := 0#32
  ![v1301.toNat, 0]

def k0_chk45 (v1299 : BitVec 32) : Prop :=
  (4 ∣ (k0_mult45 v1299).toNat) ∧
  (∀ a, (k0_off149 v1299) a + S4x128.size a ≤ S65536x128.size a)
theorem k0_mult45_dvd : ∀ (v1299 : BitVec 32) (k0_hw45 : k0_chk45 v1299), 4 ∣ (k0_mult45 v1299).toNat := fun v1299 k0_hw45 => k0_hw45.1
theorem k0_off149_inb : ∀ (v1299 : BitVec 32) (k0_hw45 : k0_chk45 v1299), ∀ a, (k0_off149 v1299) a + S4x128.size a ≤ S65536x128.size a := fun v1299 k0_hw45 => k0_hw45.2

def k0_off150 (k0_t10 : Fin k0_t10_loop.trips) (k0_t11 : Fin k0_t11_loop.trips) : Fin 4 → Nat :=
  let c0_569 : Index := 0#32
  let c0_i32_273 : BitVec 32 := 0#32
  let c1_i32_275 : BitVec 32 := 1#32
  let arg11 : BitVec 32 := Scf.iv c0_i32_273 c1_i32_275 k0_t10
  let v1305 : Index := Scalar.indexCast arg11
  let c0_i32_537 : BitVec 32 := 0#32
  let c1_i32_538 : BitVec 32 := 1#32
  let arg12 : BitVec 32 := Scf.iv c0_i32_537 c1_i32_538 k0_t11
  let c8_i32_567 : BitVec 32 := 8#32
  let v1303 : BitVec 32 := Scalar.muli arg12 c8_i32_567
  let c4_i32_568 : BitVec 32 := 4#32
  let v1304 : BitVec 32 := Scalar.addi v1303 c4_i32_568
  let v1306 : Index := Scalar.indexCast v1304
  let c0_570 : Index := 0#32
  ![0, v1305.toNat, v1306.toNat, 0]
def k0_off151 (k0_t10 : Fin k0_t10_loop.trips) (k0_t11 : Fin k0_t11_loop.trips) : Fin 3 → Nat :=
  let c0_i32_571 : BitVec 32 := 0#32
  let c0_i32_272 : BitVec 32 := 0#32
  let v638 : BitVec 32 := c0_i32_272
  let c0_i32_273 : BitVec 32 := 0#32
  let c1_i32_275 : BitVec 32 := 1#32
  let arg11 : BitVec 32 := Scf.iv c0_i32_273 c1_i32_275 k0_t10
  let v1238 : BitVec 32 := Scalar.addi v638 arg11
  let c0_i32_537 : BitVec 32 := 0#32
  let c1_i32_538 : BitVec 32 := 1#32
  let arg12 : BitVec 32 := Scf.iv c0_i32_537 c1_i32_538 k0_t11
  let c8_i32_540 : BitVec 32 := 8#32
  let v1239 : BitVec 32 := Scalar.muli arg12 c8_i32_540
  ![0, v1238.toNat, v1239.toNat]
def k0_off152 (v21 : BitVec 32) (v22 : BitVec 32) (v24 : BitVec 32) (v26 : BitVec 32) (v28 : BitVec 32) (v30 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v1312 : Index := Scalar.indexCast v31
  ![v1312.toNat]

def k0_chk11 (i : grid0.Coords) (v21 : BitVec 32) (v22 : BitVec 32) (v24 : BitVec 32) (v26 : BitVec 32) (v28 : BitVec 32) (v30 : BitVec 32) : Prop :=
  (∀ (k0_h1 : k0_cond1 i = 1#1), ∀ a, (k0_off22 v21 v22 v24 v26 v28 v30) a + S1.size a ≤ S8.size a) ∧
  (∀ a, (k0_off54 v21 v22 v24 v26 v28 v30) a + S1.size a ≤ S8.size a) ∧
  (∀ a, (k0_off87 v21 v22 v24 v26 v28 v30) a + S1.size a ≤ S8.size a) ∧
  (∀ a, (k0_off120 v21 v22 v24 v26 v28 v30) a + S1.size a ≤ S8.size a) ∧
  (∀ a, (k0_off152 v21 v22 v24 v26 v28 v30) a + S1.size a ≤ S8.size a)
theorem k0_off22_inb : ∀ (i : grid0.Coords) (v21 : BitVec 32) (v22 : BitVec 32) (v24 : BitVec 32) (v26 : BitVec 32) (v28 : BitVec 32) (v30 : BitVec 32) (k0_hw11 : k0_chk11 i v21 v22 v24 v26 v28 v30), ∀ (k0_h1 : k0_cond1 i = 1#1), ∀ a, (k0_off22 v21 v22 v24 v26 v28 v30) a + S1.size a ≤ S8.size a := fun i v21 v22 v24 v26 v28 v30 k0_hw11 k0_h1 => k0_hw11.1 k0_h1
theorem k0_off54_inb : ∀ (i : grid0.Coords) (v21 : BitVec 32) (v22 : BitVec 32) (v24 : BitVec 32) (v26 : BitVec 32) (v28 : BitVec 32) (v30 : BitVec 32) (k0_hw11 : k0_chk11 i v21 v22 v24 v26 v28 v30), ∀ a, (k0_off54 v21 v22 v24 v26 v28 v30) a + S1.size a ≤ S8.size a := fun i v21 v22 v24 v26 v28 v30 k0_hw11 => k0_hw11.2.1
theorem k0_off87_inb : ∀ (i : grid0.Coords) (v21 : BitVec 32) (v22 : BitVec 32) (v24 : BitVec 32) (v26 : BitVec 32) (v28 : BitVec 32) (v30 : BitVec 32) (k0_hw11 : k0_chk11 i v21 v22 v24 v26 v28 v30), ∀ a, (k0_off87 v21 v22 v24 v26 v28 v30) a + S1.size a ≤ S8.size a := fun i v21 v22 v24 v26 v28 v30 k0_hw11 => k0_hw11.2.2.1
theorem k0_off120_inb : ∀ (i : grid0.Coords) (v21 : BitVec 32) (v22 : BitVec 32) (v24 : BitVec 32) (v26 : BitVec 32) (v28 : BitVec 32) (v30 : BitVec 32) (k0_hw11 : k0_chk11 i v21 v22 v24 v26 v28 v30), ∀ a, (k0_off120 v21 v22 v24 v26 v28 v30) a + S1.size a ≤ S8.size a := fun i v21 v22 v24 v26 v28 v30 k0_hw11 => k0_hw11.2.2.2.1
theorem k0_off152_inb : ∀ (i : grid0.Coords) (v21 : BitVec 32) (v22 : BitVec 32) (v24 : BitVec 32) (v26 : BitVec 32) (v28 : BitVec 32) (v30 : BitVec 32) (k0_hw11 : k0_chk11 i v21 v22 v24 v26 v28 v30), ∀ a, (k0_off152 v21 v22 v24 v26 v28 v30) a + S1.size a ≤ S8.size a := fun i v21 v22 v24 v26 v28 v30 k0_hw11 => k0_hw11.2.2.2.2

def k0_mult46 (v1313 : BitVec 32) : BitVec 32 :=
  v1313

def k0_off153 (v1313 : BitVec 32) : Fin 2 → Nat :=
  let v1314 : BitVec 32 := v1313
  let v1315 : Index := Scalar.indexCast v1314
  let c0_572 : Index := 0#32
  ![v1315.toNat, 0]

def k0_chk46 (v1313 : BitVec 32) : Prop :=
  (4 ∣ (k0_mult46 v1313).toNat) ∧
  (∀ a, (k0_off153 v1313) a + S4x128.size a ≤ S65536x128.size a)
theorem k0_mult46_dvd : ∀ (v1313 : BitVec 32) (k0_hw46 : k0_chk46 v1313), 4 ∣ (k0_mult46 v1313).toNat := fun v1313 k0_hw46 => k0_hw46.1
theorem k0_off153_inb : ∀ (v1313 : BitVec 32) (k0_hw46 : k0_chk46 v1313), ∀ a, (k0_off153 v1313) a + S4x128.size a ≤ S65536x128.size a := fun v1313 k0_hw46 => k0_hw46.2

def k0_off154 (k0_t10 : Fin k0_t10_loop.trips) (k0_t11 : Fin k0_t11_loop.trips) : Fin 4 → Nat :=
  let c0_575 : Index := 0#32
  let c0_i32_273 : BitVec 32 := 0#32
  let c1_i32_275 : BitVec 32 := 1#32
  let arg11 : BitVec 32 := Scf.iv c0_i32_273 c1_i32_275 k0_t10
  let v1319 : Index := Scalar.indexCast arg11
  let c0_i32_537 : BitVec 32 := 0#32
  let c1_i32_538 : BitVec 32 := 1#32
  let arg12 : BitVec 32 := Scf.iv c0_i32_537 c1_i32_538 k0_t11
  let c8_i32_573 : BitVec 32 := 8#32
  let v1317 : BitVec 32 := Scalar.muli arg12 c8_i32_573
  let c5_i32_574 : BitVec 32 := 5#32
  let v1318 : BitVec 32 := Scalar.addi v1317 c5_i32_574
  let v1320 : Index := Scalar.indexCast v1318
  let c0_576 : Index := 0#32
  ![0, v1319.toNat, v1320.toNat, 0]
def k0_off155 (k0_t10 : Fin k0_t10_loop.trips) (k0_t11 : Fin k0_t11_loop.trips) : Fin 3 → Nat :=
  let c0_i32_577 : BitVec 32 := 0#32
  let c0_i32_272 : BitVec 32 := 0#32
  let v638 : BitVec 32 := c0_i32_272
  let c0_i32_273 : BitVec 32 := 0#32
  let c1_i32_275 : BitVec 32 := 1#32
  let arg11 : BitVec 32 := Scf.iv c0_i32_273 c1_i32_275 k0_t10
  let v1238 : BitVec 32 := Scalar.addi v638 arg11
  let c0_i32_537 : BitVec 32 := 0#32
  let c1_i32_538 : BitVec 32 := 1#32
  let arg12 : BitVec 32 := Scf.iv c0_i32_537 c1_i32_538 k0_t11
  let c8_i32_540 : BitVec 32 := 8#32
  let v1239 : BitVec 32 := Scalar.muli arg12 c8_i32_540
  ![0, v1238.toNat, v1239.toNat]
def k0_off156 (v21 : BitVec 32) (v22 : BitVec 32) (v24 : BitVec 32) (v26 : BitVec 32) (v28 : BitVec 32) (v30 : BitVec 32) (v32 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v33 : BitVec 32 := Scalar.addi v31 v32
  let v1326 : Index := Scalar.indexCast v33
  ![v1326.toNat]

def k0_chk13 (i : grid0.Coords) (v21 : BitVec 32) (v22 : BitVec 32) (v24 : BitVec 32) (v26 : BitVec 32) (v28 : BitVec 32) (v30 : BitVec 32) (v32 : BitVec 32) : Prop :=
  (∀ (k0_h1 : k0_cond1 i = 1#1), ∀ a, (k0_off26 v21 v22 v24 v26 v28 v30 v32) a + S1.size a ≤ S8.size a) ∧
  (∀ a, (k0_off58 v21 v22 v24 v26 v28 v30 v32) a + S1.size a ≤ S8.size a) ∧
  (∀ a, (k0_off91 v21 v22 v24 v26 v28 v30 v32) a + S1.size a ≤ S8.size a) ∧
  (∀ a, (k0_off124 v21 v22 v24 v26 v28 v30 v32) a + S1.size a ≤ S8.size a) ∧
  (∀ a, (k0_off156 v21 v22 v24 v26 v28 v30 v32) a + S1.size a ≤ S8.size a)
theorem k0_off26_inb : ∀ (i : grid0.Coords) (v21 : BitVec 32) (v22 : BitVec 32) (v24 : BitVec 32) (v26 : BitVec 32) (v28 : BitVec 32) (v30 : BitVec 32) (v32 : BitVec 32) (k0_hw13 : k0_chk13 i v21 v22 v24 v26 v28 v30 v32), ∀ (k0_h1 : k0_cond1 i = 1#1), ∀ a, (k0_off26 v21 v22 v24 v26 v28 v30 v32) a + S1.size a ≤ S8.size a := fun i v21 v22 v24 v26 v28 v30 v32 k0_hw13 k0_h1 => k0_hw13.1 k0_h1
theorem k0_off58_inb : ∀ (i : grid0.Coords) (v21 : BitVec 32) (v22 : BitVec 32) (v24 : BitVec 32) (v26 : BitVec 32) (v28 : BitVec 32) (v30 : BitVec 32) (v32 : BitVec 32) (k0_hw13 : k0_chk13 i v21 v22 v24 v26 v28 v30 v32), ∀ a, (k0_off58 v21 v22 v24 v26 v28 v30 v32) a + S1.size a ≤ S8.size a := fun i v21 v22 v24 v26 v28 v30 v32 k0_hw13 => k0_hw13.2.1
theorem k0_off91_inb : ∀ (i : grid0.Coords) (v21 : BitVec 32) (v22 : BitVec 32) (v24 : BitVec 32) (v26 : BitVec 32) (v28 : BitVec 32) (v30 : BitVec 32) (v32 : BitVec 32) (k0_hw13 : k0_chk13 i v21 v22 v24 v26 v28 v30 v32), ∀ a, (k0_off91 v21 v22 v24 v26 v28 v30 v32) a + S1.size a ≤ S8.size a := fun i v21 v22 v24 v26 v28 v30 v32 k0_hw13 => k0_hw13.2.2.1
theorem k0_off124_inb : ∀ (i : grid0.Coords) (v21 : BitVec 32) (v22 : BitVec 32) (v24 : BitVec 32) (v26 : BitVec 32) (v28 : BitVec 32) (v30 : BitVec 32) (v32 : BitVec 32) (k0_hw13 : k0_chk13 i v21 v22 v24 v26 v28 v30 v32), ∀ a, (k0_off124 v21 v22 v24 v26 v28 v30 v32) a + S1.size a ≤ S8.size a := fun i v21 v22 v24 v26 v28 v30 v32 k0_hw13 => k0_hw13.2.2.2.1
theorem k0_off156_inb : ∀ (i : grid0.Coords) (v21 : BitVec 32) (v22 : BitVec 32) (v24 : BitVec 32) (v26 : BitVec 32) (v28 : BitVec 32) (v30 : BitVec 32) (v32 : BitVec 32) (k0_hw13 : k0_chk13 i v21 v22 v24 v26 v28 v30 v32), ∀ a, (k0_off156 v21 v22 v24 v26 v28 v30 v32) a + S1.size a ≤ S8.size a := fun i v21 v22 v24 v26 v28 v30 v32 k0_hw13 => k0_hw13.2.2.2.2

def k0_mult47 (v1327 : BitVec 32) : BitVec 32 :=
  v1327

def k0_off157 (v1327 : BitVec 32) : Fin 2 → Nat :=
  let v1328 : BitVec 32 := v1327
  let v1329 : Index := Scalar.indexCast v1328
  let c0_578 : Index := 0#32
  ![v1329.toNat, 0]

def k0_chk47 (v1327 : BitVec 32) : Prop :=
  (4 ∣ (k0_mult47 v1327).toNat) ∧
  (∀ a, (k0_off157 v1327) a + S4x128.size a ≤ S65536x128.size a)
theorem k0_mult47_dvd : ∀ (v1327 : BitVec 32) (k0_hw47 : k0_chk47 v1327), 4 ∣ (k0_mult47 v1327).toNat := fun v1327 k0_hw47 => k0_hw47.1
theorem k0_off157_inb : ∀ (v1327 : BitVec 32) (k0_hw47 : k0_chk47 v1327), ∀ a, (k0_off157 v1327) a + S4x128.size a ≤ S65536x128.size a := fun v1327 k0_hw47 => k0_hw47.2

def k0_off158 (k0_t10 : Fin k0_t10_loop.trips) (k0_t11 : Fin k0_t11_loop.trips) : Fin 4 → Nat :=
  let c0_581 : Index := 0#32
  let c0_i32_273 : BitVec 32 := 0#32
  let c1_i32_275 : BitVec 32 := 1#32
  let arg11 : BitVec 32 := Scf.iv c0_i32_273 c1_i32_275 k0_t10
  let v1333 : Index := Scalar.indexCast arg11
  let c0_i32_537 : BitVec 32 := 0#32
  let c1_i32_538 : BitVec 32 := 1#32
  let arg12 : BitVec 32 := Scf.iv c0_i32_537 c1_i32_538 k0_t11
  let c8_i32_579 : BitVec 32 := 8#32
  let v1331 : BitVec 32 := Scalar.muli arg12 c8_i32_579
  let c6_i32_580 : BitVec 32 := 6#32
  let v1332 : BitVec 32 := Scalar.addi v1331 c6_i32_580
  let v1334 : Index := Scalar.indexCast v1332
  let c0_582 : Index := 0#32
  ![0, v1333.toNat, v1334.toNat, 0]
def k0_off159 (k0_t10 : Fin k0_t10_loop.trips) (k0_t11 : Fin k0_t11_loop.trips) : Fin 3 → Nat :=
  let c0_i32_583 : BitVec 32 := 0#32
  let c0_i32_272 : BitVec 32 := 0#32
  let v638 : BitVec 32 := c0_i32_272
  let c0_i32_273 : BitVec 32 := 0#32
  let c1_i32_275 : BitVec 32 := 1#32
  let arg11 : BitVec 32 := Scf.iv c0_i32_273 c1_i32_275 k0_t10
  let v1238 : BitVec 32 := Scalar.addi v638 arg11
  let c0_i32_537 : BitVec 32 := 0#32
  let c1_i32_538 : BitVec 32 := 1#32
  let arg12 : BitVec 32 := Scf.iv c0_i32_537 c1_i32_538 k0_t11
  let c8_i32_540 : BitVec 32 := 8#32
  let v1239 : BitVec 32 := Scalar.muli arg12 c8_i32_540
  ![0, v1238.toNat, v1239.toNat]
def k0_off160 (v21 : BitVec 32) (v22 : BitVec 32) (v24 : BitVec 32) (v26 : BitVec 32) (v28 : BitVec 32) (v30 : BitVec 32) (v32 : BitVec 32) (v34 : BitVec 32) : Fin 1 → Nat :=
  let v23 : BitVec 32 := Scalar.addi v21 v22
  let v25 : BitVec 32 := Scalar.addi v23 v24
  let v27 : BitVec 32 := Scalar.addi v25 v26
  let v29 : BitVec 32 := Scalar.addi v27 v28
  let v31 : BitVec 32 := Scalar.addi v29 v30
  let v33 : BitVec 32 := Scalar.addi v31 v32
  let v35 : BitVec 32 := Scalar.addi v33 v34
  let v1340 : Index := Scalar.indexCast v35
  ![v1340.toNat]

def k0_chk15 (i : grid0.Coords) (v21 : BitVec 32) (v22 : BitVec 32) (v24 : BitVec 32) (v26 : BitVec 32) (v28 : BitVec 32) (v30 : BitVec 32) (v32 : BitVec 32) (v34 : BitVec 32) : Prop :=
  (∀ (k0_h1 : k0_cond1 i = 1#1), ∀ a, (k0_off30 v21 v22 v24 v26 v28 v30 v32 v34) a + S1.size a ≤ S8.size a) ∧
  (∀ a, (k0_off62 v21 v22 v24 v26 v28 v30 v32 v34) a + S1.size a ≤ S8.size a) ∧
  (∀ a, (k0_off95 v21 v22 v24 v26 v28 v30 v32 v34) a + S1.size a ≤ S8.size a) ∧
  (∀ a, (k0_off128 v21 v22 v24 v26 v28 v30 v32 v34) a + S1.size a ≤ S8.size a) ∧
  (∀ a, (k0_off160 v21 v22 v24 v26 v28 v30 v32 v34) a + S1.size a ≤ S8.size a)
theorem k0_off30_inb : ∀ (i : grid0.Coords) (v21 : BitVec 32) (v22 : BitVec 32) (v24 : BitVec 32) (v26 : BitVec 32) (v28 : BitVec 32) (v30 : BitVec 32) (v32 : BitVec 32) (v34 : BitVec 32) (k0_hw15 : k0_chk15 i v21 v22 v24 v26 v28 v30 v32 v34), ∀ (k0_h1 : k0_cond1 i = 1#1), ∀ a, (k0_off30 v21 v22 v24 v26 v28 v30 v32 v34) a + S1.size a ≤ S8.size a := fun i v21 v22 v24 v26 v28 v30 v32 v34 k0_hw15 k0_h1 => k0_hw15.1 k0_h1
theorem k0_off62_inb : ∀ (i : grid0.Coords) (v21 : BitVec 32) (v22 : BitVec 32) (v24 : BitVec 32) (v26 : BitVec 32) (v28 : BitVec 32) (v30 : BitVec 32) (v32 : BitVec 32) (v34 : BitVec 32) (k0_hw15 : k0_chk15 i v21 v22 v24 v26 v28 v30 v32 v34), ∀ a, (k0_off62 v21 v22 v24 v26 v28 v30 v32 v34) a + S1.size a ≤ S8.size a := fun i v21 v22 v24 v26 v28 v30 v32 v34 k0_hw15 => k0_hw15.2.1
theorem k0_off95_inb : ∀ (i : grid0.Coords) (v21 : BitVec 32) (v22 : BitVec 32) (v24 : BitVec 32) (v26 : BitVec 32) (v28 : BitVec 32) (v30 : BitVec 32) (v32 : BitVec 32) (v34 : BitVec 32) (k0_hw15 : k0_chk15 i v21 v22 v24 v26 v28 v30 v32 v34), ∀ a, (k0_off95 v21 v22 v24 v26 v28 v30 v32 v34) a + S1.size a ≤ S8.size a := fun i v21 v22 v24 v26 v28 v30 v32 v34 k0_hw15 => k0_hw15.2.2.1
theorem k0_off128_inb : ∀ (i : grid0.Coords) (v21 : BitVec 32) (v22 : BitVec 32) (v24 : BitVec 32) (v26 : BitVec 32) (v28 : BitVec 32) (v30 : BitVec 32) (v32 : BitVec 32) (v34 : BitVec 32) (k0_hw15 : k0_chk15 i v21 v22 v24 v26 v28 v30 v32 v34), ∀ a, (k0_off128 v21 v22 v24 v26 v28 v30 v32 v34) a + S1.size a ≤ S8.size a := fun i v21 v22 v24 v26 v28 v30 v32 v34 k0_hw15 => k0_hw15.2.2.2.1
theorem k0_off160_inb : ∀ (i : grid0.Coords) (v21 : BitVec 32) (v22 : BitVec 32) (v24 : BitVec 32) (v26 : BitVec 32) (v28 : BitVec 32) (v30 : BitVec 32) (v32 : BitVec 32) (v34 : BitVec 32) (k0_hw15 : k0_chk15 i v21 v22 v24 v26 v28 v30 v32 v34), ∀ a, (k0_off160 v21 v22 v24 v26 v28 v30 v32 v34) a + S1.size a ≤ S8.size a := fun i v21 v22 v24 v26 v28 v30 v32 v34 k0_hw15 => k0_hw15.2.2.2.2

def k0_mult48 (v1341 : BitVec 32) : BitVec 32 :=
  v1341

def k0_off161 (v1341 : BitVec 32) : Fin 2 → Nat :=
  let v1342 : BitVec 32 := v1341
  let v1343 : Index := Scalar.indexCast v1342
  let c0_584 : Index := 0#32
  ![v1343.toNat, 0]

def k0_chk48 (v1341 : BitVec 32) : Prop :=
  (4 ∣ (k0_mult48 v1341).toNat) ∧
  (∀ a, (k0_off161 v1341) a + S4x128.size a ≤ S65536x128.size a)
theorem k0_mult48_dvd : ∀ (v1341 : BitVec 32) (k0_hw48 : k0_chk48 v1341), 4 ∣ (k0_mult48 v1341).toNat := fun v1341 k0_hw48 => k0_hw48.1
theorem k0_off161_inb : ∀ (v1341 : BitVec 32) (k0_hw48 : k0_chk48 v1341), ∀ a, (k0_off161 v1341) a + S4x128.size a ≤ S65536x128.size a := fun v1341 k0_hw48 => k0_hw48.2

def k0_off162 (k0_t10 : Fin k0_t10_loop.trips) (k0_t11 : Fin k0_t11_loop.trips) : Fin 4 → Nat :=
  let c0_587 : Index := 0#32
  let c0_i32_273 : BitVec 32 := 0#32
  let c1_i32_275 : BitVec 32 := 1#32
  let arg11 : BitVec 32 := Scf.iv c0_i32_273 c1_i32_275 k0_t10
  let v1347 : Index := Scalar.indexCast arg11
  let c0_i32_537 : BitVec 32 := 0#32
  let c1_i32_538 : BitVec 32 := 1#32
  let arg12 : BitVec 32 := Scf.iv c0_i32_537 c1_i32_538 k0_t11
  let c8_i32_585 : BitVec 32 := 8#32
  let v1345 : BitVec 32 := Scalar.muli arg12 c8_i32_585
  let c7_i32_586 : BitVec 32 := 7#32
  let v1346 : BitVec 32 := Scalar.addi v1345 c7_i32_586
  let v1348 : Index := Scalar.indexCast v1346
  let c0_588 : Index := 0#32
  ![0, v1347.toNat, v1348.toNat, 0]
def k0_mult49 : BitVec 32 :=
  let c120_i32_277 : BitVec 32 := 120#32
  c120_i32_277
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S65536x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ActReferenceIdeal.lean ====
abbrev S16384x128 : Shape := ⟨2, ![16384, 128]⟩
abbrev S16384x1024 : Shape := ⟨2, ![16384, 1024]⟩
abbrev S1x1024 : Shape := ⟨2, ![1, 1024]⟩
abbrev S65536x128 : Shape := ⟨2, ![65536, 128]⟩
abbrev S16384x512 : Shape := ⟨2, ![16384, 512]⟩
abbrev S16384x512x2 : Shape := ⟨3, ![16384, 512, 2]⟩
abbrev S16384x512x1 : Shape := ⟨3, ![16384, 512, 1]⟩
abbrev S_ : Shape := ⟨0, ![]⟩
abbrev S16384 : Shape := ⟨1, ![16384]⟩
abbrev S16384x1 : Shape := ⟨2, ![16384, 1]⟩
abbrev S16384x128x1 : Shape := ⟨3, ![16384, 128, 1]⟩
abbrev S1 : Shape := ⟨1, ![1]⟩
abbrev S1x1x1 : Shape := ⟨3, ![1, 1, 1]⟩
abbrev S16384x128x1024 : Shape := ⟨3, ![16384, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16384x128, .i32⟩
  | .hbm, ⟨1, _⟩ => ⟨S16384x128, .f32⟩
  | .hbm, ⟨2, _⟩ => ⟨S16384x1024, .f32⟩
  | .hbm, ⟨3, _⟩ => ⟨S1x1024, .f32⟩
  | .hbm, ⟨4, _⟩ => ⟨S65536x128, .i32⟩
  | .hbm, ⟨5, _⟩ => ⟨S16384x512, .i32⟩
  | .hbm, ⟨6, _⟩ => ⟨S16384x512x2, .bf16⟩
  | .hbm, ⟨7, _⟩ => ⟨S16384x512x1, .bf16⟩
  | .hbm, ⟨8, _⟩ => ⟨S16384x512, .bf16⟩
  | .hbm, ⟨9, _⟩ => ⟨S16384x512x1, .bf16⟩
  | .hbm, ⟨10, _⟩ => ⟨S16384x512, .bf16⟩
  | .hbm, ⟨11, _⟩ => ⟨S16384x1024, .bf16⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .i32⟩
  | .hbm, ⟨29, _⟩ => ⟨S16384x128, .i32⟩
  | .hbm, ⟨30, _⟩ => ⟨S16384x128, .i1⟩
  | .hbm, ⟨31, _⟩ => ⟨S_, .i32⟩
  | .hbm, ⟨32, _⟩ => ⟨S16384x128, .i32⟩
  | .hbm, ⟨33, _⟩ => ⟨S16384x128, .i32⟩
  | .hbm, ⟨34, _⟩ => ⟨S16384x128, .i32⟩
  | .hbm, ⟨35, _⟩ => ⟨S16384x128x1, .i32⟩
  | .hbm, ⟨36, _⟩ => ⟨S1, .i32⟩
  | .hbm, ⟨37, _⟩ => ⟨S_, .i32⟩
  | .hbm, ⟨38, _⟩ => ⟨S16384x128x1, .i32⟩
  | .hbm, ⟨39, _⟩ => ⟨S16384x128x1, .i1⟩
  | .hbm, ⟨40, _⟩ => ⟨S1x1x1, .i32⟩
  | .hbm, ⟨41, _⟩ => ⟨S16384x128x1, .i32⟩
  | .hbm, ⟨42, _⟩ => ⟨S16384x128x1, .i1⟩
  | .hbm, ⟨43, _⟩ => ⟨S16384x128x1, .i1⟩
  | .hbm, ⟨44, _⟩ => ⟨S_, .i1⟩
  | .hbm, ⟨45, _⟩ => ⟨S16384x128, .i1⟩
  | .hbm, ⟨46, _⟩ => ⟨S16384x128x1024, .f32⟩
  | .hbm, ⟨47, _⟩ => ⟨S16384x128x1024, .i1⟩
  | .hbm, ⟨48, _⟩ => ⟨S_, .f32⟩
  | .hbm, ⟨49, _⟩ => ⟨S16384x128x1024, .f32⟩
  | .hbm, ⟨50, _⟩ => ⟨S16384x128x1024, .f32⟩
  | .hbm, ⟨51, _⟩ => ⟨S16384x128, .f32⟩
  | .hbm, ⟨52, _⟩ => ⟨S_, .f32⟩
  | .hbm, ⟨53, _⟩ => ⟨S16384x128, .f32⟩
  | .hbm, ⟨54, _⟩ => ⟨S16384x128, .f32⟩
  | .hbm, ⟨55, _⟩ => ⟨S16384x128, .f32⟩
  | .hbm, ⟨56, _⟩ => ⟨S_, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S16384x128, .f32⟩
  | .hbm, ⟨61, _⟩ => ⟨S16384x128, .f32⟩
  | _, _ => ⟨S16384x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v20 : Ref sig .tc := ⟨.hbm, 50, rfl⟩
abbrev main_v21 : Ref sig .tc := ⟨.hbm, 51, rfl⟩
abbrev main_cst_2 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩

abbrev nD : Nat := 1
abbrev τ : Topo := Topo.v7x

variable {F : FTy → Type} [FloatOps F]
-- ==== Proof.Act.Tile.lean ====
/-
  The rows a gather copies: which words of the tile a copy writes, and what they hold once `n` of a group's pairs are copied.
-/
module

public import proofs.«01_k».proof.Proof.Gen.ActIdeal.Loops
public import proofs.«01_k».proof.Proof.Gen.ActIdeal.Skeleton
public import Idealize.ShloMosaic.Lib.Pointwise
public import Idealize.ShloMosaic.Lib.Pipeline.Value
public import Idealize.ShloMosaic.Lib.ValueLayout
public import Idealize.ShloMosaic.Lib.Writes

@[expose] public section

set_option maxRecDepth 16384

noncomputable section

namespace Cert.ActIdeal.Rows

open Cert.ActIdeal Cert.ActIdeal.Gen
open Idealize.ShloMosaic Idealize.ShloMosaic.TcCoe

variable {F : FTy → Type} [FloatOps F]

abbrev UU (nD : Nat) (τ : Topo) : Type := UR sig nD τ
abbrev 𝒱₀ : Variants := Variants.none

/-- A word naming four rows of the table. -/
def Good (w : BitVec 32) : Prop := 4 ∣ w.toNat ∧ w.toNat + 4 ≤ 65536

theorem inb_row (w : BitVec 32) (h : Good w) : ∀ a, (![w.toNat, 0] : Fin 2 → Nat) a + S4x128.size a ≤ S65536x128.size a := fun a => match a with
  | ⟨0, _⟩ => h.2
  | ⟨1, _⟩ => Nat.le_refl 128

/-- The step words: zero, then seven ones. -/
def Ones (a b c d e f g i : BitVec 32) : Prop :=
  a = 0#32 ∧ b = 1#32 ∧ c = 1#32 ∧ d = 1#32 ∧ e = 1#32 ∧ f = 1#32 ∧ g = 1#32 ∧ i = 1#32

section Sums
variable {a b c d e f g i : BitVec 32} (h : Ones a b c d e f g i)
include h

theorem sum0 : (![(Scalar.indexCast a).toNat] : Fin 1 → Nat) = ![0] := by
  obtain ⟨rfl, rfl, rfl, rfl, rfl, rfl, rfl, rfl⟩ := h; rfl
theorem sum1 : (![(Scalar.indexCast (Scalar.addi a b)).toNat] : Fin 1 → Nat) = ![1] := by
  obtain ⟨rfl, rfl, rfl, rfl, rfl, rfl, rfl, rfl⟩ := h; rfl
theorem sum2 : (![(Scalar.indexCast (Scalar.addi (Scalar.addi a b) c)).toNat] : Fin 1 → Nat) = ![2] := by
  obtain ⟨rfl, rfl, rfl, rfl, rfl, rfl, rfl, rfl⟩ := h; rfl
theorem sum3 : (![(Scalar.indexCast (Scalar.addi (Scalar.addi (Scalar.addi a b) c) d)).toNat] : Fin 1 → Nat) = ![3] := by
  obtain ⟨rfl, rfl, rfl, rfl, rfl, rfl, rfl, rfl⟩ := h; rfl
theorem sum4 : (![(Scalar.indexCast (Scalar.addi (Scalar.addi (Scalar.addi (Scalar.addi a b) c) d) e)).toNat] : Fin 1 → Nat) = ![4] := by
  obtain ⟨rfl, rfl, rfl, rfl, rfl, rfl, rfl, rfl⟩ := h; rfl
theorem sum5 : (![(Scalar.indexCast (Scalar.addi (Scalar.addi (Scalar.addi (Scalar.addi (Scalar.addi a b) c) d) e) f)).toNat] : Fin 1 → Nat) = ![5] := by
  obtain ⟨rfl, rfl, rfl, rfl, rfl, rfl, rfl, rfl⟩ := h; rfl
theorem sum6 : (![(Scalar.indexCast (Scalar.addi (Scalar.addi (Scalar.addi (Scalar.addi (Scalar.addi (Scalar.addi a b) c) d) e) f) g)).toNat] : Fin 1 → Nat) = ![6] := by
  obtain ⟨rfl, rfl, rfl, rfl, rfl, rfl, rfl, rfl⟩ := h; rfl
theorem sum7 : (![(Scalar.indexCast (Scalar.addi (Scalar.addi (Scalar.addi (Scalar.addi (Scalar.addi (Scalar.addi (Scalar.addi a b) c) d) e) f) g) i)).toNat] : Fin 1 → Nat) = ![7] := by
  obtain ⟨rfl, rfl, rfl, rfl, rfl, rfl, rfl, rfl⟩ := h; rfl
end Sums

/-- Where a copy lands in the tile: buffer `β`, token `a`, pair `8 b + r`. -/
theorem landing (β : Nat) : ∀ (a : Fin 8) (b : Fin 16) (r : Fin 8),
    (![β, (Scalar.indexCast (Scf.iv 0#32 1#32 a)).toNat,
      (Scalar.indexCast (Scalar.addi (Scalar.muli (Scf.iv 0#32 1#32 b) 8#32) (BitVec.ofNat 32 r.val))).toNat, 0] : Fin 4 → Nat)
      = ![β, a.val, 8 * b.val + r.val, 0] := by
  have h : ∀ (a : Fin 8) (b : Fin 16) (r : Fin 8), (Scalar.indexCast (Scf.iv 0#32 1#32 a)).toNat = a.val
      ∧ (Scalar.indexCast (Scalar.addi (Scalar.muli (Scf.iv 0#32 1#32 b) 8#32) (BitVec.ofNat 32 r.val))).toNat = 8 * b.val + r.val := by
    decide +kernel
  intro a b r
  rw [(h a b r).1, (h a b r).2]

/-- Row `s` of the four a word names. -/
def rowOf (w : BitVec 32) (s : Nat) : Fin 65536 := ⟨(w.toNat + s) % 65536, Nat.mod_lt _ (by omega)⟩

/-- The tile's buffer `b` holds the rows of the first `n` pairs of a group whose word at token `tt` and pair `p` is `w tt p`. -/
@[reducible] def Filled (w : Nat → Nat → BitVec 32) (T : S65536x128.Idx → BitVec 32) (f : S2x8x544x128.Idx → BitVec 32) (b : Fin 2) (n : Nat) : Prop :=
  ∀ (tt : Fin 8) (p : Fin 128), 128 * tt.val + p.val < n → ∀ (s : Fin 4) (l : Fin 128),
    f (ix4 b tt (⟨136 * s.val + p.val, by omega⟩ : Fin 544) l) = T (ix2 (rowOf (w tt.val p.val) s.val) l)

theorem filled_zero (w : Nat → Nat → BitVec 32) (T : S65536x128.Idx → BitVec 32) (f : S2x8x544x128.Idx → BitVec 32) (b : Fin 2) :
    Filled w T f b 0 := fun _ _ h => absurd h (by omega)

section Put
variable {m9 : Memref sig .tc .vmem S2x8x544x128 .i32} {m7 : Memref sig .tc .vmem S65536x128 .i32}
  {c : Dev nD} {f9 : m9.view.ty.Contents (Elt F)} {f7 : m7.view.ty.Contents (Elt F)}
  {w : Nat → Nat → BitVec 32} {b : Fin 2} {L : List (View.Piece (Elt F) S2x8x544x128 .i32)}

theorem copied (off : Fin 2 → Nat) (wd : BitVec 32) (ho : off = ![wd.toNat, 0]) (hin hsc) (s : Fin 4) (l : Fin 128) :
    (shapeCast S1x1x4x128 (m7.view.readAt (Elt F) (Rect.unit (s := S65536x128) off S4x128.size hin).toLoadRect f7) hsc : Vec F S1x1x4x128 .i32)
        (ix4 (0 : Fin 1) (0 : Fin 1) s l)
      = m7.view.read (Elt F) f7 (ix2 (rowOf wd s.val) l) := by
  subst ho
  have h0 : wd.toNat + 4 ≤ 65536 := hin 0
  rw [Idealize.ShloMosaic.shapeCast_apply _ hsc _ (ix2 s l) (by
    rw [Shape.rowMajor_val_four, Shape.rowMajor_val_two]
    show s.val * 128 + l.val = ((0 * 1 + 0) * 4 + s.val) * 128 + l.val
    omega), View.readAt_apply]
  refine congrArg _ (funext fun a => Fin.ext ?_)
  match a with
  | ⟨0, _⟩ => show wd.toNat + 1 * s.val = (wd.toNat + s.val) % 65536; omega
  | ⟨1, _⟩ => show 0 + 1 * l.val = l.val; omega

/-- A copy of the next pair. -/
theorem Filled.put {a k : Nat} (ha : a < 8) (hk : k < 16) (r : Nat) (hr : r < 8)
    (h : Filled w (m7.view.read (Elt F) f7) (m9.view.read (Elt F) (m9.view.writes (Elt F) f9 L)) b (128 * a + 8 * k + r))
    {off : Fin 4 → Nat} {inb} {sp} {hsc : S4x128.ShapeCasts S1x1x4x128} {off7 : Fin 2 → Nat} {in7}
    (hoff : off = ![b.val, a, 8 * k + r, 0]) (h7 : off7 = ![(w a (8 * k + r)).toNat, 0]) :
    Filled w (m7.view.read (Elt F) f7) (m9.view.read (Elt F) (m9.view.writes (Elt F) f9
      (⟨⟨(⟨off, S1x1x4x128.size, ![1, 1, 136, 1], inb⟩ : LoadRect S2x8x544x128), sp⟩,
        shapeCast S1x1x4x128 (m7.view.readAt (Elt F) (Rect.unit (s := S65536x128) off7 S4x128.size in7).toLoadRect f7) hsc⟩ :: L))) b
      (128 * a + 8 * k + (r + 1)) := by
  subst hoff
  intro tt p hn s l
  by_cases e : tt.val = a ∧ p.val = 8 * k + r
  · obtain ⟨e0, e1⟩ := e
    rw [View.read_writes_cons_hit_of_coords _ _ _ _ _ (ix4 (0 : Fin 1) (0 : Fin 1) s l) _ (fun x => match x with
      | ⟨0, _⟩ => by show b.val = b.val + 1 * 0; omega
      | ⟨1, _⟩ => by show tt.val = a + 1 * 0; omega
      | ⟨2, _⟩ => by show 136 * s.val + p.val = 8 * k + r + 136 * s.val; omega
      | ⟨3, _⟩ => by show l.val = 0 + 1 * l.val; omega)]
    rw [e0, e1]
    exact copied off7 _ h7 in7 hsc s l
  · rw [View.read_writes_cons_miss]
    · exact h tt p (by omega) s l
    · intro hm
      obtain ⟨j1, hj1, e1⟩ := (LoadRect.mem_set _).mp hm 1
      obtain ⟨j2, hj2, e2⟩ := (LoadRect.mem_set _).mp hm 2
      have hj1' : j1 < 1 := hj1
      have hj2' : j2 < 4 := hj2
      have e1' : tt.val = a + 1 * j1 := e1
      have e2' : 136 * s.val + p.val = 8 * k + r + 136 * j2 := e2
      have := p.isLt
      omega

/-- A copy into the other buffer. -/
theorem Filled.keep {T : S65536x128.Idx → BitVec 32} {n : Nat}
    (h : Filled w T (m9.view.read (Elt F) (m9.view.writes (Elt F) f9 L)) b n)
    {off : Fin 4 → Nat} {inb} {sp} {pay : S1x1x4x128.Idx → Elt F .i32} (b' : Nat) (hb : b.val ≠ b')  (ho : off 0 = b') :
    Filled w T (m9.view.read (Elt F) (m9.view.writes (Elt F) f9
      (⟨⟨(⟨off, S1x1x4x128.size, ![1, 1, 136, 1], inb⟩ : LoadRect S2x8x544x128), sp⟩, pay⟩ :: L))) b n := by
  intro tt p hn s l
  rw [View.read_writes_cons_miss]
  · exact h tt p hn s l
  · intro hm
    obtain ⟨j, hj, e⟩ := (LoadRect.mem_set _).mp hm 0
    have hj' : j < 1 := hj
    have e' : b.val = off 0 + 1 * j := e
    omega

end Put

/-- The word of group `g`'s token `tt` and pair `p`. -/
def wordsOf (x : S128x128.Idx → BitVec 32) (g : Nat) : Nat → Nat → BitVec 32 :=
  fun tt p => x (ix2 (⟨(8 * g + tt) % 128, Nat.mod_lt _ (by omega)⟩ : Fin 128) (⟨p % 128, Nat.mod_lt _ (by omega)⟩ : Fin 128))

def nextWords (x : S1x8x128.Idx → BitVec 32) : Nat → Nat → BitVec 32 :=
  fun tt p => x (ix3 (0 : Fin 1) (⟨tt % 8, Nat.mod_lt _ (by omega)⟩ : Fin 8) (⟨p % 128, Nat.mod_lt _ (by omega)⟩ : Fin 128))

theorem word_read {m : Memref sig .tc .smem S128x128 .i32} {f : m.view.ty.Contents (Elt F)} {off : Fin 2 → Nat} {inb hst hsq} {o2 : Fin 1 → Nat} {in2}
    (g a k r : Nat) (hoff : off = ![8 * g + a, 8 * k]) (ho : o2 = ![r]) (x : S1.Idx) :
    (![(View.readAt (Elt F) ((m.slice (Rect.unit (s := S128x128) off S1x8.size inb) hst).squeeze S8 hsq).view
      (Rect.unit (s := S8) o2 S1.size in2).toLoadRect f x : BitVec 32).toNat, 0] : Fin 2 → Nat)
      = ![(wordsOf (m.view.read (Elt F) f) g a (8 * k + r)).toNat, 0] := by
  subst hoff ho
  have i0 : 8 * g + a + 1 ≤ 128 := inb 0
  have i1 : 8 * k + 8 ≤ 128 := inb 1
  have i2 : r + 1 ≤ 8 := in2 0
  have hx : (x 0).val < 1 := (x 0).isLt
  refine congrArg (fun z : BitVec 32 => (![z.toNat, 0] : Fin 2 → Nat)) ?_
  show m.view.read (Elt F) f ((Rect.unit (s := S128x128) ![8 * g + a, 8 * k] S1x8.size inb).emb
    (Shape.reshapeEquiv _ ((Rect.unit (s := S8) ![r] S1.size in2).toLoadRect.idx x))) = _
  rw [Shape.reshapeEquiv_eq_of_rowMajor (y := ix2 (0 : Fin 1) (⟨r, by omega⟩ : Fin 8)) _ (by
    rw [Shape.rowMajor_val_one, Shape.rowMajor_val_two]
    show 0 * 8 + r = r + 1 * (x 0).val
    omega)]
  refine congrArg _ (funext fun q => Fin.ext ?_)
  match q with
  | ⟨0, _⟩ => show 8 * g + a + 1 * 0 = (8 * g + a) % 128; omega
  | ⟨1, _⟩ => show 8 * k + 1 * r = (8 * k + r) % 128; omega

theorem next_word_read {m : Memref sig .tc .smem S1x8x128 .i32} {f : m.view.ty.Contents (Elt F)} {off : Fin 3 → Nat} {inb hst hsq} {o2 : Fin 1 → Nat} {in2}
    (a k r : Nat) (hoff : off = ![0, a, 8 * k]) (ho : o2 = ![r]) (x : S1.Idx) :
    (![(View.readAt (Elt F) ((m.slice (Rect.unit (s := S1x8x128) off S1x1x8.size inb) hst).squeeze S8 hsq).view
      (Rect.unit (s := S8) o2 S1.size in2).toLoadRect f x : BitVec 32).toNat, 0] : Fin 2 → Nat)
      = ![(nextWords (m.view.read (Elt F) f) a (8 * k + r)).toNat, 0] := by
  subst hoff ho
  have i0 : a + 1 ≤ 8 := inb 1
  have i1 : 8 * k + 8 ≤ 128 := inb 2
  have i2 : r + 1 ≤ 8 := in2 0
  have hx : (x 0).val < 1 := (x 0).isLt
  refine congrArg (fun z : BitVec 32 => (![z.toNat, 0] : Fin 2 → Nat)) ?_
  show m.view.read (Elt F) f ((Rect.unit (s := S1x8x128) ![0, a, 8 * k] S1x1x8.size inb).emb
    (Shape.reshapeEquiv _ ((Rect.unit (s := S8) ![r] S1.size in2).toLoadRect.idx x))) = _
  rw [Shape.reshapeEquiv_eq_of_rowMajor (y := ix3 (0 : Fin 1) (0 : Fin 1) (⟨r, by omega⟩ : Fin 8)) _ (by
    rw [Shape.rowMajor_val_one, Shape.rowMajor_val_three]
    show (0 * 1 + 0) * 8 + r = r + 1 * (x 0).val
    omega)]
  refine congrArg _ (funext fun q => Fin.ext ?_)
  match q with
  | ⟨0, _⟩ => rfl
  | ⟨1, _⟩ => show a + 1 * 0 = a % 8; omega
  | ⟨2, _⟩ => show 8 * k + 1 * r = (8 * k + r) % 128; omega

/-! The first word of a gather's row at each of its trips. -/

theorem slice2 : ∀ (a : Fin k0_t1_loop.trips) (b : Fin k0_t2_loop.trips), k0_off1 a b = ![8 * 0 + a.val, 8 * b.val] := by decide +kernel
theorem slice5 : ∀ (t : Fin k0_t3_loop.trips) (a : Fin k0_t4_loop.trips) (b : Fin k0_t5_loop.trips),
    k0_off33 t a b = ![8 * (2 * t.val + 1) + a.val, 8 * b.val] := by decide +kernel
theorem slice7 : ∀ (t : Fin k0_t3_loop.trips) (a : Fin k0_t6_loop.trips) (b : Fin k0_t7_loop.trips),
    k0_off66 t a b = ![8 * (2 * t.val + 2) + a.val, 8 * b.val] := by decide +kernel
theorem slice9 : ∀ (a : Fin k0_t8_loop.trips) (b : Fin k0_t9_loop.trips), k0_off99 a b = ![8 * 15 + a.val, 8 * b.val] := by decide +kernel
theorem slice11 : ∀ (a : Fin k0_t10_loop.trips) (b : Fin k0_t11_loop.trips), k0_off131 a b = ![0, a.val, 8 * b.val] := by decide +kernel

end Cert.ActIdeal.Rows
-- ==== Proof.Act.GatherOdd.lean ====
/-
  The gathers, trip by trip: each copies the four table rows its words name into the tile.
-/
module

public import proofs.«01_k».proof.Proof.Act.Tile
public import Idealize.ShloMosaic.Lib.Tactic.Stretches

@[expose] public section

set_option maxRecDepth 16384
set_option warn.classDefReducibility false

noncomputable section

namespace Cert.ActIdeal.Rows

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

@[sl_loop] def loopInv_k0_t5 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f7 : Buf (Elt F) (arg7.view.loc (c : Thread nD τ)))
    (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v33 : BitVec 32) (v34 : Elt F .i32) (k0_hw15 : k0_chk15 i v21 v22 v24 v26 v28 v30 v32 v34) (v35 : BitVec 32) (c0_i32_18 : BitVec 32) (c1_i32 : BitVec 32) (k0_t3 : Fin k0_t3_loop.trips) (v1240 : BitVec 32) (k0_t4 : Fin k0_t4_loop.trips) (arg13 : BitVec 32) :
    LoopInvTy_k0_t5 (F := F) Unit ℕ (UU nD τ) ℕ 𝒱₀ c none Set.univ i arg1 harg1 arg2 harg2 arg3 harg3 arg4 harg4 arg5 harg5 arg6 harg6 arg7 harg7 arg8 harg8 arg9 harg9 arg10 harg10 v21 k0_hw1 v22 k0_hw3 v23 v24 k0_hw5 v25 v26 k0_hw7 v27 v28 k0_hw9 v29 v30 k0_hw11 v31 v32 k0_hw13 v33 v34 k0_hw15 v35 c0_i32_18 c1_i32 k0_t3 v1240 k0_t4 arg13 where
  inv k _ := iprop(⌜Ones v21 v22 v24 v26 v28 v30 v32 v34⌝ ∗ ⌜∀ y, Good (arg1.view.read (Elt F) f1 y)⌝
    ∗ (arg1.view.loc (c : Thread nD τ) ↦[arg1.view.set]{fullShare} f1) ∗ (arg7.view.loc (c : Thread nD τ) ↦[arg7.view.set]{fullShare} f7)
    ∗ ∃ f9, ⌜Filled (wordsOf (arg1.view.read (Elt F) f1) (2 * k0_t3.val + 1)) (arg7.view.read (Elt F) f7) (arg9.view.read (Elt F) f9) 1 (128 * k0_t4.val + 8 * k)⌝ ∗ ⌜Filled (wordsOf (arg1.view.read (Elt F) f1) (2 * k0_t3.val)) (arg7.view.read (Elt F) f7) (arg9.view.read (Elt F) f9) 0 1024⌝ ∗ (arg9.view.loc (c : Thread nD τ) ↦[arg9.view.set]{fullShare} f9))
  step k _ := by
    have ha : k0_t4.val < 8 := k0_t4.isLt
    have hk : k.val < 16 := k.isLt
    unfold k0_t5_body
    iintro ⟨%ho, %hg, H1, H7, %f9, %h, %h2, H9⟩
    sl_exec_parts (disch := exact ⟨(hg _).1, inb_row _ (hg _)⟩)
    sl_step
    isplitr; · ipureintro; exact ho
    isplitr; · ipureintro; exact hg
    isplitl [H1]; · iexact H1
    isplitl [H7]; · iexact H7
    iexists _
    isplitr
    swap
    · isplitr
      swap
      · iexact H9
      ipureintro
      sl_open_run
      exact ((((((((h2.keep 1 (by decide) rfl).keep 1 (by decide) rfl).keep 1 (by decide) rfl).keep 1 (by decide) rfl).keep 1 (by decide) rfl).keep 1 (by decide) rfl).keep 1 (by decide) rfl).keep 1 (by decide) rfl)
    ipureintro
    sl_open_run
    sl_open_pay
    exact (Filled.put ha hk 7 (by decide) (Filled.put ha hk 6 (by decide) (Filled.put ha hk 5 (by decide) (Filled.put ha hk 4 (by decide) (Filled.put ha hk 3 (by decide) (Filled.put ha hk 2 (by decide) (Filled.put ha hk 1 (by decide) (Filled.put ha hk 0 (by decide) h (landing 1 k0_t4 k 0) (word_read (2 * k0_t3.val + 1) k0_t4.val k.val 0 (slice5 k0_t3 k0_t4 k) (sum0 ho) _)) (landing 1 k0_t4 k 1) (word_read (2 * k0_t3.val + 1) k0_t4.val k.val 1 (slice5 k0_t3 k0_t4 k) (sum1 ho) _)) (landing 1 k0_t4 k 2) (word_read (2 * k0_t3.val + 1) k0_t4.val k.val 2 (slice5 k0_t3 k0_t4 k) (sum2 ho) _)) (landing 1 k0_t4 k 3) (word_read (2 * k0_t3.val + 1) k0_t4.val k.val 3 (slice5 k0_t3 k0_t4 k) (sum3 ho) _)) (landing 1 k0_t4 k 4) (word_read (2 * k0_t3.val + 1) k0_t4.val k.val 4 (slice5 k0_t3 k0_t4 k) (sum4 ho) _)) (landing 1 k0_t4 k 5) (word_read (2 * k0_t3.val + 1) k0_t4.val k.val 5 (slice5 k0_t3 k0_t4 k) (sum5 ho) _)) (landing 1 k0_t4 k 6) (word_read (2 * k0_t3.val + 1) k0_t4.val k.val 6 (slice5 k0_t3 k0_t4 k) (sum6 ho) _)) (landing 1 k0_t4 k 7) (word_read (2 * k0_t3.val + 1) k0_t4.val k.val 7 (slice5 k0_t3 k0_t4 k) (sum7 ho) _))

@[sl_loop] def loopInv_k0_t4 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f7 : Buf (Elt F) (arg7.view.loc (c : Thread nD τ)))
    (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v33 : BitVec 32) (v34 : Elt F .i32) (k0_hw15 : k0_chk15 i v21 v22 v24 v26 v28 v30 v32 v34) (v35 : BitVec 32) (c0_i32_18 : BitVec 32) (c1_i32 : BitVec 32) (k0_t3 : Fin k0_t3_loop.trips) (v1240 : BitVec 32) :
    LoopInvTy_k0_t4 (F := F) Unit ℕ (UU nD τ) ℕ 𝒱₀ c none Set.univ i arg1 harg1 arg2 harg2 arg3 harg3 arg4 harg4 arg5 harg5 arg6 harg6 arg7 harg7 arg8 harg8 arg9 harg9 arg10 harg10 v21 k0_hw1 v22 k0_hw3 v23 v24 k0_hw5 v25 v26 k0_hw7 v27 v28 k0_hw9 v29 v30 k0_hw11 v31 v32 k0_hw13 v33 v34 k0_hw15 v35 c0_i32_18 c1_i32 k0_t3 v1240 where
  inv k _ := iprop(⌜Ones v21 v22 v24 v26 v28 v30 v32 v34⌝ ∗ ⌜∀ y, Good (arg1.view.read (Elt F) f1 y)⌝
    ∗ (arg1.view.loc (c : Thread nD τ) ↦[arg1.view.set]{fullShare} f1) ∗ (arg7.view.loc (c : Thread nD τ) ↦[arg7.view.set]{fullShare} f7)
    ∗ ∃ f9, ⌜Filled (wordsOf (arg1.view.read (Elt F) f1) (2 * k0_t3.val + 1)) (arg7.view.read (Elt F) f7) (arg9.view.read (Elt F) f9) 1 (128 * k)⌝ ∗ ⌜Filled (wordsOf (arg1.view.read (Elt F) f1) (2 * k0_t3.val)) (arg7.view.read (Elt F) f7) (arg9.view.read (Elt F) f9) 0 1024⌝ ∗ (arg9.view.loc (c : Thread nD τ) ↦[arg9.view.set]{fullShare} f9))
  step k _ := by
    unfold k0_t4_body
    iintro ⟨%ho, %hg, H1, H7, %f9, %h, %h2, H9⟩
    sl_exec
    sl_step
    isplitr; · ipureintro; exact ho
    isplitr; · ipureintro; exact hg
    isplitl [H1]; · iexact H1
    isplitl [H7]; · iexact H7
    iexists _
    isplitr
    swap
    · isplitr
      swap
      · iexact H9
      ipureintro
      assumption
    ipureintro
    assumption

end Cert.ActIdeal.Rows
-- ==== Proof.Act.GatherEven.lean ====
/-
  The gathers, trip by trip: each copies the four table rows its words name into the tile.
-/
module

public import proofs.«01_k».proof.Proof.Act.Tile
public import Idealize.ShloMosaic.Lib.Tactic.Stretches

@[expose] public section

set_option maxRecDepth 16384
set_option warn.classDefReducibility false

noncomputable section

namespace Cert.ActIdeal.Rows

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

@[sl_loop] def loopInv_k0_t7 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f7 : Buf (Elt F) (arg7.view.loc (c : Thread nD τ)))
    (v18 : FVec F S128x128 .f32) (v19 : IVec S128x128 32) (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v33 : BitVec 32) (v34 : Elt F .i32) (k0_hw15 : k0_chk15 i v21 v22 v24 v26 v28 v30 v32 v34) (v35 : BitVec 32) (k0_t3 : Fin k0_t3_loop.trips) (v1237 : BitVec 32) (v1763 : FVec F S128x128 .f32) (v1764 : BitVec 32) (v1809 : FVec F S128x128 .f32) (v1814 : FVec F S128x128 .f32) (v1815 : FVec F S128x128 .f32) (v1840 : BitVec 32) (k0_t6 : Fin k0_t6_loop.trips) (arg13 : BitVec 32) :
    LoopInvTy_k0_t7 (F := F) Unit ℕ (UU nD τ) ℕ 𝒱₀ c none Set.univ i arg1 harg1 arg2 harg2 arg3 harg3 arg4 harg4 arg5 harg5 arg6 harg6 arg7 harg7 arg8 harg8 arg9 harg9 arg10 harg10 v18 v19 v21 k0_hw1 v22 k0_hw3 v23 v24 k0_hw5 v25 v26 k0_hw7 v27 v28 k0_hw9 v29 v30 k0_hw11 v31 v32 k0_hw13 v33 v34 k0_hw15 v35 k0_t3 v1237 v1763 v1764 v1809 v1814 v1815 v1840 k0_t6 arg13 where
  inv k _ := iprop(⌜Ones v21 v22 v24 v26 v28 v30 v32 v34⌝ ∗ ⌜∀ y, Good (arg1.view.read (Elt F) f1 y)⌝
    ∗ (arg1.view.loc (c : Thread nD τ) ↦[arg1.view.set]{fullShare} f1) ∗ (arg7.view.loc (c : Thread nD τ) ↦[arg7.view.set]{fullShare} f7)
    ∗ ∃ f9, ⌜Filled (wordsOf (arg1.view.read (Elt F) f1) (2 * k0_t3.val + 2)) (arg7.view.read (Elt F) f7) (arg9.view.read (Elt F) f9) 0 (128 * k0_t6.val + 8 * k)⌝ ∗ ⌜Filled (wordsOf (arg1.view.read (Elt F) f1) (2 * k0_t3.val + 1)) (arg7.view.read (Elt F) f7) (arg9.view.read (Elt F) f9) 1 1024⌝ ∗ (arg9.view.loc (c : Thread nD τ) ↦[arg9.view.set]{fullShare} f9))
  step k _ := by
    have ha : k0_t6.val < 8 := k0_t6.isLt
    have hk : k.val < 16 := k.isLt
    unfold k0_t7_body
    iintro ⟨%ho, %hg, H1, H7, %f9, %h, %h2, H9⟩
    sl_exec_parts (disch := exact ⟨(hg _).1, inb_row _ (hg _)⟩)
    sl_step
    isplitr; · ipureintro; exact ho
    isplitr; · ipureintro; exact hg
    isplitl [H1]; · iexact H1
    isplitl [H7]; · iexact H7
    iexists _
    isplitr
    swap
    · isplitr
      swap
      · iexact H9
      ipureintro
      sl_open_run
      exact ((((((((h2.keep 0 (by decide) rfl).keep 0 (by decide) rfl).keep 0 (by decide) rfl).keep 0 (by decide) rfl).keep 0 (by decide) rfl).keep 0 (by decide) rfl).keep 0 (by decide) rfl).keep 0 (by decide) rfl)
    ipureintro
    sl_open_run
    sl_open_pay
    exact (Filled.put ha hk 7 (by decide) (Filled.put ha hk 6 (by decide) (Filled.put ha hk 5 (by decide) (Filled.put ha hk 4 (by decide) (Filled.put ha hk 3 (by decide) (Filled.put ha hk 2 (by decide) (Filled.put ha hk 1 (by decide) (Filled.put ha hk 0 (by decide) h (landing 0 k0_t6 k 0) (word_read (2 * k0_t3.val + 2) k0_t6.val k.val 0 (slice7 k0_t3 k0_t6 k) (sum0 ho) _)) (landing 0 k0_t6 k 1) (word_read (2 * k0_t3.val + 2) k0_t6.val k.val 1 (slice7 k0_t3 k0_t6 k) (sum1 ho) _)) (landing 0 k0_t6 k 2) (word_read (2 * k0_t3.val + 2) k0_t6.val k.val 2 (slice7 k0_t3 k0_t6 k) (sum2 ho) _)) (landing 0 k0_t6 k 3) (word_read (2 * k0_t3.val + 2) k0_t6.val k.val 3 (slice7 k0_t3 k0_t6 k) (sum3 ho) _)) (landing 0 k0_t6 k 4) (word_read (2 * k0_t3.val + 2) k0_t6.val k.val 4 (slice7 k0_t3 k0_t6 k) (sum4 ho) _)) (landing 0 k0_t6 k 5) (word_read (2 * k0_t3.val + 2) k0_t6.val k.val 5 (slice7 k0_t3 k0_t6 k) (sum5 ho) _)) (landing 0 k0_t6 k 6) (word_read (2 * k0_t3.val + 2) k0_t6.val k.val 6 (slice7 k0_t3 k0_t6 k) (sum6 ho) _)) (landing 0 k0_t6 k 7) (word_read (2 * k0_t3.val + 2) k0_t6.val k.val 7 (slice7 k0_t3 k0_t6 k) (sum7 ho) _))

@[sl_loop] def loopInv_k0_t6 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f7 : Buf (Elt F) (arg7.view.loc (c : Thread nD τ)))
    (v18 : FVec F S128x128 .f32) (v19 : IVec S128x128 32) (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v33 : BitVec 32) (v34 : Elt F .i32) (k0_hw15 : k0_chk15 i v21 v22 v24 v26 v28 v30 v32 v34) (v35 : BitVec 32) (k0_t3 : Fin k0_t3_loop.trips) (v1237 : BitVec 32) (v1763 : FVec F S128x128 .f32) (v1764 : BitVec 32) (v1809 : FVec F S128x128 .f32) (v1814 : FVec F S128x128 .f32) (v1815 : FVec F S128x128 .f32) (v1840 : BitVec 32) :
    LoopInvTy_k0_t6 (F := F) Unit ℕ (UU nD τ) ℕ 𝒱₀ c none Set.univ i arg1 harg1 arg2 harg2 arg3 harg3 arg4 harg4 arg5 harg5 arg6 harg6 arg7 harg7 arg8 harg8 arg9 harg9 arg10 harg10 v18 v19 v21 k0_hw1 v22 k0_hw3 v23 v24 k0_hw5 v25 v26 k0_hw7 v27 v28 k0_hw9 v29 v30 k0_hw11 v31 v32 k0_hw13 v33 v34 k0_hw15 v35 k0_t3 v1237 v1763 v1764 v1809 v1814 v1815 v1840 where
  inv k _ := iprop(⌜Ones v21 v22 v24 v26 v28 v30 v32 v34⌝ ∗ ⌜∀ y, Good (arg1.view.read (Elt F) f1 y)⌝
    ∗ (arg1.view.loc (c : Thread nD τ) ↦[arg1.view.set]{fullShare} f1) ∗ (arg7.view.loc (c : Thread nD τ) ↦[arg7.view.set]{fullShare} f7)
    ∗ ∃ f9, ⌜Filled (wordsOf (arg1.view.read (Elt F) f1) (2 * k0_t3.val + 2)) (arg7.view.read (Elt F) f7) (arg9.view.read (Elt F) f9) 0 (128 * k)⌝ ∗ ⌜Filled (wordsOf (arg1.view.read (Elt F) f1) (2 * k0_t3.val + 1)) (arg7.view.read (Elt F) f7) (arg9.view.read (Elt F) f9) 1 1024⌝ ∗ (arg9.view.loc (c : Thread nD τ) ↦[arg9.view.set]{fullShare} f9))
  step k _ := by
    unfold k0_t6_body
    iintro ⟨%ho, %hg, H1, H7, %f9, %h, %h2, H9⟩
    sl_exec
    sl_step
    isplitr; · ipureintro; exact ho
    isplitr; · ipureintro; exact hg
    isplitl [H1]; · iexact H1
    isplitl [H7]; · iexact H7
    iexists _
    isplitr
    swap
    · isplitr
      swap
      · iexact H9
      ipureintro
      assumption
    ipureintro
    assumption

end Cert.ActIdeal.Rows
-- ==== Proof.Act.Coef.lean ====
/-
  The experts' coefficients of a group of eight tokens, as the kernel computes them from the gathered rows: the words' halves times the token's
  values, summed by lanes, through the GELU, times the gate's column, into the token's lane.
-/
module

public import proofs.«01_k».proof.Proof.Act.Tile
public import Idealize.ShloMosaic.Lib.VecWindow

@[expose] public section

set_option maxRecDepth 16384

noncomputable section

namespace Cert.ActIdeal.Rows

open Cert.ActIdeal Cert.ActIdeal.Gen
open Idealize.ShloMosaic Idealize.ShloMosaic.TcCoe

variable {F : FTy → Type} [FloatOps F]

theorem row_slice (tt : Fin 8) (o : Nat) (h : o + 128 ≤ 1024) : S8x1024.Slices ![tt.val, o] S1x128 :=
  ⟨rfl, fun a => match a with
    | ⟨0, _⟩ => tt.isLt
    | ⟨1, _⟩ => h⟩

/-- Chunk `j`'s products added to a sum by lanes. -/
def chunk (tile : Vec F S128x128 .i32) (h8 : Vec F S8x1024 .f32) (tt : Fin 8) (j : Fin 4) (acc : FVec F S128x128 .f32) : FVec F S128x128 .f32 :=
  addf (addf acc
      (mulf (unpackElementwise 0 tile (by decide)) (broadcastTo S128x128 (extractStridedSlice S1x128 ![tt.val, 128 * j.val] h8 (row_slice tt _ (by omega))) broadcasts_S1x128_S128x128)))
    (mulf (unpackElementwise 1 tile (by decide)) (broadcastTo S128x128 (extractStridedSlice S1x128 ![tt.val, 512 + 128 * j.val] h8 (row_slice tt _ (by omega))) broadcasts_S1x128_S128x128))

/-- The pairs' dot products with a token's values. -/
def dots (ld : Fin 4 → Vec F S128x128 .i32) (h8 : Vec F S8x1024 .f32) (tt : Fin 8) : FVec F S128x1 .f32 :=
  shapeCast S128x1 (multiReduction .add [1] S128
    (chunk (ld ⟨3, by omega⟩) h8 tt ⟨3, by omega⟩ (chunk (ld ⟨2, by omega⟩) h8 tt ⟨2, by omega⟩ (chunk (ld ⟨1, by omega⟩) h8 tt ⟨1, by omega⟩
      (chunk (ld ⟨0, by omega⟩) h8 tt ⟨0, by omega⟩ (broadcast S128x128 (Scalar.ofBits .f32 0x00000000#32))))))
    0x00000000#32 reduces_S128x128_S128 (.inl rfl) rfl) shapeCasts_S128_S128x1

/-- A token's coefficients put into its lane. -/
def token (v18 : FVec F S128x128 .f32) (v19 : IVec S128x128 32) (t : BitVec 32) (ld : Fin 4 → Vec F S128x128 .i32) (h8 : Vec F S8x1024 .f32) (tt : Fin 8)
    (acc : FVec F S128x128 .f32) : FVec F S128x128 .f32 :=
  select (cmpi .eq v19 (broadcast S128x128 t))
    (broadcastTo S128x128 (shapeCast S128x1
      (mulf (shapeCast S128x1 (multiReduction .add [1] S128 (select (cmpi .eq v19 (broadcast S128x128 t)) v18 (broadcast S128x128 (Scalar.ofBits .f32 0x00000000#32)))
          0x00000000#32 reduces_S128x128_S128 (.inl rfl) rfl) shapeCasts_S128_S128x1)
        (mulf (mulf (broadcast S128x1 (Scalar.ofBits .f32 0x3F000000#32)) (dots ld h8 tt))
          (addf (broadcast S128x1 (Scalar.ofBits .f32 0x3F800000#32)) (erf (mulf (dots ld h8 tt) (broadcast S128x1 (Scalar.ofBits .f32 0x3F3504F3#32)))))))
      shapeCasts_S128x1_S128x1) broadcasts_S128x1_S128x128)
    acc

/-- The eight tokens of a group whose first is `base`. -/
def group (v18 : FVec F S128x128 .f32) (v19 : IVec S128x128 32) (base : BitVec 32) (ld : Fin 8 → Fin 4 → Vec F S128x128 .i32) (h8 : Vec F S8x1024 .f32)
    (acc : FVec F S128x128 .f32) : FVec F S128x128 .f32 :=
  token v18 v19 (Scalar.addi base 7#32) (ld ⟨7, by omega⟩) h8 ⟨7, by omega⟩ (token v18 v19 (Scalar.addi base 6#32) (ld ⟨6, by omega⟩) h8 ⟨6, by omega⟩
    (token v18 v19 (Scalar.addi base 5#32) (ld ⟨5, by omega⟩) h8 ⟨5, by omega⟩ (token v18 v19 (Scalar.addi base 4#32) (ld ⟨4, by omega⟩) h8 ⟨4, by omega⟩
      (token v18 v19 (Scalar.addi base 3#32) (ld ⟨3, by omega⟩) h8 ⟨3, by omega⟩ (token v18 v19 (Scalar.addi base 2#32) (ld ⟨2, by omega⟩) h8 ⟨2, by omega⟩
        (token v18 v19 (Scalar.addi base 1#32) (ld ⟨1, by omega⟩) h8 ⟨1, by omega⟩ (token v18 v19 (Scalar.addi base 0#32) (ld ⟨0, by omega⟩) h8 ⟨0, by omega⟩ acc)))))))

theorem tile_inb (b : Fin 2) (tt : Fin 8) : ∀ a, (![b.val, tt.val, 0, 0] : Fin 4 → Nat) a + S1x1x544x128.size a ≤ S2x8x544x128.size a := fun a => match a with
  | ⟨0, _⟩ => b.isLt
  | ⟨1, _⟩ => tt.isLt
  | ⟨2, _⟩ => Nat.le_refl 544
  | ⟨3, _⟩ => Nat.le_refl 128

theorem chunk_inb (j : Fin 4) : ∀ a, (![136 * j.val, 0] : Fin 2 → Nat) a + S128x128.size a ≤ S544x128.size a := fun a => match a with
  | ⟨0, _⟩ => by show 136 * j.val + 128 ≤ 544; omega
  | ⟨1, _⟩ => Nat.le_refl 128

/-- Chunk `j` of token `tt`'s rows in buffer `b`. -/
def chunkRows (m9 : Memref sig .tc .vmem S2x8x544x128 .i32) (f9 : m9.view.ty.Contents (Elt F)) (b : Fin 2) (tt : Fin 8) (j : Fin 4) : Vec F S128x128 .i32 :=
  View.readAt (Elt F) ((m9.slice (Rect.unit (s := S2x8x544x128) ![b.val, tt.val, 0, 0] S1x1x544x128.size (tile_inb b tt)) (fun _ => rfl)).squeeze S544x128
    squeezes_S1x1x544x128_S544x128).view (Rect.unit (s := S544x128) ![136 * j.val, 0] S128x128.size (chunk_inb j)).toLoadRect f9

/-- Chunk `j` of the table's rows a group's words name at token `tt`. -/
def tableRows (w : Nat → Nat → BitVec 32) (T : S65536x128.Idx → BitVec 32) (tt : Fin 8) (j : Fin 4) : Vec F S128x128 .i32 :=
  fun y => T (ix2 (rowOf (w tt.val (y 0).val) j.val) (⟨(y 1).val, (y 1).isLt⟩ : Fin 128))

/-- The eight rows of group `g`. -/
def groupRows (h : S128x1024.Idx → F .f32) (g : Nat) : Vec F S8x1024 .f32 :=
  fun y => h (ix2 (⟨(8 * g + (y 0).val) % 128, Nat.mod_lt _ (by omega)⟩ : Fin 128) (⟨(y 1).val, (y 1).isLt⟩ : Fin 1024))

theorem chunkRows_of {m9 : Memref sig .tc .vmem S2x8x544x128 .i32} {f9 : m9.view.ty.Contents (Elt F)} {w : Nat → Nat → BitVec 32} {T : S65536x128.Idx → BitVec 32} {b : Fin 2}
    (h : Filled w T (m9.view.read (Elt F) f9) b 1024) : chunkRows m9 f9 b = tableRows w T := by
  funext tt j y
  have h0 : (y 0).val < 128 := (y 0).isLt
  have h1 : (y 1).val < 128 := (y 1).isLt
  refine Eq.trans ?_ (h tt ⟨(y 0).val, h0⟩ (by show 128 * tt.val + (y 0).val < 1024; omega) j ⟨(y 1).val, h1⟩)
  show m9.view.read (Elt F) f9 ((Rect.unit (s := S2x8x544x128) ![b.val, tt.val, 0, 0] S1x1x544x128.size (tile_inb b tt)).emb
    (Shape.reshapeEquiv _ ((Rect.unit (s := S544x128) ![136 * j.val, 0] S128x128.size (chunk_inb j)).toLoadRect.idx y))) = _
  rw [Shape.reshapeEquiv_eq_of_rowMajor (y := ix4 (0 : Fin 1) (0 : Fin 1) (⟨136 * j.val + (y 0).val, by omega⟩ : Fin 544) (⟨(y 1).val, h1⟩ : Fin 128)) _ (by
    rw [Shape.rowMajor_val_four, Shape.rowMajor_val_two]
    show ((0 * 1 + 0) * 544 + (136 * j.val + (y 0).val)) * 128 + (y 1).val = (136 * j.val + 1 * (y 0).val) * 128 + (0 + 1 * (y 1).val)
    omega)]
  refine congrArg _ (funext fun q => Fin.ext ?_)
  match q with
  | ⟨0, _⟩ => show b.val + 1 * 0 = b.val; omega
  | ⟨1, _⟩ => show tt.val + 1 * 0 = tt.val; omega
  | ⟨2, _⟩ => show 0 + 1 * (136 * j.val + (y 0).val) = 136 * j.val + (y 0).val; omega
  | ⟨3, _⟩ => show 0 + 1 * (y 1).val = (y 1).val; omega

theorem groupRows_of {m : Memref sig .tc .vmem S128x1024 .f32} {f : m.view.ty.Contents (Elt F)} {off : Fin 2 → Nat} {inb} (g : Nat) (ho : off = ![8 * g, 0]) :
    (View.readAt (Elt F) m.view (Rect.unit (s := S128x1024) off S8x1024.size inb).toLoadRect f : Vec F S8x1024 .f32) = groupRows (m.view.read (Elt F) f) g := by
  subst ho
  funext y
  have h0 : 8 * g + 8 ≤ 128 := inb 0
  have h1 : (y 0).val < 8 := (y 0).isLt
  rw [View.readAt_apply]
  refine congrArg _ (funext fun q => Fin.ext ?_)
  match q with
  | ⟨0, _⟩ => show 8 * g + 1 * (y 0).val = (8 * g + (y 0).val) % 128; omega
  | ⟨1, _⟩ => show 0 + 1 * (y 1).val = (y 1).val; omega

/-- The lanes after the first `g` groups. -/
def lanes (v18 : FVec F S128x128 .f32) (v19 : IVec S128x128 32) (x : S128x128.Idx → BitVec 32) (T : S65536x128.Idx → BitVec 32) (h : S128x1024.Idx → F .f32) :
    Nat → FVec F S128x128 .f32
  | 0 => broadcast S128x128 (Scalar.ofBits .f32 0x00000000#32)
  | g + 1 => group v18 v19 (Scalar.muli (BitVec.ofNat 32 g) 8#32) (tableRows (wordsOf x g) T) (groupRows h g) (lanes v18 v19 x T h g)

theorem group_lanes {m9 : Memref sig .tc .vmem S2x8x544x128 .i32} {f9 : m9.view.ty.Contents (Elt F)} {m : Memref sig .tc .vmem S128x1024 .f32} {f : m.view.ty.Contents (Elt F)}
    {x : S128x128.Idx → BitVec 32} {T : S65536x128.Idx → BitVec 32} {v18 : FVec F S128x128 .f32} {v19 : IVec S128x128 32} {acc : FVec F S128x128 .f32} {off : Fin 2 → Nat} {inb}
    {gw : BitVec 32} (g : Nat) (b : Fin 2) (h : Filled (wordsOf x g) T (m9.view.read (Elt F) f9) b 1024) (hg : gw = BitVec.ofNat 32 g) (ho : off = ![8 * g, 0])
    (ha : acc = lanes v18 v19 x T (m.view.read (Elt F) f) g) :
    group v18 v19 (Scalar.muli gw 8#32) (chunkRows m9 f9 b) (View.readAt (Elt F) m.view (Rect.unit (s := S128x1024) off S8x1024.size inb).toLoadRect f) acc
      = lanes v18 v19 x T (m.view.read (Elt F) f) (g + 1) := by
  rw [chunkRows_of h, groupRows_of g ho, hg, ha]
  rfl

/-- The last two groups' coefficients, read from the tile's two buffers and from the normalised tokens just stored. -/
theorem last_groups {m9 : Memref sig .tc .vmem S2x8x544x128 .i32} {fa fb : m9.view.ty.Contents (Elt F)} {m : Memref sig .tc .vmem S128x1024 .f32} {inb0 inba inbb}
    {p : FVec F S128x1024 .f32} {x : S128x128.Idx → BitVec 32} {T : S65536x128.Idx → BitVec 32} {v18 : FVec F S128x128 .f32} {v19 : IVec S128x128 32} {acc : FVec F S128x128 .f32}
    (ha : Filled (wordsOf x 14) T (m9.view.read (Elt F) fa) 0 1024) (hb : Filled (wordsOf x 15) T (m9.view.read (Elt F) fb) 1 1024) (hc : acc = lanes v18 v19 x T p 14) :
    group v18 v19 120#32 (chunkRows m9 fb 1) (m.view.readCov [(⟨Rect.unit (s := S128x1024) ![0, 0] S128x1024.size inb0, p⟩ : View.Piece (Elt F) S128x1024 .f32)] (Rect.unit (s := S128x1024) ![120, 0] S8x1024.size inbb).toLoadRect)
      (group v18 v19 112#32 (chunkRows m9 fa 0) (m.view.readCov [(⟨Rect.unit (s := S128x1024) ![0, 0] S128x1024.size inb0, p⟩ : View.Piece (Elt F) S128x1024 .f32)] (Rect.unit (s := S128x1024) ![112, 0] S8x1024.size inba).toLoadRect) acc)
      = lanes v18 v19 x T p 16 := by
  have key : ∀ f, m.view.read (Elt F) (m.view.writes (Elt F) f [(⟨Rect.unit (s := S128x1024) ![0, 0] S128x1024.size inb0, p⟩ : View.Piece (Elt F) S128x1024 .f32)]) = p :=
    fun f => View.read_writes_full _ f inb0 p []
  have e := group_lanes (m9 := m9) (f9 := fa) (m := m) (f := m.view.writes (Elt F) m.view.junk [(⟨Rect.unit (s := S128x1024) ![0, 0] S128x1024.size inb0, p⟩ : View.Piece (Elt F) S128x1024 .f32)])
    (v18 := v18) (v19 := v19) (acc := acc) (inb := inba) (gw := 14#32) 14 0 ha rfl rfl (by rw [key]; exact hc)
  have e' := group_lanes (m9 := m9) (f9 := fb) (m := m) (f := m.view.writes (Elt F) m.view.junk [(⟨Rect.unit (s := S128x1024) ![0, 0] S128x1024.size inb0, p⟩ : View.Piece (Elt F) S128x1024 .f32)])
    (v18 := v18) (v19 := v19) (inb := inbb) (gw := 15#32) 15 1 hb rfl rfl e
  rw [key] at e'
  exact e'

theorem rows65 : ∀ t : Fin k0_t3_loop.trips, k0_off65 t = ![8 * (2 * t.val), 0] := by decide +kernel
theorem rows98 : ∀ t : Fin k0_t3_loop.trips, k0_off98 t = ![8 * (2 * t.val + 1), 0] := by decide +kernel
theorem even_word : ∀ t : Fin k0_t3_loop.trips, Scalar.muli 2#32 (Scf.iv 0#32 1#32 t.val) = BitVec.ofNat 32 (2 * t.val) := by decide +kernel
theorem odd_word : ∀ t : Fin k0_t3_loop.trips, Scalar.addi (Scalar.muli 2#32 (Scf.iv 0#32 1#32 t.val)) 1#32 = BitVec.ofNat 32 (2 * t.val + 1) := by decide +kernel

end Cert.ActIdeal.Rows
-- ==== Proof.Act.Trip.lean ====
/-
  The main loop, trip by trip: a group is gathered into one of the tile's buffers while the group in the other is multiplied.
-/
module

public import proofs.«01_k».proof.Proof.Act.GatherOdd
public import proofs.«01_k».proof.Proof.Act.GatherEven
public import proofs.«01_k».proof.Proof.Act.Coef
public import Idealize.ShloMosaic.Lib.Tactic.Stretches

@[expose] public section

set_option maxRecDepth 16384
set_option warn.classDefReducibility false

noncomputable section

namespace Cert.ActIdeal.Rows

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

@[sl_loop] def loopInv_k0_t3 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f7 : Buf (Elt F) (arg7.view.loc (c : Thread nD τ))) (f10 : Buf (Elt F) (arg10.view.loc (c : Thread nD τ)))
    (arg0 : BitVec 32) (v18 : FVec F S128x128 .f32) (v19 : IVec S128x128 32) (v20 : FVec F S128x128 .f32) (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v33 : BitVec 32) (v34 : Elt F .i32) (k0_hw15 : k0_chk15 i v21 v22 v24 v26 v28 v30 v32 v34) (v35 : BitVec 32) (init : FVec F S128x128 .f32) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg0 v18 v19 v20 v21 k0_hw1 v22 k0_hw3 v23 v24 k0_hw5 v25 v26 k0_hw7 v27 v28 k0_hw9 v29 v30 k0_hw11 v31 v32 k0_hw13 v33 v34 k0_hw15 v35 init where
  inv k acc := iprop(⌜Ones v21 v22 v24 v26 v28 v30 v32 v34⌝ ∗ ⌜∀ y, Good (arg1.view.read (Elt F) f1 y)⌝
    ∗ (arg1.view.loc (c : Thread nD τ) ↦[arg1.view.set]{fullShare} f1) ∗ (arg7.view.loc (c : Thread nD τ) ↦[arg7.view.set]{fullShare} f7) ∗ (arg10.view.loc (c : Thread nD τ) ↦[arg10.view.set]{fullShare} f10)
    ∗ ⌜acc = lanes v18 v19 (arg1.view.read (Elt F) f1) (arg7.view.read (Elt F) f7) (arg10.view.read (Elt F) f10) (2 * k)⌝ ∗ ∃ f9, ⌜Filled (wordsOf (arg1.view.read (Elt F) f1) (2 * k)) (arg7.view.read (Elt F) f7) (arg9.view.read (Elt F) f9) 0 1024⌝ ∗ (arg9.view.loc (c : Thread nD τ) ↦[arg9.view.set]{fullShare} f9))
  step k acc := by
    unfold k0_t3_body
    iintro ⟨%ho, %hg, H1, H7, H10, %hz, %f9, %h, H9⟩
    sl_exec_parts
    sl_step
    isplitr; · ipureintro; exact ho
    isplitr; · ipureintro; exact hg
    isplitl [H1]; · iexact H1
    isplitl [H7]; · iexact H7
    isplitl [H10]; · iexact H10
    isplitr
    · ipureintro
      sl_open_run
      sl_open_pay
      exact group_lanes (2 * k.val + 1) 1 hL12 (odd_word k) (rows98 k) (group_lanes (2 * k.val) 0 hL5 (even_word k) (rows65 k) hz)
    iexists _
    isplitr
    swap
    · iexact H9
    ipureintro
    assumption

end Cert.ActIdeal.Rows
-- ==== Proof.Act.GatherFirst.lean ====
/-
  The gathers, trip by trip: each copies the four table rows its words name into the tile.
-/
module

public import proofs.«01_k».proof.Proof.Act.Tile
public import Idealize.ShloMosaic.Lib.Tactic.Stretches

@[expose] public section

set_option maxRecDepth 16384
set_option warn.classDefReducibility false

noncomputable section

namespace Cert.ActIdeal.Rows

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

@[sl_loop] def loopInv_k0_t2 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f7 : Buf (Elt F) (arg7.view.loc (c : Thread nD τ)))
    (arg0 : BitVec 32) (v18 : FVec F S128x128 .f32) (v19 : IVec S128x128 32) (v20 : FVec F S128x128 .f32) (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v34 : Elt F .i32) (k0_hw15 : k0_chk15 i v21 v22 v24 v26 v28 v30 v32 v34) (k0_h1 : k0_cond1 i = 1#1) (v1237 : BitVec 32) (k0_t1 : Fin k0_t1_loop.trips) (arg11 : BitVec 32) :
    LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg0 v18 v19 v20 v21 k0_hw1 v22 k0_hw3 v23 v24 k0_hw5 v25 v26 k0_hw7 v27 v28 k0_hw9 v29 v30 k0_hw11 v31 v32 k0_hw13 v34 k0_hw15 k0_h1 v1237 k0_t1 arg11 where
  inv k _ := iprop(⌜Ones v21 v22 v24 v26 v28 v30 v32 v34⌝ ∗ ⌜∀ y, Good (arg1.view.read (Elt F) f1 y)⌝
    ∗ (arg1.view.loc (c : Thread nD τ) ↦[arg1.view.set]{fullShare} f1) ∗ (arg7.view.loc (c : Thread nD τ) ↦[arg7.view.set]{fullShare} f7)
    ∗ ∃ f9, ⌜Filled (wordsOf (arg1.view.read (Elt F) f1) 0) (arg7.view.read (Elt F) f7) (arg9.view.read (Elt F) f9) 0 (128 * k0_t1.val + 8 * k)⌝ ∗ (arg9.view.loc (c : Thread nD τ) ↦[arg9.view.set]{fullShare} f9))
  step k _ := by
    have ha : k0_t1.val < 8 := k0_t1.isLt
    have hk : k.val < 16 := k.isLt
    unfold k0_t2_body
    iintro ⟨%ho, %hg, H1, H7, %f9, %h, H9⟩
    sl_exec_parts (disch := exact ⟨fun _ => (hg _).1, fun _ => inb_row _ (hg _)⟩)
    sl_step
    isplitr; · ipureintro; exact ho
    isplitr; · ipureintro; exact hg
    isplitl [H1]; · iexact H1
    isplitl [H7]; · iexact H7
    iexists _
    isplitr
    swap
    · iexact H9
    ipureintro
    sl_open_run
    sl_open_pay
    exact (Filled.put ha hk 7 (by decide) (Filled.put ha hk 6 (by decide) (Filled.put ha hk 5 (by decide) (Filled.put ha hk 4 (by decide) (Filled.put ha hk 3 (by decide) (Filled.put ha hk 2 (by decide) (Filled.put ha hk 1 (by decide) (Filled.put ha hk 0 (by decide) h (landing 0 k0_t1 k 0) (word_read 0 k0_t1.val k.val 0 (slice2 k0_t1 k) (sum0 ho) _)) (landing 0 k0_t1 k 1) (word_read 0 k0_t1.val k.val 1 (slice2 k0_t1 k) (sum1 ho) _)) (landing 0 k0_t1 k 2) (word_read 0 k0_t1.val k.val 2 (slice2 k0_t1 k) (sum2 ho) _)) (landing 0 k0_t1 k 3) (word_read 0 k0_t1.val k.val 3 (slice2 k0_t1 k) (sum3 ho) _)) (landing 0 k0_t1 k 4) (word_read 0 k0_t1.val k.val 4 (slice2 k0_t1 k) (sum4 ho) _)) (landing 0 k0_t1 k 5) (word_read 0 k0_t1.val k.val 5 (slice2 k0_t1 k) (sum5 ho) _)) (landing 0 k0_t1 k 6) (word_read 0 k0_t1.val k.val 6 (slice2 k0_t1 k) (sum6 ho) _)) (landing 0 k0_t1 k 7) (word_read 0 k0_t1.val k.val 7 (slice2 k0_t1 k) (sum7 ho) _))

@[sl_loop] def loopInv_k0_t1 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f7 : Buf (Elt F) (arg7.view.loc (c : Thread nD τ)))
    (arg0 : BitVec 32) (v18 : FVec F S128x128 .f32) (v19 : IVec S128x128 32) (v20 : FVec F S128x128 .f32) (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v34 : Elt F .i32) (k0_hw15 : k0_chk15 i v21 v22 v24 v26 v28 v30 v32 v34) (k0_h1 : k0_cond1 i = 1#1) (v1237 : BitVec 32) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg0 v18 v19 v20 v21 k0_hw1 v22 k0_hw3 v23 v24 k0_hw5 v25 v26 k0_hw7 v27 v28 k0_hw9 v29 v30 k0_hw11 v31 v32 k0_hw13 v34 k0_hw15 k0_h1 v1237 where
  inv k _ := iprop(⌜Ones v21 v22 v24 v26 v28 v30 v32 v34⌝ ∗ ⌜∀ y, Good (arg1.view.read (Elt F) f1 y)⌝
    ∗ (arg1.view.loc (c : Thread nD τ) ↦[arg1.view.set]{fullShare} f1) ∗ (arg7.view.loc (c : Thread nD τ) ↦[arg7.view.set]{fullShare} f7)
    ∗ ∃ f9, ⌜Filled (wordsOf (arg1.view.read (Elt F) f1) 0) (arg7.view.read (Elt F) f7) (arg9.view.read (Elt F) f9) 0 (128 * k)⌝ ∗ (arg9.view.loc (c : Thread nD τ) ↦[arg9.view.set]{fullShare} f9))
  step k _ := by
    unfold k0_t1_body
    iintro ⟨%ho, %hg, H1, H7, %f9, %h, H9⟩
    sl_exec
    sl_step
    isplitr; · ipureintro; exact ho
    isplitr; · ipureintro; exact hg
    isplitl [H1]; · iexact H1
    isplitl [H7]; · iexact H7
    iexists _
    isplitr
    swap
    · iexact H9
    ipureintro
    assumption

end Cert.ActIdeal.Rows
-- ==== Proof.Act.GatherLast.lean ====
/-
  The gathers, trip by trip: each copies the four table rows its words name into the tile.
-/
module

public import proofs.«01_k».proof.Proof.Act.Tile
public import Idealize.ShloMosaic.Lib.Tactic.Stretches

@[expose] public section

set_option maxRecDepth 16384
set_option warn.classDefReducibility false

noncomputable section

namespace Cert.ActIdeal.Rows

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

@[sl_loop] def loopInv_k0_t9 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f7 : Buf (Elt F) (arg7.view.loc (c : Thread nD τ)))
    (arg0 : BitVec 32) (v18 : FVec F S128x128 .f32) (v19 : IVec S128x128 32) (v20 : FVec F S128x128 .f32) (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v34 : Elt F .i32) (k0_hw15 : k0_chk15 i v21 v22 v24 v26 v28 v30 v32 v34) (v41 : BitVec 32) (k0_t8 : Fin k0_t8_loop.trips) (arg11 : BitVec 32) :
    LoopInvTy_k0_t9 (F := F) Unit ℕ (UU nD τ) ℕ 𝒱₀ c none Set.univ i arg1 harg1 arg2 harg2 arg3 harg3 arg4 harg4 arg5 harg5 arg6 harg6 arg7 harg7 arg8 harg8 arg9 harg9 arg10 harg10 arg0 v18 v19 v20 v21 k0_hw1 v22 k0_hw3 v23 v24 k0_hw5 v25 v26 k0_hw7 v27 v28 k0_hw9 v29 v30 k0_hw11 v31 v32 k0_hw13 v34 k0_hw15 v41 k0_t8 arg11 where
  inv k _ := iprop(⌜Ones v21 v22 v24 v26 v28 v30 v32 v34⌝ ∗ ⌜∀ y, Good (arg1.view.read (Elt F) f1 y)⌝
    ∗ (arg1.view.loc (c : Thread nD τ) ↦[arg1.view.set]{fullShare} f1) ∗ (arg7.view.loc (c : Thread nD τ) ↦[arg7.view.set]{fullShare} f7)
    ∗ ∃ f9, ⌜Filled (wordsOf (arg1.view.read (Elt F) f1) 15) (arg7.view.read (Elt F) f7) (arg9.view.read (Elt F) f9) 1 (128 * k0_t8.val + 8 * k)⌝ ∗ ⌜Filled (wordsOf (arg1.view.read (Elt F) f1) 14) (arg7.view.read (Elt F) f7) (arg9.view.read (Elt F) f9) 0 1024⌝ ∗ (arg9.view.loc (c : Thread nD τ) ↦[arg9.view.set]{fullShare} f9))
  step k _ := by
    have ha : k0_t8.val < 8 := k0_t8.isLt
    have hk : k.val < 16 := k.isLt
    unfold k0_t9_body
    iintro ⟨%ho, %hg, H1, H7, %f9, %h, %h2, H9⟩
    sl_exec_parts (disch := exact ⟨(hg _).1, inb_row _ (hg _)⟩)
    sl_step
    isplitr; · ipureintro; exact ho
    isplitr; · ipureintro; exact hg
    isplitl [H1]; · iexact H1
    isplitl [H7]; · iexact H7
    iexists _
    isplitr
    swap
    · isplitr
      swap
      · iexact H9
      ipureintro
      sl_open_run
      exact ((((((((h2.keep 1 (by decide) rfl).keep 1 (by decide) rfl).keep 1 (by decide) rfl).keep 1 (by decide) rfl).keep 1 (by decide) rfl).keep 1 (by decide) rfl).keep 1 (by decide) rfl).keep 1 (by decide) rfl)
    ipureintro
    sl_open_run
    sl_open_pay
    exact (Filled.put ha hk 7 (by decide) (Filled.put ha hk 6 (by decide) (Filled.put ha hk 5 (by decide) (Filled.put ha hk 4 (by decide) (Filled.put ha hk 3 (by decide) (Filled.put ha hk 2 (by decide) (Filled.put ha hk 1 (by decide) (Filled.put ha hk 0 (by decide) h (landing 1 k0_t8 k 0) (word_read 15 k0_t8.val k.val 0 (slice9 k0_t8 k) (sum0 ho) _)) (landing 1 k0_t8 k 1) (word_read 15 k0_t8.val k.val 1 (slice9 k0_t8 k) (sum1 ho) _)) (landing 1 k0_t8 k 2) (word_read 15 k0_t8.val k.val 2 (slice9 k0_t8 k) (sum2 ho) _)) (landing 1 k0_t8 k 3) (word_read 15 k0_t8.val k.val 3 (slice9 k0_t8 k) (sum3 ho) _)) (landing 1 k0_t8 k 4) (word_read 15 k0_t8.val k.val 4 (slice9 k0_t8 k) (sum4 ho) _)) (landing 1 k0_t8 k 5) (word_read 15 k0_t8.val k.val 5 (slice9 k0_t8 k) (sum5 ho) _)) (landing 1 k0_t8 k 6) (word_read 15 k0_t8.val k.val 6 (slice9 k0_t8 k) (sum6 ho) _)) (landing 1 k0_t8 k 7) (word_read 15 k0_t8.val k.val 7 (slice9 k0_t8 k) (sum7 ho) _))

@[sl_loop] def loopInv_k0_t8 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f7 : Buf (Elt F) (arg7.view.loc (c : Thread nD τ)))
    (arg0 : BitVec 32) (v18 : FVec F S128x128 .f32) (v19 : IVec S128x128 32) (v20 : FVec F S128x128 .f32) (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v34 : Elt F .i32) (k0_hw15 : k0_chk15 i v21 v22 v24 v26 v28 v30 v32 v34) (v41 : BitVec 32) :
    LoopInvTy_k0_t8 (F := F) Unit ℕ (UU nD τ) ℕ 𝒱₀ c none Set.univ i arg1 harg1 arg2 harg2 arg3 harg3 arg4 harg4 arg5 harg5 arg6 harg6 arg7 harg7 arg8 harg8 arg9 harg9 arg10 harg10 arg0 v18 v19 v20 v21 k0_hw1 v22 k0_hw3 v23 v24 k0_hw5 v25 v26 k0_hw7 v27 v28 k0_hw9 v29 v30 k0_hw11 v31 v32 k0_hw13 v34 k0_hw15 v41 where
  inv k _ := iprop(⌜Ones v21 v22 v24 v26 v28 v30 v32 v34⌝ ∗ ⌜∀ y, Good (arg1.view.read (Elt F) f1 y)⌝
    ∗ (arg1.view.loc (c : Thread nD τ) ↦[arg1.view.set]{fullShare} f1) ∗ (arg7.view.loc (c : Thread nD τ) ↦[arg7.view.set]{fullShare} f7)
    ∗ ∃ f9, ⌜Filled (wordsOf (arg1.view.read (Elt F) f1) 15) (arg7.view.read (Elt F) f7) (arg9.view.read (Elt F) f9) 1 (128 * k)⌝ ∗ ⌜Filled (wordsOf (arg1.view.read (Elt F) f1) 14) (arg7.view.read (Elt F) f7) (arg9.view.read (Elt F) f9) 0 1024⌝ ∗ (arg9.view.loc (c : Thread nD τ) ↦[arg9.view.set]{fullShare} f9))
  step k _ := by
    unfold k0_t8_body
    iintro ⟨%ho, %hg, H1, H7, %f9, %h, %h2, H9⟩
    sl_exec
    sl_step
    isplitr; · ipureintro; exact ho
    isplitr; · ipureintro; exact hg
    isplitl [H1]; · iexact H1
    isplitl [H7]; · iexact H7
    iexists _
    isplitr
    swap
    · isplitr
      swap
      · iexact H9
      ipureintro
      assumption
    ipureintro
    assumption

end Cert.ActIdeal.Rows
-- ==== Proof.Act.GatherNext.lean ====
/-
  The gathers, trip by trip: each copies the four table rows its words name into the tile.
-/
module

public import proofs.«01_k».proof.Proof.Act.Tile
public import Idealize.ShloMosaic.Lib.Tactic.Stretches

@[expose] public section

set_option maxRecDepth 16384
set_option warn.classDefReducibility false

noncomputable section

namespace Cert.ActIdeal.Rows

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

@[sl_loop] def loopInv_k0_t11 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f2 : Buf (Elt F) (arg2.view.loc (c : Thread nD τ))) (f7 : Buf (Elt F) (arg7.view.loc (c : Thread nD τ)))
    (v18 : FVec F S128x128 .f32) (v19 : IVec S128x128 32) (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v33 : BitVec 32) (v34 : Elt F .i32) (k0_hw15 : k0_chk15 i v21 v22 v24 v26 v28 v30 v32 v34) (v35 : BitVec 32) (v45 : Vec F S8x1024 .f32) (v563 : FVec F S128x128 .f32) (v564 : BitVec 32) (v604 : FVec F S128x128 .f32) (v638 : BitVec 32) (k0_t10 : Fin k0_t10_loop.trips) (arg11 : BitVec 32) :
    LoopInvTy_k0_t11 (F := F) Unit ℕ (UU nD τ) ℕ 𝒱₀ c none Set.univ i arg1 harg1 arg2 harg2 arg3 harg3 arg4 harg4 arg5 harg5 arg6 harg6 arg7 harg7 arg8 harg8 arg9 harg9 arg10 harg10 v18 v19 v21 k0_hw1 v22 k0_hw3 v23 v24 k0_hw5 v25 v26 k0_hw7 v27 v28 k0_hw9 v29 v30 k0_hw11 v31 v32 k0_hw13 v33 v34 k0_hw15 v35 v45 v563 v564 v604 v638 k0_t10 arg11 where
  inv k _ := iprop(⌜Ones v21 v22 v24 v26 v28 v30 v32 v34⌝ ∗ ⌜∀ y, Good (arg2.view.read (Elt F) f2 y)⌝
    ∗ (arg1.view.loc (c : Thread nD τ) ↦[arg1.view.set]{fullShare} f1) ∗ (arg2.view.loc (c : Thread nD τ) ↦[arg2.view.set]{fullShare} f2) ∗ (arg7.view.loc (c : Thread nD τ) ↦[arg7.view.set]{fullShare} f7)
    ∗ ∃ f9, ⌜Filled (nextWords (arg2.view.read (Elt F) f2)) (arg7.view.read (Elt F) f7) (arg9.view.read (Elt F) f9) 0 (128 * k0_t10.val + 8 * k)⌝ ∗ ⌜Filled (wordsOf (arg1.view.read (Elt F) f1) 15) (arg7.view.read (Elt F) f7) (arg9.view.read (Elt F) f9) 1 1024⌝ ∗ (arg9.view.loc (c : Thread nD τ) ↦[arg9.view.set]{fullShare} f9))
  step k _ := by
    have ha : k0_t10.val < 8 := k0_t10.isLt
    have hk : k.val < 16 := k.isLt
    unfold k0_t11_body
    iintro ⟨%ho, %hg, H0, H1, H7, %f9, %h, %h2, H9⟩
    sl_exec_parts (disch := exact ⟨(hg _).1, inb_row _ (hg _)⟩)
    sl_step
    isplitr; · ipureintro; exact ho
    isplitr; · ipureintro; exact hg
    isplitl [H0]; · iexact H0
    isplitl [H1]; · iexact H1
    isplitl [H7]; · iexact H7
    iexists _
    isplitr
    swap
    · isplitr
      swap
      · iexact H9
      ipureintro
      sl_open_run
      exact ((((((((h2.keep 0 (by decide) rfl).keep 0 (by decide) rfl).keep 0 (by decide) rfl).keep 0 (by decide) rfl).keep 0 (by decide) rfl).keep 0 (by decide) rfl).keep 0 (by decide) rfl).keep 0 (by decide) rfl)
    ipureintro
    sl_open_run
    sl_open_pay
    exact (Filled.put ha hk 7 (by decide) (Filled.put ha hk 6 (by decide) (Filled.put ha hk 5 (by decide) (Filled.put ha hk 4 (by decide) (Filled.put ha hk 3 (by decide) (Filled.put ha hk 2 (by decide) (Filled.put ha hk 1 (by decide) (Filled.put ha hk 0 (by decide) h (landing 0 k0_t10 k 0) (next_word_read k0_t10.val k.val 0 (slice11 k0_t10 k) (sum0 ho) _)) (landing 0 k0_t10 k 1) (next_word_read k0_t10.val k.val 1 (slice11 k0_t10 k) (sum1 ho) _)) (landing 0 k0_t10 k 2) (next_word_read k0_t10.val k.val 2 (slice11 k0_t10 k) (sum2 ho) _)) (landing 0 k0_t10 k 3) (next_word_read k0_t10.val k.val 3 (slice11 k0_t10 k) (sum3 ho) _)) (landing 0 k0_t10 k 4) (next_word_read k0_t10.val k.val 4 (slice11 k0_t10 k) (sum4 ho) _)) (landing 0 k0_t10 k 5) (next_word_read k0_t10.val k.val 5 (slice11 k0_t10 k) (sum5 ho) _)) (landing 0 k0_t10 k 6) (next_word_read k0_t10.val k.val 6 (slice11 k0_t10 k) (sum6 ho) _)) (landing 0 k0_t10 k 7) (next_word_read k0_t10.val k.val 7 (slice11 k0_t10 k) (sum7 ho) _))

@[sl_loop] def loopInv_k0_t10 (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (f1 : Buf (Elt F) (arg1.view.loc (c : Thread nD τ))) (f2 : Buf (Elt F) (arg2.view.loc (c : Thread nD τ))) (f7 : Buf (Elt F) (arg7.view.loc (c : Thread nD τ)))
    (v18 : FVec F S128x128 .f32) (v19 : IVec S128x128 32) (v21 : Elt F .i32) (k0_hw1 : k0_chk1 i v21) (v22 : Elt F .i32) (k0_hw3 : k0_chk3 i v21 v22) (v23 : BitVec 32) (v24 : Elt F .i32) (k0_hw5 : k0_chk5 i v21 v22 v24) (v25 : BitVec 32) (v26 : Elt F .i32) (k0_hw7 : k0_chk7 i v21 v22 v24 v26) (v27 : BitVec 32) (v28 : Elt F .i32) (k0_hw9 : k0_chk9 i v21 v22 v24 v26 v28) (v29 : BitVec 32) (v30 : Elt F .i32) (k0_hw11 : k0_chk11 i v21 v22 v24 v26 v28 v30) (v31 : BitVec 32) (v32 : Elt F .i32) (k0_hw13 : k0_chk13 i v21 v22 v24 v26 v28 v30 v32) (v33 : BitVec 32) (v34 : Elt F .i32) (k0_hw15 : k0_chk15 i v21 v22 v24 v26 v28 v30 v32 v34) (v35 : BitVec 32) (v45 : Vec F S8x1024 .f32) (v563 : FVec F S128x128 .f32) (v564 : BitVec 32) (v604 : FVec F S128x128 .f32) (v638 : BitVec 32) :
    LoopInvTy_k0_t10 (F := F) Unit ℕ (UU nD τ) ℕ 𝒱₀ c none Set.univ i arg1 harg1 arg2 harg2 arg3 harg3 arg4 harg4 arg5 harg5 arg6 harg6 arg7 harg7 arg8 harg8 arg9 harg9 arg10 harg10 v18 v19 v21 k0_hw1 v22 k0_hw3 v23 v24 k0_hw5 v25 v26 k0_hw7 v27 v28 k0_hw9 v29 v30 k0_hw11 v31 v32 k0_hw13 v33 v34 k0_hw15 v35 v45 v563 v564 v604 v638 where
  inv k _ := iprop(⌜Ones v21 v22 v24 v26 v28 v30 v32 v34⌝ ∗ ⌜∀ y, Good (arg2.view.read (Elt F) f2 y)⌝
    ∗ (arg1.view.loc (c : Thread nD τ) ↦[arg1.view.set]{fullShare} f1) ∗ (arg2.view.loc (c : Thread nD τ) ↦[arg2.view.set]{fullShare} f2) ∗ (arg7.view.loc (c : Thread nD τ) ↦[arg7.view.set]{fullShare} f7)
    ∗ ∃ f9, ⌜Filled (nextWords (arg2.view.read (Elt F) f2)) (arg7.view.read (Elt F) f7) (arg9.view.read (Elt F) f9) 0 (128 * k)⌝ ∗ ⌜Filled (wordsOf (arg1.view.read (Elt F) f1) 15) (arg7.view.read (Elt F) f7) (arg9.view.read (Elt F) f9) 1 1024⌝ ∗ (arg9.view.loc (c : Thread nD τ) ↦[arg9.view.set]{fullShare} f9))
  step k _ := by
    unfold k0_t10_body
    iintro ⟨%ho, %hg, H0, H1, H7, %f9, %h, %h2, H9⟩
    sl_exec
    sl_step
    isplitr; · ipureintro; exact ho
    isplitr; · ipureintro; exact hg
    isplitl [H0]; · iexact H0
    isplitl [H1]; · iexact H1
    isplitl [H7]; · iexact H7
    iexists _
    isplitr
    swap
    · isplitr
      swap
      · iexact H9
      ipureintro
      assumption
    ipureintro
    assumption

end Cert.ActIdeal.Rows
-- ==== Proof.Act.Body.lean ====
/-
  The body at a point: the first group's rows are in the tile's first buffer, gathered there by the body itself at the first point and by
  the point before at the others; the body leaves the next point's first group there, and the coefficients of its own block.
-/
module

public import proofs.«01_k».proof.Proof.Act.Trip
public import proofs.«01_k».proof.Proof.Act.GatherFirst
public import proofs.«01_k».proof.Proof.Act.GatherLast
public import proofs.«01_k».proof.Proof.Act.GatherNext

@[expose] public section

set_option maxRecDepth 16384

noncomputable section

namespace Cert.ActIdeal.Rows

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The side conditions of the step words. -/

section Checks
variable (i : grid0.Coords) {a b c d e f g k : BitVec 32} (h : Ones a b c d e f g k)
include h

theorem check1 : k0_chk1 i a := by
  obtain ⟨rfl, rfl, rfl, rfl, rfl, rfl, rfl, rfl⟩ := h; exact ⟨fun _ => by decide, by decide, by decide, by decide, by decide⟩
theorem check3 : k0_chk3 i a b := by
  obtain ⟨rfl, rfl, rfl, rfl, rfl, rfl, rfl, rfl⟩ := h; exact ⟨fun _ => by decide, by decide, by decide, by decide, by decide⟩
theorem check5 : k0_chk5 i a b c := by
  obtain ⟨rfl, rfl, rfl, rfl, rfl, rfl, rfl, rfl⟩ := h; exact ⟨fun _ => by decide, by decide, by decide, by decide, by decide⟩
theorem check7 : k0_chk7 i a b c d := by
  obtain ⟨rfl, rfl, rfl, rfl, rfl, rfl, rfl, rfl⟩ := h; exact ⟨fun _ => by decide, by decide, by decide, by decide, by decide⟩
theorem check9 : k0_chk9 i a b c d e := by
  obtain ⟨rfl, rfl, rfl, rfl, rfl, rfl, rfl, rfl⟩ := h; exact ⟨fun _ => by decide, by decide, by decide, by decide, by decide⟩
theorem check11 : k0_chk11 i a b c d e f := by
  obtain ⟨rfl, rfl, rfl, rfl, rfl, rfl, rfl, rfl⟩ := h; exact ⟨fun _ => by decide, by decide, by decide, by decide, by decide⟩
theorem check13 : k0_chk13 i a b c d e f g := by
  obtain ⟨rfl, rfl, rfl, rfl, rfl, rfl, rfl, rfl⟩ := h; exact ⟨fun _ => by decide, by decide, by decide, by decide, by decide⟩
theorem check15 : k0_chk15 i a b c d e f g k := by
  obtain ⟨rfl, rfl, rfl, rfl, rfl, rfl, rfl, rfl⟩ := h; exact ⟨fun _ => by decide, by decide, by decide, by decide, by decide⟩
end Checks

/-- The words of the step operand. -/
def Steps (x : S2.Idx → BitVec 32) : Prop := x (ix1 (0 : Fin 2)) = 0#32 ∧ x (ix1 (1 : Fin 2)) = 1#32

abbrev step0 (m : Memref sig .tc .smem S2 .i32) (f : m.view.ty.Contents (Elt F)) : BitVec 32 :=
  View.readAt (Elt F) m.view (Rect.unit (s := S2) ![0] S1.size inb_S2_S1_0).toLoadRect f (Shape.Idx.first (by decide))
abbrev step1 (m : Memref sig .tc .smem S2 .i32) (f : m.view.ty.Contents (Elt F)) : BitVec 32 :=
  View.readAt (Elt F) m.view (Rect.unit (s := S2) ![1] S1.size inb_S2_S1_1).toLoadRect f (Shape.Idx.first (by decide))

theorem step_words {m : Memref sig .tc .smem S2 .i32} {f : m.view.ty.Contents (Elt F)} (h : Steps (m.view.read (Elt F) f)) :
    Ones (step0 m f) (step1 m f) (step1 m f) (step1 m f) (step1 m f) (step1 m f) (step1 m f) (step1 m f) := by
  have e0 : step0 m f = 0#32 := by
    rw [← h.1, step0, View.readAt_apply]; exact congrArg _ (funext fun q => Fin.ext (match q with | ⟨0, _⟩ => rfl))
  have e1 : step1 m f = 1#32 := by
    rw [← h.2, step1, View.readAt_apply]; exact congrArg _ (funext fun q => Fin.ext (match q with | ⟨0, _⟩ => rfl))
  exact ⟨e0, e1, e1, e1, e1, e1, e1, e1⟩

/-- What a point stores: its tokens' coefficients, token by token. -/
def coefs (x1 : Vec F S128x128 .i32) (x4 : Vec F S128x128 .f32) (x5 : Vec F S128x1024 .f32) (x6 : Vec F S1x1024 .f32) (x7 : Vec F S65536x128 .i32) : FVec F S128x128 .f32 :=
  k0_pay1 (lanes (k0_pay128 x4) (iota .tc S128x128 32 [1] iota_S128x128_d1_w32) x1 x7 (k0_pay127 x5 x6) 16)

set_option maxHeartbeats 4000000 in
theorem sound_point (c : Dev nD) (i : grid0.Coords) (arg1 : Memref sig .tc .smem S128x128 .i32) (harg1 : arg1.IsWhole) (arg2 : Memref sig .tc .smem S1x8x128 .i32) (harg2 : arg2.IsWhole) (arg3 : Memref sig .tc .smem S2 .i32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S65536x128 .i32) (harg7 : arg7.IsWhole) (arg8 : Memref sig .tc .vmem S128x128 .f32) (harg8 : arg8.IsWhole) (arg9 : Memref sig .tc .vmem S2x8x544x128 .i32) (harg9 : arg9.IsWhole) (arg10 : Memref sig .tc .vmem S128x1024 .f32) (harg10 : arg10.IsWhole)
    (x1 : Vec F S128x128 .i32) (x2 : Vec F S1x8x128 .i32) (x3 : Vec F S2 .i32) (x4 : Vec F S128x128 .f32) (x5 : Vec F S128x1024 .f32) (x6 : Vec F S1x1024 .f32) (x7 : Vec F S65536x128 .i32)
    (h1 : ∀ y, Good (x1 y)) (h2 : ∀ y, Good (x2 y)) (h3 : Steps x3) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ f9, ⌜¬ k0_cond1 i = 1#1 → Filled (wordsOf x1 0) x7 (arg9.view.read (Elt F) f9) 0 1024⌝ ∗ (arg9.view.loc (c : Thread nD τ) ↦[arg9.view.set]{fullShare} f9)) ∗ (∃ f10, (arg10.view.loc (c : Thread nD τ) ↦[arg10.view.set]{fullShare} f10))
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
          ∗ owns (c : Thread nD τ) arg8 fullShare (coefs x1 x4 x5 x6 x7)
          ∗ (∃ f9, ⌜Filled (nextWords x2) x7 (arg9.view.read (Elt F) f9) 0 1024⌝ ∗ (arg9.view.loc (c : Thread nD τ) ↦[arg9.view.set]{fullShare} f9)) ∗ (∃ f10, (arg10.view.loc (c : Thread nD τ) ↦[arg10.view.set]{fullShare} f10))) -∗ K ⟨⟩))
      ⊢ wp frame (wpE (defs₀ (F := F)) Variants.none c none) Set.univ
        (cc0_peer_act i arg1 harg1 arg2 harg2 arg3 harg3 arg4 harg4 arg5 harg5 arg6 harg6 arg7 harg7 arg8 harg8 arg9 harg9 arg10 harg10) K := by
  simp only [cc0_peer_act_eq_skeleton]; unfold cc0_peer_act_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, H10⟩, Hk⟩
  subst hf1 hf2 hf3 hf4 hf5 hf6 hf7
  have ho := step_words h3
  rcases Decidable.em (k0_cond1 i = 1#1) with hc | hc
  all_goals
    try replace hf9 := hf9 hc
    sl_exec_parts (disch := first | ((with_reducible apply check1 i); exact ho) | ((with_reducible apply check3 i); exact ho) | ((with_reducible apply check5 i); exact ho) | ((with_reducible apply check7 i); exact ho) | ((with_reducible apply check9 i); exact ho) | ((with_reducible apply check11 i); exact ho) | ((with_reducible apply check13 i); exact ho) | ((with_reducible apply check15 i); exact ho))
    sl_step
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]
    · iexists _
      isplitr
      swap; · iexact H8
      ipureintro
      refine (View.read_writes_full _ _ _ _ _).trans ?_
      have e4 : View.readAt (Elt F) arg4.view (Rect.unit (s := S128x128) ![0, 0] S128x128.size inb_S128x128_S128x128_0_0).toLoadRect f4 = arg4.view.read (Elt F) f4 := View.readAt_full _ _ _
      have e5 : View.readAt (Elt F) arg5.view (Rect.unit (s := S128x1024) ![0, 0] S128x1024.size inb_S128x1024_S128x1024_0_0).toLoadRect f5 = arg5.view.read (Elt F) f5 := View.readAt_full _ _ _
      have e6 : View.readAt (Elt F) arg6.view (Rect.unit (s := S1x1024) ![0, 0] S1x1024.size inb_S1x1024_S1x1024_0_0).toLoadRect f6 = arg6.view.read (Elt F) f6 := View.readAt_full _ _ _
      unfold coefs
      rw [← e4, ← e5, ← e6]
      sl_open_run
      sl_open_pay
      exact congrArg k0_pay1 (last_groups (by assumption) (by assumption) (congrArg (fun h => lanes _ _ _ _ h 14) (View.read_writes_full _ _ _ _ _)))
    isplitl [H9]
    · iexists _
      isplitr
      swap; · iexact H9
      ipureintro
      assumption
    iexists _
    iexact H10

end Cert.ActIdeal.Rows
-- ==== Proof.Act.Words.lean ====
/-
  The words the host hands `peer_act`: four times the experts' numbers, their first groups, the step words.
-/
module

public import proofs.«01_k».proof.Proof.Act.Tile
public import proofs.«01_k».proof.Proof.Gen.ActIdeal.Frame
public import Idealize.ShloMosaic.Lib.Pipeline.Value
public import Idealize.ShloMosaic.Lib.StableHlo.ReadAt
public import Idealize.ShloMosaic.Lib.Pointwise

@[expose] public section

set_option maxRecDepth 16384

noncomputable section

namespace Cert.ActIdeal.Rows

open Cert.ActIdeal Cert.ActIdeal.Gen
open Idealize.ShloMosaic Idealize.ShloMosaic.TcCoe Idealize.ShloMosaic.Tactic
open Idealize.SL Idealize.SL.RA Idealize.SL.BI

variable {F : FTy → Type} [FloatOps F] (m : (ℓ : Loc nD τ sig) → Buf (Elt F) ℓ)

/-- Every expert named is one of the 16384. -/
def Named : Prop := ∀ (c : Dev nD) (y : S16384x128.Idx), (m ((c : Thread nD τ).loc main_arg0) y : BitVec 32).toNat < 16384

theorem idx_facts : ∀ t : Fin cfg0.N,
    (win0_0.index t (0 : Fin 2) = t.val ∧ win0_0.index t (1 : Fin 2) = 0)
    ∧ (win0_1.index t (0 : Fin 3) = min (t.val + 1) 127 ∧ win0_1.index t (1 : Fin 3) = 0 ∧ win0_1.index t (2 : Fin 3) = 0)
    ∧ win0_2.index t (0 : Fin 1) = 0
    ∧ (win0_3.index t (0 : Fin 2) = 0 ∧ win0_3.index t (1 : Fin 2) = t.val)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N,
    (win0_0.index t (0 : Fin 2) = t.val ∧ win0_0.index t (1 : Fin 2) = 0)
    ∧ (win0_1.index t (0 : Fin 3) = min (t.val + 1) 127 ∧ win0_1.index t (1 : Fin 3) = 0 ∧ win0_1.index t (2 : Fin 3) = 0)
    ∧ win0_2.index t (0 : Fin 1) = 0
    ∧ (win0_3.index t (0 : Fin 2) = 0 ∧ win0_3.index t (1 : Fin 2) = t.val)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0))

theorem first_point : ∀ t : Fin cfg0.N, k0_cond1 (grid0.coords t) = 1#1 → t.val = 0 :=
  (by decide +kernel : ∀ t : Fin grid0.N, k0_cond1 (grid0.coords t) = 1#1 → t.val = 0)
theorem point_first : ∀ t : Fin cfg0.N, t.val = 0 → k0_cond1 (grid0.coords t) = 1#1 :=
  (by decide +kernel : ∀ t : Fin grid0.N, t.val = 0 → k0_cond1 (grid0.coords t) = 1#1)

theorem row_word (c : Dev nD) : (V m c main_v1 : S16384x128.Idx → BitVec 32)
    = muli (m ((c : Thread nD τ).loc main_arg0)) (broadcastInDim S16384x128 ![] bcast_S_S16384x128 (constantI S_ 32 4#32)) := by
  unfold V; after_reads_simp

theorem next_word (c : Dev nD) : (V m c main_v5 : S128x8x128.Idx → BitVec 32)
    = extractStridedSlice S128x8x128 ![0, 0, 0] (shapeCast S128x128x128 (V m c main_v1 : S16384x128.Idx → BitVec 32) shapeCasts_S16384x128_S128x128x128)
        slices_S128x128x128_S128x8x128_0_0_0 := by
  rw [row_word]; unfold V; after_reads_simp; rfl

theorem step_word (c : Dev nD) : (V m c main_v3 : S2.Idx → BitVec 32) = iotaInDim S2 32 0 := by
  unfold V; after_reads_simp

theorem gate_word (c : Dev nD) : (V m c main_v2 : S128x16384.Idx → F .f32)
    = transpose S128x16384 [1, 0] (m ((c : Thread nD τ).loc main_arg1) : S16384x128.Idx → F .f32) transposes_S16384x128_S128x16384_1_0 := by
  unfold V; after_reads_simp

theorem good_mul (w : BitVec 32) (h : w.toNat < 16384) : Good (w * 4#32) := by
  have e : (w * 4#32).toNat = w.toNat * 4 := by rw [BitVec.toNat_mul]; show w.toNat * 4 % 2 ^ 32 = _; omega
  unfold Good
  rw [e]
  exact ⟨⟨_, Nat.mul_comm _ _⟩, by omega⟩

theorem row_good (hN : Named m) (c : Dev nD) (y : S16384x128.Idx) : Good ((V m c main_v1 : S16384x128.Idx → BitVec 32) y) := by
  rw [row_word]
  have h := hN c y
  generalize (m ((c : Thread nD τ).loc main_arg0) : S16384x128.Idx → BitVec 32) = x at h ⊢
  exact good_mul (x y) h

theorem next_at (c : Dev nD) (b : Fin 128) (r : Fin 8) (l : Fin 128) :
    (V m c main_v5 : S128x8x128.Idx → BitVec 32) (ix3 b r l) = (V m c main_v1 : S16384x128.Idx → BitVec 32) (ix2 (⟨128 * b.val + r.val, by omega⟩ : Fin 16384) l) := by
  rw [next_word]
  generalize (V m c main_v1 : S16384x128.Idx → BitVec 32) = W
  refine shapeCast_apply W _ _ _ ?_
  refine Eq.trans (Shape.rowMajor_val_two (d := ![16384, 128]) _) (Eq.trans ?_ (Shape.rowMajor_val_three (d := ![128, 128, 128]) _).symm)
  show (128 * b.val + r.val) * 128 + l.val = ((0 + b.val) * 128 + (0 + r.val)) * 128 + (0 + l.val)
  omega

theorem step_steps (c : Dev nD) (t : Fin cfg0.N) : (iblk m c 2 t : S2.Idx → BitVec 32) (ix1 (0 : Fin 2)) = 0#32 ∧ (iblk m c 2 t : S2.Idx → BitVec 32) (ix1 (1 : Fin 2)) = 1#32 := by
  obtain ⟨-, -, f, -⟩ := idx_facts t
  have e : ∀ k : Fin 2, (iblk m c 2 t : S2.Idx → BitVec 32) (ix1 k) = (V m c main_v3 : S2.Idx → BitVec 32) (ix1 k) := fun k =>
    congrArg (V m c main_v3 : S2.Idx → BitVec 32) (funext fun a => Fin.ext (match a with
      | ⟨0, _⟩ => by show win0_2.index t (0 : Fin 1) * 2 + 1 * k.val = k.val; rw [f]; omega))
  rw [e, e, step_word]
  exact ⟨rfl, rfl⟩

theorem idx_at (c : Dev nD) (t : Fin cfg0.N) (r l : Fin 128) :
    (iblk m c 0 t : S128x128.Idx → BitVec 32) (ix2 r l) = (V m c main_v1 : S16384x128.Idx → BitVec 32) (ix2 (⟨128 * t.val + r.val, by have := t.isLt; have : cfg0.N = 128 := N_0; omega⟩ : Fin 16384) l) := by
  obtain ⟨⟨f, g⟩, -⟩ := idx_facts t
  refine congrArg (V m c main_v1 : S16384x128.Idx → BitVec 32) (funext fun a => Fin.ext ?_)
  match a with
  | ⟨0, _⟩ => show win0_0.index t (0 : Fin 2) * 128 + 1 * r.val = 128 * t.val + r.val; rw [f]; omega
  | ⟨1, _⟩ => show win0_0.index t (1 : Fin 2) * 128 + 1 * l.val = l.val; rw [g]; omega

theorem nxt_at (c : Dev nD) (t : Fin cfg0.N) (r : Fin 8) (l : Fin 128) :
    (iblk m c 1 t : S1x8x128.Idx → BitVec 32) (ix3 (0 : Fin 1) r l)
      = (V m c main_v1 : S16384x128.Idx → BitVec 32) (ix2 (⟨128 * min (t.val + 1) 127 + r.val, by omega⟩ : Fin 16384) l) := by
  obtain ⟨-, ⟨f, g, h⟩, -⟩ := idx_facts t
  refine Eq.trans ?_ (next_at m c (⟨min (t.val + 1) 127, by omega⟩ : Fin 128) r l)
  refine congrArg (V m c main_v5 : S128x8x128.Idx → BitVec 32) (funext fun a => Fin.ext ?_)
  match a with
  | ⟨0, _⟩ => show win0_1.index t (0 : Fin 3) * 1 + 1 * 0 = min (t.val + 1) 127; rw [f]; omega
  | ⟨1, _⟩ => show win0_1.index t (1 : Fin 3) * 8 + 1 * r.val = r.val; rw [g]; omega
  | ⟨2, _⟩ => show win0_1.index t (2 : Fin 3) * 128 + 1 * l.val = l.val; rw [h]; omega

theorem tab_at (c : Dev nD) (t : Fin cfg0.N) : (iblk m c 6 t : S65536x128.Idx → BitVec 32) = m ((c : Thread nD τ).loc main_arg4) := by
  obtain ⟨-, -, -, -, -, -, ⟨f, g⟩, -⟩ := idx_facts t
  funext y
  refine Eq.trans (congrArg (V m c main_arg4 : S65536x128.Idx → BitVec 32) (funext fun a => Fin.ext ?_)) (congrFun (V_main_arg4 m c) y)
  match a with
  | ⟨0, _⟩ => show win0_6.index t (0 : Fin 2) * 65536 + 1 * (y 0).val = (y 0).val; rw [f]; omega
  | ⟨1, _⟩ => show win0_6.index t (1 : Fin 2) * 128 + 1 * (y 1).val = (y 1).val; rw [g]; omega

theorem idx_good (hN : Named m) (c : Dev nD) (t : Fin cfg0.N) (y : S128x128.Idx) : Good ((iblk m c 0 t : S128x128.Idx → BitVec 32) y) := by
  refine Eq.mpr (congrArg Good (Eq.trans ?_ (idx_at m c t (y 0) (y 1)))) (row_good m hN c _)
  exact congrArg (iblk m c 0 t : S128x128.Idx → BitVec 32) (ix2_eta y).symm
theorem nxt_good (hN : Named m) (c : Dev nD) (t : Fin cfg0.N) (y : S1x8x128.Idx) : Good ((iblk m c 1 t : S1x8x128.Idx → BitVec 32) y) := by
  refine Eq.mpr (congrArg Good (Eq.trans ?_ (nxt_at m c t (y 1) (y 2)))) (row_good m hN c _)
  exact congrArg (iblk m c 1 t : S1x8x128.Idx → BitVec 32) (funext fun a => match a with
    | ⟨0, _⟩ => Fin.ext (by have : (y 0).val < 1 := (y 0).isLt; show (y 0).val = 0; omega)
    | ⟨1, _⟩ => rfl
    | ⟨2, _⟩ => rfl)

/-- A point's next words are the next point's first. -/
theorem next_first (c : Dev nD) (t t' : Fin cfg0.N) (h : t'.val = t.val + 1) {f : S2x8x544x128.Idx → BitVec 32}
    (hf : Filled (nextWords (iblk m c 1 t)) (iblk m c 6 t) f 0 1024) : Filled (wordsOf (iblk m c 0 t') 0) (iblk m c 6 t') f 0 1024 := by
  intro tt p hp s l
  refine (hf tt p hp s l).trans ?_
  have ht : t'.val < 128 := t'.isLt.trans_eq N_0
  have e : nextWords (iblk m c 1 t) tt.val p.val = wordsOf (iblk m c 0 t') 0 tt.val p.val := by
    unfold nextWords wordsOf
    rw [nxt_at, idx_at]
    refine congrArg (V m c main_v1 : S16384x128.Idx → BitVec 32) (congrArg (fun r => ix2 r _) (Fin.ext ?_))
    show 128 * min (t.val + 1) 127 + tt.val % 8 = 128 * t'.val + (8 * 0 + tt.val) % 128
    omega
  rw [e, tab_at, tab_at]

end Cert.ActIdeal.Rows
-- ==== Proof.Act.Run.lean ====
/-
  `peer_act`'s run: the tile's first buffer holds the point's first group from the second point on, and every point leaves its block's
  coefficients.
-/
module

public import proofs.«01_k».proof.Proof.Act.Body
public import proofs.«01_k».proof.Proof.Act.Words
public import Idealize.ShloMosaic.Lib.Claim

@[expose] public section

set_option maxRecDepth 16384

noncomputable section

namespace Cert.ActIdeal.Rows

open Cert.ActIdeal Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From the second point on, the tile's first buffer holds the point's first group. -/
def Ahead (c : Dev nD) (t : Fin (cfg0.N + 1)) (f : S2x8x544x128.Idx → BitVec 32) : Prop :=
  ∀ t' : Fin cfg0.N, t'.val = t.val → t'.val ≠ 0 → Filled (wordsOf (iblk m c 0 t') 0) (iblk m c 6 t') f 0 1024

def held (c : Dev nD) (t : Fin (cfg0.N + 1)) : sProp 𝕄 :=
  iprop((∃ f : Buf (Elt F) ((c : Thread nD τ).loc cc0_scratch0), ⌜Ahead m c t f⌝ ∗ ((c : Thread nD τ).loc cc0_scratch0) ↦{fullShare} f)
    ∗ (∃ f : Buf (Elt F) ((c : Thread nD τ).loc cc0_scratch1), ((c : Thread nD τ).loc cc0_scratch1) ↦{fullShare} f) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => coefs (iblk m c 0 t) (iblk m c 3 t) (iblk m c 4 t) (iblk m c 5 t) (iblk m c 6 t)
  Φ t := held m c t
  q _ := fullShare
  owed _ := 0

theorem A_eq (c : Dev nD) (w : Fin cfg0.W) : (dats m 0 c).A w = V m c (Pipeline.arrRef spec0 w) := by
  dsimp only [dats]
theorem held_eq (c : Dev nD) (t) : (dats m 0 c).Φ t = held m c t := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = coefs (iblk m c 0 t) (iblk m c 3 t) (iblk m c 4 t) (iblk m c 5 t) (iblk m c 6 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

theorem ahead_succ (c : Dev nD) (t : Fin cfg0.N) (f : S2x8x544x128.Idx → BitVec 32) (h : Filled (nextWords (iblk m c 1 t)) (iblk m c 6 t) f 0 1024) :
    Ahead m c t.succ f := fun t' h' _ => next_first m c t t' (h'.trans rfl) h

set_option maxHeartbeats 800000 in
theorem sound_body (hN : Named m) (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t))) := by
  unfold bodyAt0
  simp only [before0_0, before0_1, before0_2, before0_3, before0_4, before0_5, before0_6]
  rw [show (dats m 0 c).owesAt () t.succ = (dats m 0 c).owesAt () t.castSucc from rfl, held_eq, held_eq, after0_0, after0_1, after0_2, after0_3, after0_4, after0_5, after0_6, after0_7]
  unfold held
  iintro ⟨⟨⟨%f9, %hA, H9⟩, ⟨%f10, H10⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_point c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t)
    (idx_good m hN c t) (nxt_good m hN c t) (step_steps m c t) _)
  simp only [Memref.view_whole, View.set_whole, View.read_whole]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H9]
  · iexists f9
    isplitr
    · ipureintro
      exact fun hc => hA t rfl fun h0 => hc (point_first t h0)
    iexact H9
  isplitl [H10]; · iexists f10; iexact H10
  iintro ⟨H0, H1, H2, H3, H4, H5, H6, H7, ⟨%g9, %hg, H9⟩, ⟨%g10, H10⟩⟩
  isplitl [H9 H10 Hp]
  · isplitl [H9]
    · iexists g9
      isplitr
      · ipureintro; exact ahead_succ m c t g9 hg
      iexact H9
    isplitl [H10]; · iexists g10; iexact H10
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (hN : Named m) (c : Dev nD) : BodyObligation (dats (F := F) m 0 c) (defs₀ (F := F)) Variants.none () Set.univ := fun t => by
  rw [bigSep_W0, bigSep_W0, defs₀_row]
  exact triple_restated (sound_body m hN c t) rfl .rfl fun _ => .rfl

theorem enter (c : Dev nD) : Pipeline.ΦA spec0 c ⊢ (dats m 0 c).Φ 0 := by
  unfold Pipeline.ΦA
  rw [scopedRest0_eq c, held_eq]
  unfold held
  iintro ⟨⟨⟨%f9, H9⟩, H10⟩, Hp⟩
  isplitl [H9]
  · iexists f9
    isplitr
    · ipureintro; exact fun t' h0 h => absurd h0 h
    iexact H9
  isplitl [H10]; · iexact H10
  iexact Hp

theorem leave (c : Dev nD) : (dats m 0 c).Φ (Fin.last cfg0.N) ⊢ Pipeline.ΦA spec0 c := by
  unfold Pipeline.ΦA
  rw [scopedRest0_eq c, held_eq]
  unfold held
  iintro ⟨⟨%f9, -, H9⟩, H10, Hp⟩
  isplitl [H9 H10]
  · isplitl [H9]; · iexists f9; iexact H9
    iexact H10
  iexact Hp

set_option backward.isDefEq.respectTransparency.types false in
set_option maxHeartbeats 800000 in
theorem run_main (hN : Named m) : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m hN c).loose) (hshare := fun c => (dats m 0 c).share_full fun _ => rfl)
    (howed := fun _ _ => rfl) (V := V m) (hmain := hmain m Variants.none) (hA := A_eq m) (hin := enter m) (hout := leave m)

theorem frame (hN : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ hN))) ((θ_run defs _ _).mono (fun _ h => h.2) (run_main m ρ hN))

end Cert.ActIdeal.Rows
-- ==== Proof.Act.Frame.lean ====
/-
  The experts named, as the precondition states it, and `peer_act`'s frame at the ideal instance.
-/
module

public import proofs.«01_k».proof.Defs
public import proofs.«01_k».proof.Proof.Act.Run
public import proofs.«01_k».proof.Proof.Gen.ActIdeal

@[expose] public section

set_option maxRecDepth 16384

noncomputable section

namespace Cert.ActIdeal.Rows

open Idealize.ShloMosaic Idealize.SL.Sem

theorem named_of {F : FTy → Type} [FloatOps F] [Cert.Pre_experts_named.Facts] (x : IVec Cert.Pre_experts_named.S16384x128 32) (a b c d)
    (h : Cert.Pre_experts_named.fn (F := F) x a b c d = fun _ => 1#1) (y : Cert.Pre_experts_named.S16384x128.Idx) : (x y).toNat < 16384 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_experts_named.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

variable [Cert.Pre_experts_named.Facts]

theorem frame_ideal : Cert.quiescent_ActIdeal := fun m ρ hP => frame (F := Ideal) m ρ fun c y => named_of _ _ _ _ _ (hP c) y

end Cert.ActIdeal.Rows
-- ==== Proof.Act.Bits.lean ====
/-
  `peer_act`'s frame at the bit patterns, from the run over any float values.
-/
module

public import proofs.«01_k».proof.Defs
public import proofs.«01_k».proof.Proof.Act.Frame
public import proofs.«01_k».proof.Proof.Gen.Act

@[expose] public section

set_option maxRecDepth 16384

noncomputable section

namespace Cert.ActIdeal.Rows

open Idealize.ShloMosaic Idealize.ShloMosaic.TcCoe Idealize.SL.Sem

/-- The two programs have the same text. -/
theorem same_text : (∀ (m : (ℓ : Loc Cert.Act.nD Cert.Act.τ Cert.Act.sig) → Buf (Elt Bits) ℓ) (g : Dev Cert.Act.nD → PrngReg), (∀ (c : Dev Cert.Act.nD) (y : Cert.Act.S16384x128.Idx), (m ((c : Thread Cert.Act.nD Cert.Act.τ).loc Cert.Act.main_arg0) y : BitVec 32).toNat < 16384) →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0) ∧ r.2.mem ((c.tc : Thread Cert.Act.nD Cert.Act.τ).loc Cert.Act.main_arg1) = m ((c.tc : Thread Cert.Act.nD Cert.Act.τ).loc Cert.Act.main_arg1) ∧ r.2.mem ((c.tc : Thread Cert.Act.nD Cert.Act.τ).loc Cert.Act.main_arg2) = m ((c.tc : Thread Cert.Act.nD Cert.Act.τ).loc Cert.Act.main_arg2) ∧ r.2.mem ((c.tc : Thread Cert.Act.nD Cert.Act.τ).loc Cert.Act.main_arg3) = m ((c.tc : Thread Cert.Act.nD Cert.Act.τ).loc Cert.Act.main_arg3) ∧ r.2.mem ((c.tc : Thread Cert.Act.nD Cert.Act.τ).loc Cert.Act.main_arg4) = m ((c.tc : Thread Cert.Act.nD Cert.Act.τ).loc Cert.Act.main_arg4)) ∧ r.2.sem = fun _ => 0))
    = (∀ (m : (ℓ : Loc Cert.ActIdeal.nD Cert.ActIdeal.τ Cert.ActIdeal.sig) → Buf (Elt Bits) ℓ) (g : Dev Cert.ActIdeal.nD → PrngReg), (∀ (c : Dev Cert.ActIdeal.nD) (y : Cert.ActIdeal.S16384x128.Idx), (m ((c : Thread Cert.ActIdeal.nD Cert.ActIdeal.τ).loc Cert.ActIdeal.main_arg0) y : BitVec 32).toNat < 16384) →
    θ_run (Cert.ActIdeal.defs (F := Bits)) (onTc (τ := Cert.ActIdeal.τ) (Cert.ActIdeal.main (F := Bits))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0) ∧ r.2.mem ((c.tc : Thread Cert.ActIdeal.nD Cert.ActIdeal.τ).loc Cert.ActIdeal.main_arg1) = m ((c.tc : Thread Cert.ActIdeal.nD Cert.ActIdeal.τ).loc Cert.ActIdeal.main_arg1) ∧ r.2.mem ((c.tc : Thread Cert.ActIdeal.nD Cert.ActIdeal.τ).loc Cert.ActIdeal.main_arg2) = m ((c.tc : Thread Cert.ActIdeal.nD Cert.ActIdeal.τ).loc Cert.ActIdeal.main_arg2) ∧ r.2.mem ((c.tc : Thread Cert.ActIdeal.nD Cert.ActIdeal.τ).loc Cert.ActIdeal.main_arg3) = m ((c.tc : Thread Cert.ActIdeal.nD Cert.ActIdeal.τ).loc Cert.ActIdeal.main_arg3) ∧ r.2.mem ((c.tc : Thread Cert.ActIdeal.nD Cert.ActIdeal.τ).loc Cert.ActIdeal.main_arg4) = m ((c.tc : Thread Cert.ActIdeal.nD Cert.ActIdeal.τ).loc Cert.ActIdeal.main_arg4)) ∧ r.2.sem = fun _ => 0)) := by
  chain_rfl

variable [Cert.Pre_experts_named.Facts]

theorem frame_bits : Cert.quiescent_Act := fun m ρ hP =>
  (Eq.mpr same_text fun m ρ hN => frame (F := Bits) m ρ hN) m ρ fun c y => named_of _ _ _ _ _ (hP c) y

end Cert.ActIdeal.Rows
-- ==== Proof.Act.Halves.lean ====
/-
  What `peer_act` computes of the gathered rows at the ideal instance: a pair's dot product of the table's unpacked values with the token's.
-/
module

public import proofs.«01_k».proof.Proof.Act.Coef
public import Idealize.ShloMosaic.Lib.Pointwise

@[expose] public section

set_option maxRecDepth 16384

noncomputable section

namespace Cert.ActIdeal.Rows

open Cert.ActIdeal Cert.ActIdeal.Gen
open Idealize.ShloMosaic Idealize.ShloMosaic.TcCoe

/-- Half `i` of a word, as a number. -/
def half (i : Nat) (w : BitVec 32) : EReal := Ideal.ofBits FTy.bf16 (w.extractLsb' (i * 16) 16)

/-- Value `k` of the expert whose four rows begin at row `w`. -/
def unpacked (T : S65536x128.Idx → BitVec 32) (w : BitVec 32) (k : Fin 1024) : EReal :=
  half (k.val / 512) (T (ix2 (rowOf w (k.val % 512 / 128)) (⟨k.val % 128, Nat.mod_lt _ (by omega)⟩ : Fin 128)))

theorem chunk_apply (tile : Vec Ideal S128x128 .i32) (h8 : Vec Ideal S8x1024 .f32) (tt : Fin 8) (j : Fin 4) (acc : FVec Ideal S128x128 .f32) (p l : Fin 128) :
    chunk tile h8 tt j acc (ix2 p l)
      = acc (ix2 p l) + half 0 (tile (ix2 p l)) * h8 (ix2 tt (⟨128 * j.val + l.val, by omega⟩ : Fin 1024))
        + half 1 (tile (ix2 p l)) * h8 (ix2 tt (⟨512 + 128 * j.val + l.val, by omega⟩ : Fin 1024)) := by
  unfold half
  pointwise [chunk]

theorem dots_sum (ld : Fin 4 → Vec Ideal S128x128 .i32) (h8 : Vec Ideal S8x1024 .f32) (tt : Fin 8) (p : Fin 128) :
    dots ld h8 tt (ix2 p (0 : Fin 1))
      = ∑ l : Fin 128, chunk (ld 3) h8 tt 3 (chunk (ld 2) h8 tt 2 (chunk (ld 1) h8 tt 1 (chunk (ld 0) h8 tt 0 (broadcast S128x128 (Scalar.ofBits .f32 0x00000000#32))))) (ix2 p l) := by
  unfold dots
  pointwise

theorem select_eq (a b : BitVec 32) (x y : EReal) : Scalar.select (IntOp.cmpi .eq a b) x y = if a = b then x else y := by
  by_cases h : a = b
  · subst h
    rw [if_pos rfl, IntOp.cmpi_eq_self]
    rfl
  · rw [if_neg h]
    have e : IntOp.cmpi .eq a b = 0#1 := by show BitVec.ofBool (a == b) = 0#1; rw [beq_eq_false_iff_ne.2 h]; rfl
    rw [e]
    rfl

theorem token_apply (v18 : FVec Ideal S128x128 .f32) (v19 : IVec S128x128 32) (t : BitVec 32) (ld : Fin 4 → Vec Ideal S128x128 .i32) (h8 : Vec Ideal S8x1024 .f32) (tt : Fin 8)
    (acc : FVec Ideal S128x128 .f32) (p l : Fin 128) :
    token v18 v19 t ld h8 tt acc (ix2 p l)
      = if v19 (ix2 p l) = t then (∑ k : Fin 128, if v19 (ix2 p k) = t then v18 (ix2 p k) else 0)
          * (Ideal.ofBits .f32 0x3F000000#32 * dots ld h8 tt (ix2 p (0 : Fin 1))
            * (1 + Ideal.erf (dots ld h8 tt (ix2 p (0 : Fin 1)) * Ideal.ofBits .f32 0x3F3504F3#32)))
        else acc (ix2 p l) := by
  unfold token
  generalize dots ld h8 tt = d
  pointwise
  simp only [select_eq]
  rfl

theorem in_turn (a b c d e f g i : EReal) : a + b + c + d + e + f + g + i = 0 + a + e + b + f + c + g + d + i := by
  rw [zero_add]; abel

/-- A sum of 1024 by lanes, the two halves of each of the four chunks one after the other. -/
theorem sum_lanes (f : Fin 1024 → EReal) :
    ∑ k : Fin 1024, f k = ∑ l : Fin 128, (0 + f ⟨128 * 0 + l.val, by omega⟩ + f ⟨512 + 128 * 0 + l.val, by omega⟩
      + f ⟨128 * 1 + l.val, by omega⟩ + f ⟨512 + 128 * 1 + l.val, by omega⟩ + f ⟨128 * 2 + l.val, by omega⟩ + f ⟨512 + 128 * 2 + l.val, by omega⟩
      + f ⟨128 * 3 + l.val, by omega⟩ + f ⟨512 + 128 * 3 + l.val, by omega⟩) := by
  rw [Fin.sum_univ_tiles 8 128 rfl f, Finset.sum_comm]
  refine Finset.sum_congr rfl fun l _ => ?_
  rw [Fin.sum_univ_eight]
  exact in_turn _ _ _ _ _ _ _ _

section Lanes
variable (x : S128x128.Idx → BitVec 32) (T : S65536x128.Idx → BitVec 32) (h : S128x1024.Idx → EReal)

def term (r p : Fin 128) (k : Fin 1024) : EReal := unpacked T (x (ix2 r p)) k * h (ix2 r k)

/-- The token's dot product with pair `p`'s unpacked row. -/
def product (r p : Fin 128) : EReal := ∑ k : Fin 1024, term x T h r p k

/-- The exact GELU of a number. -/
def gelu (d : EReal) : EReal := Ideal.ofBits .f32 0x3F000000#32 * d * (1 + Ideal.erf (d * Ideal.ofBits .f32 0x3F3504F3#32))

theorem lower (g : Fin 16) (tt : Fin 8) (p l : Fin 128) (j : Fin 4) :
    half 0 (tableRows (F := Ideal) (wordsOf x g.val) T tt j (ix2 p l)) * groupRows (F := Ideal) h g.val (ix2 tt (⟨128 * j.val + l.val, by omega⟩ : Fin 1024))
      = term x T h ⟨8 * g.val + tt.val, by omega⟩ p ⟨128 * j.val + l.val, by omega⟩ := by
  have er : (⟨(8 * g.val + tt.val) % 128, Nat.mod_lt _ (by omega)⟩ : Fin 128) = ⟨8 * g.val + tt.val, by omega⟩ := Fin.ext (Nat.mod_eq_of_lt (by omega))
  have ep : (⟨p.val % 128, Nat.mod_lt _ (by omega)⟩ : Fin 128) = p := Fin.ext (Nat.mod_eq_of_lt p.isLt)
  refine congrArg₂ (· * ·) (congrArg₂ half (by show 0 = (128 * j.val + l.val) / 512; omega) (congrArg T (congrArg₂ ix2 (congrArg₂ rowOf ?_ ?_) (Fin.ext ?_)))) ?_
  · exact congrArg x (congrArg₂ ix2 er ep)
  · show j.val = (128 * j.val + l.val) % 512 / 128; omega
  · show l.val = (128 * j.val + l.val) % 128; omega
  · exact congrArg h (congrArg₂ ix2 er rfl)

theorem upper (g : Fin 16) (tt : Fin 8) (p l : Fin 128) (j : Fin 4) :
    half 1 (tableRows (F := Ideal) (wordsOf x g.val) T tt j (ix2 p l)) * groupRows (F := Ideal) h g.val (ix2 tt (⟨512 + 128 * j.val + l.val, by omega⟩ : Fin 1024))
      = term x T h ⟨8 * g.val + tt.val, by omega⟩ p ⟨512 + 128 * j.val + l.val, by omega⟩ := by
  have er : (⟨(8 * g.val + tt.val) % 128, Nat.mod_lt _ (by omega)⟩ : Fin 128) = ⟨8 * g.val + tt.val, by omega⟩ := Fin.ext (Nat.mod_eq_of_lt (by omega))
  have ep : (⟨p.val % 128, Nat.mod_lt _ (by omega)⟩ : Fin 128) = p := Fin.ext (Nat.mod_eq_of_lt p.isLt)
  refine congrArg₂ (· * ·) (congrArg₂ half (by show 1 = (512 + 128 * j.val + l.val) / 512; omega) (congrArg T (congrArg₂ ix2 (congrArg₂ rowOf ?_ ?_) (Fin.ext ?_)))) ?_
  · exact congrArg x (congrArg₂ ix2 er ep)
  · show j.val = (512 + 128 * j.val + l.val) % 512 / 128; omega
  · show l.val = (512 + 128 * j.val + l.val) % 128; omega
  · exact congrArg h (congrArg₂ ix2 er rfl)

theorem chunk_product (g : Fin 16) (tt : Fin 8) (p l : Fin 128) (j : Fin 4) (acc : FVec Ideal S128x128 .f32) :
    chunk (F := Ideal) (tableRows (wordsOf x g.val) T tt j) (groupRows h g.val) tt j acc (ix2 p l)
      = acc (ix2 p l) + term x T h ⟨8 * g.val + tt.val, by omega⟩ p ⟨128 * j.val + l.val, by omega⟩
        + term x T h ⟨8 * g.val + tt.val, by omega⟩ p ⟨512 + 128 * j.val + l.val, by omega⟩ := by
  rw [chunk_apply, lower, upper]

theorem dots_product (g : Fin 16) (tt : Fin 8) (p : Fin 128) :
    dots (F := Ideal) (tableRows (wordsOf x g.val) T tt) (groupRows h g.val) tt (ix2 p (0 : Fin 1)) = product x T h ⟨8 * g.val + tt.val, by omega⟩ p := by
  unfold product
  rw [dots_sum, sum_lanes]
  refine Finset.sum_congr rfl fun l _ => ?_
  rw [chunk_product, chunk_product, chunk_product, chunk_product]
  exact congrArg (fun z : EReal => z + term x T h ⟨8 * g.val + tt.val, by omega⟩ p ⟨128 * 0 + l.val, by omega⟩ + term x T h ⟨8 * g.val + tt.val, by omega⟩ p ⟨512 + 128 * 0 + l.val, by omega⟩
    + term x T h ⟨8 * g.val + tt.val, by omega⟩ p ⟨128 * 1 + l.val, by omega⟩ + term x T h ⟨8 * g.val + tt.val, by omega⟩ p ⟨512 + 128 * 1 + l.val, by omega⟩
    + term x T h ⟨8 * g.val + tt.val, by omega⟩ p ⟨128 * 2 + l.val, by omega⟩ + term x T h ⟨8 * g.val + tt.val, by omega⟩ p ⟨512 + 128 * 2 + l.val, by omega⟩
    + term x T h ⟨8 * g.val + tt.val, by omega⟩ p ⟨128 * 3 + l.val, by omega⟩ + term x T h ⟨8 * g.val + tt.val, by omega⟩ p ⟨512 + 128 * 3 + l.val, by omega⟩)
    Ideal.ofBits_zero_f32

variable (v18 : FVec Ideal S128x128 .f32)

/-- The first `n` tokens' lanes hold their coefficients, the others nothing. -/
def Upto (n : Nat) (acc : FVec Ideal S128x128 .f32) : Prop :=
  ∀ p l : Fin 128, acc (ix2 p l) = if l.val < n then v18 (ix2 p l) * gelu (product x T h l p) else (0 : EReal)

theorem word_eq (l k : Fin 128) : BitVec.ofNat 32 l.val = BitVec.ofNat 32 k.val ↔ l = k :=
  ⟨fun e => Fin.ext (by have := congrArg BitVec.toNat e; simp only [BitVec.toNat_ofNat] at this; omega), fun e => e ▸ rfl⟩

variable {x T h v18} in
theorem Upto.step {v19 : IVec S128x128 32} (hv : ∀ p l : Fin 128, v19 (ix2 p l) = BitVec.ofNat 32 l.val) {g : Fin 16} (tt : Fin 8) {acc : FVec Ideal S128x128 .f32}
    (ha : Upto x T h v18 (8 * g.val + tt.val) acc) {t : BitVec 32} (ht : t = BitVec.ofNat 32 (8 * g.val + tt.val)) :
    Upto x T h v18 (8 * g.val + (tt.val + 1)) (token v18 v19 t (tableRows (wordsOf x g.val) T tt) (groupRows h g.val) tt acc) := by
  intro p l
  have e : ∀ l : Fin 128, v19 (ix2 p l) = t ↔ l = (⟨8 * g.val + tt.val, by omega⟩ : Fin 128) := fun l => by
    rw [hv, ht]; exact word_eq l ⟨8 * g.val + tt.val, by omega⟩
  rw [token_apply, dots_product, ha p l]
  simp only [e, Finset.sum_ite_eq', Finset.mem_univ, if_true]
  by_cases hl : l = (⟨8 * g.val + tt.val, by omega⟩ : Fin 128)
  · subst hl
    rw [if_pos rfl, if_pos (by show 8 * g.val + tt.val < 8 * g.val + (tt.val + 1); omega)]
    rfl
  · have hl' : l.val ≠ 8 * g.val + tt.val := fun e => hl (Fin.ext e)
    rw [if_neg hl]
    by_cases h' : l.val < 8 * g.val + tt.val
    · rw [if_pos h', if_pos (by omega)]
    · rw [if_neg h', if_neg (by omega)]

theorem token_word : ∀ (g : Fin 16) (k : Fin 8), Scalar.addi (Scalar.muli (BitVec.ofNat 32 g.val) 8#32) (BitVec.ofNat 32 k.val) = BitVec.ofNat 32 (8 * g.val + k.val) := by
  decide +kernel

theorem lanes_upto {v19 : IVec S128x128 32} (hv : ∀ p l : Fin 128, v19 (ix2 p l) = BitVec.ofNat 32 l.val) :
    ∀ g : Nat, g ≤ 16 → Upto x T h v18 (8 * g) (lanes (F := Ideal) v18 v19 x T h g)
  | 0, _ => fun p l => by rw [if_neg (by omega)]; exact Ideal.ofBits_zero_f32
  | g + 1, hg => by
    have h0 := lanes_upto hv g (by omega)
    have w := token_word ⟨g, by omega⟩
    exact Upto.step (g := ⟨g, by omega⟩) hv 7 (Upto.step (g := ⟨g, by omega⟩) hv 6 (Upto.step (g := ⟨g, by omega⟩) hv 5 (Upto.step (g := ⟨g, by omega⟩) hv 4
      (Upto.step (g := ⟨g, by omega⟩) hv 3 (Upto.step (g := ⟨g, by omega⟩) hv 2 (Upto.step (g := ⟨g, by omega⟩) hv 1 (Upto.step (g := ⟨g, by omega⟩) hv 0 h0
        (w 0)) (w 1)) (w 2)) (w 3)) (w 4)) (w 5)) (w 6)) (w 7)

end Lanes

end Cert.ActIdeal.Rows
-- ==== Proof.InProj.lean ====
/-
  `_in_proj`'s value: at each of the 64 points the three products of the point's 256 normalised rows with the three column ranges of the
  laid-out weights, against the reference's one product cut and padded.
-/
module

public import proofs.«01_k».proof.Proof.Gen.InProjIdeal.Value
public import proofs.«01_k».proof.Proof.Gen.InProjReferenceIdeal.Read
public import Idealize.ShloMosaic.Lib.Pointwise
public import Idealize.ShloMosaic.Lib.StableHlo.ReadAt
public import Idealize.ShloMosaic.Lib.Routing.OpsSet

@[expose] public section

set_option maxRecDepth 16384

noncomputable section

namespace Cert.InProjIdeal.Rows

open Cert.InProjIdeal Cert.InProjIdeal.Gen
open Idealize.ShloMosaic Idealize.ShloMosaic.TcCoe Idealize.SL.Sem
open Idealize.ShloMosaic.Pipeline (Dat)
open Idealize.ShloMosaic.Routing (scatter_set_hit scatter_set_miss)

/-! ## A block of columns set at the left of a zero matrix -/

abbrev leftDims (n : Nat) (wf : ScatterDims.WF S1024x128 S1 ⟨2, ![1024, n]⟩ [0, 1] [] [1] 0) : ScatterDims S1024x128 S1 ⟨2, ![1024, n]⟩ where
  updateWindowDims := [0, 1]
  insertedWindowDims := []
  scatterDimsToOperandDims := [1]
  indexVectorDim := 0
  wf := wf

theorem left_at (n : Nat) (wf) (j : (⟨2, ![1024, n]⟩ : Shape).Idx) (a : Fin 2) :
    (leftDims n wf).start j (fun _ => 0#32) a + (leftDims n wf).window j a = (j a).val := by
  have hs : (leftDims n wf).start j (fun _ => 0#32) a = 0 := by
    unfold ScatterDims.start
    split <;> rfl
  have hw : (leftDims n wf).window j a = (j a).val := by
    unfold ScatterDims.window
    match a with
    | ⟨0, _⟩ => exact dif_pos (show (0 : Fin 2) ∈ [0, 1] by decide)
    | ⟨1, _⟩ => exact dif_pos (show (1 : Fin 2) ∈ [0, 1] by decide)
  rw [hs, hw]; omega

theorem left_lands (n : Nat) (wf) (j : (⟨2, ![1024, n]⟩ : Shape).Idx) (i : S1024x128.Idx) :
    (leftDims n wf).resultIdx? j (fun _ => 0#32) = some i ↔ ∀ a : Fin 2, (j a).val = (i a).val := by
  unfold ScatterDims.resultIdx?
  constructor
  · intro h a
    split at h
    · have e := congrArg (fun z => (z a).val) (Option.some.inj h)
      have e' : ((leftDims n wf).start j (fun _ => 0#32) a + (leftDims n wf).window j a).toNat = (i a).val := e
      rw [left_at] at e'; omega
    · exact absurd h (by simp)
  · intro h
    rw [dif_pos (fun a => by rw [left_at, h a]; exact ⟨by omega, by have := (i a).isLt; exact_mod_cast this⟩)]
    refine congrArg some (funext fun a => Fin.ext ?_)
    show ((leftDims n wf).start j (fun _ => 0#32) a + (leftDims n wf).window j a).toNat = (i a).val
    rw [left_at, h a]; omega

theorem scatter_left {α : Type} (n : Nat) (wf) (hn : n ≤ 128) (x0 : S1024x128.Idx → α) (upd : (⟨2, ![1024, n]⟩ : Shape).Idx → α) (r : Fin 1024) (l : Fin 128) :
    Host.scatter (leftDims n wf) (fun _ b => b) x0 (fun _ => 0#32) upd (ix2 r l)
      = if h : l.val < n then upd (ix2 r ⟨l.val, h⟩) else x0 (ix2 r l) := by
  by_cases h : l.val < n
  · rw [dif_pos h]
    refine scatter_set_hit _ _ _ _ _ _ (fun k hk => congrArg upd (funext fun a => Fin.ext ?_)) (ix2 r ⟨l.val, h⟩) ((left_lands n wf _ _).2 fun a => ?_)
    · have := (left_lands n wf k _).1 hk a
      match a with
      | ⟨0, _⟩ => exact this
      | ⟨1, _⟩ => exact this
    · match a with
      | ⟨0, _⟩ => rfl
      | ⟨1, _⟩ => rfl
  · rw [dif_neg h]
    refine scatter_set_miss _ _ _ _ _ fun k hk => h ?_
    have := (left_lands n wf k _).1 hk 1
    have hb : (k 1).val < n := (k 1).isLt
    have e : (k 1).val = l.val := this
    omega

/-! ## The laid-out weights -/

/-- Column `l` of the laid-out weights: `w_in`'s columns with the low-rank ones padded to 128. -/
def wcol (W : S1024x4768.Idx → EReal) (x : Fin 1024) (l : Nat) (hl : l < 4992) : EReal :=
  if h : l < 2560 then W (ix2 x ⟨l, by omega⟩)
  else if h1 : l < 2688 then (if h : l < 2592 then W (ix2 x ⟨l, by omega⟩) else 0)
  else if h2 : l < 2816 then (if h : l < 2720 then W (ix2 x ⟨l - 96, by omega⟩) else 0)
  else if h3 : l < 2944 then (if h : l < 2912 then W (ix2 x ⟨l - 192, by omega⟩) else 0)
  else W (ix2 x ⟨l - 224, by omega⟩)

theorem wcol_eq (W : S1024x4768.Idx → EReal) (x : Fin 1024) (l : Nat) (hl : l < 4992) (k : Nat) (hk : k < 4768)
    (h : l = k ∧ l < 2592 ∨ l = k + 96 ∧ 2688 ≤ l ∧ l < 2720 ∨ l = k + 192 ∧ 2816 ≤ l ∧ l < 2912 ∨ l = k + 224 ∧ 2944 ≤ l) :
    W (ix2 x ⟨k, hk⟩) = wcol W x l hl := by
  unfold wcol
  repeat' split
  all_goals first
    | omega
    | (refine congrArg (fun z => W (ix2 x z)) (Fin.ext ?_); dsimp only; omega)

theorem wcol_zero (W : S1024x4768.Idx → EReal) (x : Fin 1024) (l : Nat) (hl : l < 4992)
    (h : 2592 ≤ l ∧ l < 2688 ∨ 2720 ≤ l ∧ l < 2816 ∨ 2912 ≤ l ∧ l < 2944) : 0 = wcol W x l hl := by
  unfold wcol
  repeat' split
  all_goals first | rfl | omega

variable (m : (ℓ : Loc nD τ sig) → Buf (Elt Ideal) ℓ) (ρ : Dev nD → PrngReg)

/-- The laid-out weights as they are put together from `w_in`. -/
def laid (W : S1024x4768.Idx → EReal) : S1024x4992.Idx → EReal :=
  truncf (F := Ideal) .bf16 (concatenate S1024x4992 1
      [⟨S1024x2560, extractStridedSlice S1024x2560 ![0, 0] W slices_S1024x4768_S1024x2560_0_0⟩,
       ⟨S1024x128, Host.scatter scatter_S1024x128_S1_S1024x32_01_n_1_0 (fun _ b => b)
          (broadcastInDim S1024x128 ![] bcast_S_S1024x128 (constant (F := Ideal) S_ .f32 0x00000000#32)) (broadcastInDim S1 ![] bcast_S_S1 (constantI S_ 32 0#32))
          (extractStridedSlice S1024x32 ![0, 2560] W slices_S1024x4768_S1024x32_0_2560)⟩,
       ⟨S1024x128, Host.scatter scatter_S1024x128_S1_S1024x32_01_n_1_0 (fun _ b => b)
          (broadcastInDim S1024x128 ![] bcast_S_S1024x128 (constant (F := Ideal) S_ .f32 0x00000000#32)) (broadcastInDim S1 ![] bcast_S_S1 (constantI S_ 32 0#32))
          (extractStridedSlice S1024x32 ![0, 2592] W slices_S1024x4768_S1024x32_0_2592)⟩,
       ⟨S1024x128, Host.scatter scatter_S1024x128_S1_S1024x96_01_n_1_0 (fun _ b => b)
          (broadcastInDim S1024x128 ![] bcast_S_S1024x128 (constant (F := Ideal) S_ .f32 0x00000000#32)) (broadcastInDim S1 ![] bcast_S_S1 (constantI S_ 32 0#32))
          (extractStridedSlice S1024x96 ![0, 2624] W slices_S1024x4768_S1024x96_0_2624)⟩,
       ⟨S1024x2048, extractStridedSlice S1024x2048 ![0, 2720] W slices_S1024x4768_S1024x2048_0_2720⟩]
      concatenates_S1024x2560_S1024x128_S1024x128_S1024x128_S1024x2048_S1024x4992_d1) bitsLt_bf16_f32

theorem V_w (c : Dev nD) : (V m c main_v15 : S1024x4992.Idx → EReal) = laid (m ((c : Thread nD τ).loc main_arg2)) := by
  unfold V laid
  generalize hW : (m ((c : Thread nD τ).loc main_arg2) : S1024x4768.Idx → EReal) = W
  have h0 : (StableHlo.upto hostOps0 (fun b => m (c, b)) 20 (Proc.tc.devRef main_v0) : S1024x2560.Idx → EReal)
      = extractStridedSlice S1024x2560 ![0, 0] W slices_S1024x4768_S1024x2560_0_0 := by subst hW; after_reads_simp
  have h4 : (StableHlo.upto hostOps0 (fun b => m (c, b)) 20 (Proc.tc.devRef main_v4) : S1024x128.Idx → EReal)
      = Host.scatter scatter_S1024x128_S1_S1024x32_01_n_1_0 (fun _ b => b)
          (broadcastInDim S1024x128 ![] bcast_S_S1024x128 (constant (F := Ideal) S_ .f32 0x00000000#32)) (broadcastInDim S1 ![] bcast_S_S1 (constantI S_ 32 0#32))
          (extractStridedSlice S1024x32 ![0, 2560] W slices_S1024x4768_S1024x32_0_2560) := by subst hW; after_reads_simp
  have h8 : (StableHlo.upto hostOps0 (fun b => m (c, b)) 20 (Proc.tc.devRef main_v8) : S1024x128.Idx → EReal)
      = Host.scatter scatter_S1024x128_S1_S1024x32_01_n_1_0 (fun _ b => b)
          (broadcastInDim S1024x128 ![] bcast_S_S1024x128 (constant (F := Ideal) S_ .f32 0x00000000#32)) (broadcastInDim S1 ![] bcast_S_S1 (constantI S_ 32 0#32))
          (extractStridedSlice S1024x32 ![0, 2592] W slices_S1024x4768_S1024x32_0_2592) := by subst hW; after_reads_simp
  have h12 : (StableHlo.upto hostOps0 (fun b => m (c, b)) 20 (Proc.tc.devRef main_v12) : S1024x128.Idx → EReal)
      = Host.scatter scatter_S1024x128_S1_S1024x96_01_n_1_0 (fun _ b => b)
          (broadcastInDim S1024x128 ![] bcast_S_S1024x128 (constant (F := Ideal) S_ .f32 0x00000000#32)) (broadcastInDim S1 ![] bcast_S_S1 (constantI S_ 32 0#32))
          (extractStridedSlice S1024x96 ![0, 2624] W slices_S1024x4768_S1024x96_0_2624) := by subst hW; after_reads_simp
  have h13 : (StableHlo.upto hostOps0 (fun b => m (c, b)) 20 (Proc.tc.devRef main_v13) : S1024x2048.Idx → EReal)
      = extractStridedSlice S1024x2048 ![0, 2720] W slices_S1024x4768_S1024x2048_0_2720 := by subst hW; after_reads_simp
  after_reads_simp
  rw [← h0, ← h4, ← h8, ← h12, ← h13]
  rfl

theorem lora (n o : Nat) (wf) (hn : n ≤ 128) (ho : o + n ≤ 4768) (hs : S1024x4768.Slices ![0, o] ⟨2, ![1024, n]⟩) (W : S1024x4768.Idx → EReal) (r : Fin 1024) (l : Fin 128) :
    Host.scatter (leftDims n wf) (fun _ b => b) (broadcastInDim S1024x128 ![] bcast_S_S1024x128 (constant (F := Ideal) S_ .f32 0x00000000#32))
        (broadcastInDim S1 ![] bcast_S_S1 (constantI S_ 32 0#32)) (extractStridedSlice ⟨2, ![1024, n]⟩ ![0, o] W hs) (ix2 r l)
      = if h : l.val < n then W (ix2 r ⟨o + l.val, by omega⟩) else (0 : EReal) := by
  refine (scatter_left n wf hn _ _ r l).trans ?_
  split
  · refine extractStridedSlice_apply _ _ _ _ _ fun a => ?_
    match a with
    | ⟨0, _⟩ => show r.val = 0 + r.val; omega
    | ⟨1, _⟩ => rfl
  · exact Ideal.ofBits_zero_f32

set_option maxHeartbeats 1000000 in
theorem weights (c : Dev nD) (r : Fin 1024) (l : Fin 4992) :
    (V m c main_v15 : S1024x4992.Idx → EReal) (ix2 r l) = wcol (m ((c : Thread nD τ).loc main_arg2)) r l.val l.isLt := by
  rw [V_w]
  unfold laid
  generalize (m ((c : Thread nD τ).loc main_arg2) : S1024x4768.Idx → EReal) = W
  have e1 := lora 32 2560 scatter_S1024x128_S1_S1024x32_01_n_1_0_wf (by omega) (by omega) slices_S1024x4768_S1024x32_0_2560 W r
  have e2 := lora 32 2592 scatter_S1024x128_S1_S1024x32_01_n_1_0_wf (by omega) (by omega) slices_S1024x4768_S1024x32_0_2592 W r
  have e3 := lora 96 2624 scatter_S1024x128_S1_S1024x96_01_n_1_0_wf (by omega) (by omega) slices_S1024x4768_S1024x96_0_2624 W r
  generalize hA : Host.scatter (leftDims 32 scatter_S1024x128_S1_S1024x32_01_n_1_0_wf) _ _ _ (extractStridedSlice S1024x32 ![0, 2560] W slices_S1024x4768_S1024x32_0_2560) = A at e1
  generalize hB : Host.scatter (leftDims 32 scatter_S1024x128_S1_S1024x32_01_n_1_0_wf) _ _ _ (extractStridedSlice S1024x32 ![0, 2592] W slices_S1024x4768_S1024x32_0_2592) = B at e2
  generalize hC : Host.scatter (leftDims 96 scatter_S1024x128_S1_S1024x96_01_n_1_0_wf) _ _ _ (extractStridedSlice S1024x96 ![0, 2624] W slices_S1024x4768_S1024x96_0_2624) = C at e3
  show truncf (F := Ideal) .bf16 (concatenate S1024x4992 1 [⟨S1024x2560, extractStridedSlice S1024x2560 ![0, 0] W slices_S1024x4768_S1024x2560_0_0⟩,
    ⟨S1024x128, Host.scatter (leftDims 32 scatter_S1024x128_S1_S1024x32_01_n_1_0_wf) _ _ _ (extractStridedSlice S1024x32 ![0, 2560] W slices_S1024x4768_S1024x32_0_2560)⟩,
    ⟨S1024x128, Host.scatter (leftDims 32 scatter_S1024x128_S1_S1024x32_01_n_1_0_wf) _ _ _ (extractStridedSlice S1024x32 ![0, 2592] W slices_S1024x4768_S1024x32_0_2592)⟩,
    ⟨S1024x128, Host.scatter (leftDims 96 scatter_S1024x128_S1_S1024x96_01_n_1_0_wf) _ _ _ (extractStridedSlice S1024x96 ![0, 2624] W slices_S1024x4768_S1024x96_0_2624)⟩,
    ⟨S1024x2048, extractStridedSlice S1024x2048 ![0, 2720] W slices_S1024x4768_S1024x2048_0_2720⟩] _) _ _ = _
  rw [hA, hB, hC]
  have hl := l.isLt
  pointwise
  simp only [e1, e2, e3]
  split_ifs <;> first | exact wcol_eq W r _ _ _ _ (by omega) | exact wcol_zero W r _ _ (by omega)

/-! ## The rows -/

/-- The normalised row `r`'s element `x`. -/
def hrow {R : Nat} (X : (⟨2, ![R, 1024]⟩ : Shape).Idx → EReal) (g : S1x1024.Idx → EReal) (r : Fin R) (x : Fin 1024) : EReal :=
  X (ix2 r x) * Ideal.rsqrt (Ideal.div (∑ k : Fin 1024, X (ix2 r k) * X (ix2 r k)) (Ideal.ofBits FTy.f32 1149239296#32)
    + Ideal.ofBits FTy.f32 897988541#32) * g (ix2 0 x)

theorem pay2 (a : Vec Ideal S256x1024 .f32) (b : Vec Ideal S1x1024 .f32) (w : Vec Ideal S1024x1024 .bf16) (r : Fin 256) (l : Fin 1024) :
    k0_pay2 a b w (ix2 r l) = ∑ x : Fin 1024, hrow a b r x * w (ix2 x l) := by
  unfold hrow; pointwise [k0_pay2, k0_pay1]
theorem pay3 (a : Vec Ideal S256x1024 .f32) (b : Vec Ideal S1x1024 .f32) (w : Vec Ideal S1024x1920 .bf16) (r : Fin 256) (l : Fin 1920) :
    k0_pay3 a b w (ix2 r l) = ∑ x : Fin 1024, hrow a b r x * w (ix2 x l) := by
  unfold hrow; pointwise [k0_pay3, k0_pay1]
theorem pay4 (a : Vec Ideal S256x1024 .f32) (b : Vec Ideal S1x1024 .f32) (w : Vec Ideal S1024x2048 .bf16) (r : Fin 256) (l : Fin 2048) :
    k0_pay4 a b w (ix2 r l) = ∑ x : Fin 1024, hrow a b r x * w (ix2 x l) := by
  unfold hrow; pointwise [k0_pay4, k0_pay1]

open Cert.InProjReferenceIdeal.Read in
theorem ref12 (X : S16384x1024.Idx → EReal) (g : S1x1024.Idx → EReal) (W : S1024x4768.Idx → EReal) (r : Fin 16384) (l : Fin 4768) :
    val_main_v12 (F := Ideal) X g W (ix2 r l) = ∑ x : Fin 1024, hrow X g r x * W (ix2 x l) := by
  unfold hrow
  pointwise [val_main_v12, val_main_v11, val_main_v10, val_main_v9, val_main_v8, val_main_v7, val_main_v6, val_main_v5, val_main_v4, val_main_v3, val_main_v2, val_main_v1, val_main_v0,
    val_main_cst, val_main_cst_0, val_main_cst_1]

open Cert.InProjReferenceIdeal.Read in
theorem ref23 (X : S16384x1024.Idx → EReal) (g : S1x1024.Idx → EReal) (W : S1024x4768.Idx → EReal) (r : Fin 16384) (l : Fin 1024) :
    val_main_v23 (F := Ideal) X g W (ix2 r l) = ∑ x : Fin 1024, hrow X g r x * wcol W x (0 + l.val) (by omega) := by
  refine Eq.trans ?_ ((ref12 X g W r ⟨l.val, by omega⟩).trans (Finset.sum_congr rfl fun x _ => ?_))
  · pointwise [val_main_v23, val_main_v13]
  · exact congrArg _ (wcol_eq W x _ _ _ _ (by omega))

open Cert.InProjReferenceIdeal.Read in
theorem ref24 (X : S16384x1024.Idx → EReal) (g : S1x1024.Idx → EReal) (W : S1024x4768.Idx → EReal) (r : Fin 16384) (l : Fin 2048) :
    val_main_v24 (F := Ideal) X g W (ix2 r l) = ∑ x : Fin 1024, hrow X g r x * wcol W x (2944 + l.val) (by omega) := by
  refine Eq.trans ?_ ((ref12 X g W r ⟨2720 + l.val, by omega⟩).trans (Finset.sum_congr rfl fun x _ => ?_))
  · pointwise [val_main_v24, val_main_v18]
  · exact congrArg _ (wcol_eq W x _ _ _ _ (by omega))

open Cert.InProjReferenceIdeal.Read in
theorem ref22 (X : S16384x1024.Idx → EReal) (g : S1x1024.Idx → EReal) (W : S1024x4768.Idx → EReal) (r : Fin 16384) (l : Fin 1920) :
    val_main_v22 (F := Ideal) X g W (ix2 r l) = ∑ x : Fin 1024, hrow X g r x * wcol W x (1024 + l.val) (by omega) := by
  have hl := l.isLt
  have e := ref12 X g W r
  pointwise [val_main_v22, val_main_v21, val_main_v20, val_main_v19, val_main_v17, val_main_v16, val_main_v15, val_main_v14, val_main_call0_v0, val_main_call1_v0, val_main_call2_v0,
    val_main_c, val_main_c_2, val_main_c_3]
  simp only [e]
  have z : (FloatOps.sitofp FTy.f32 0#32 : Ideal FTy.f32) = ∑ x : Fin 1024, hrow X g r x * 0 := by
    simp only [mul_zero, Finset.sum_const_zero]
    show ((((0#32).toInt : ℝ)) : EReal) = 0
    simp
  simp only [z]
  split_ifs <;> refine Finset.sum_congr rfl fun x _ => congrArg (hrow X g r x * ·) ?_ <;>
    first | exact wcol_eq W x _ _ _ _ (by omega) | exact wcol_zero W x _ _ (by omega)

/-! ## The blocks -/

theorem hz : (![0, 0] : Fin 2 → Nat) = fun _ => 0 := funext fun a => match a with | ⟨0, _⟩ => rfl | ⟨1, _⟩ => rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = t.val ∧ win0_3.index t (1 : Fin 2) = 0 ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = t.val ∧ win0_3.index t (1 : Fin 2) = 0 ∧ win0_4.index t (0 : Fin 2) = t.val ∧ win0_4.index t (1 : Fin 2) = 0
    ∧ win0_5.index t (0 : Fin 2) = t.val ∧ win0_5.index t (1 : Fin 2) = 0)

/-- The point whose 256 rows hold row `i`. -/
theorem point (i : Fin 16384) : ∃ t : Fin cfg0.N, t.val * 256 ≤ i.val ∧ i.val < t.val * 256 + 256 :=
  ⟨⟨i.val / 256, by show i.val / 256 < 64; omega⟩, by dsimp only; omega, by dsimp only; omega⟩

/-- The point's normalised rows are the tokens' rows. -/
theorem rows (c : Dev nD) (t : Fin cfg0.N) (r : Fin 256) (x : Fin 1024) :
    hrow (R := 256) (iblk m c 0 t) (iblk m c 1 t) r x
      = hrow (R := 16384) (m ((c : Thread nD τ).loc main_arg0)) (m ((c : Thread nD τ).loc main_arg1)) ⟨t.val * 256 + r.val, by have : t.val < 64 := t.isLt; omega⟩ x := by
  obtain ⟨f0, g0, f1, g1, -⟩ := idx_facts t
  have ht : t.val < 64 := t.isLt
  have ex : ∀ k : Fin 1024, (iblk m c 0 t : S256x1024.Idx → EReal) (ix2 r k)
      = (m ((c : Thread nD τ).loc main_arg0) : S16384x1024.Idx → EReal) (ix2 ⟨t.val * 256 + r.val, by omega⟩ k) := fun k => by
    refine Eq.trans (congrArg (V m c main_arg0 : S16384x1024.Idx → EReal) (funext fun a => Fin.ext ?_)) (congrFun (V_main_arg0 m c) _)
    match a with
    | ⟨0, _⟩ => show win0_0.index t (0 : Fin 2) * 256 + 1 * r.val = t.val * 256 + r.val; rw [f0]; omega
    | ⟨1, _⟩ => show win0_0.index t (1 : Fin 2) * 1024 + 1 * k.val = k.val; rw [g0]; omega
  have eg : (iblk m c 1 t : S1x1024.Idx → EReal) (ix2 0 x) = (m ((c : Thread nD τ).loc main_arg1) : S1x1024.Idx → EReal) (ix2 0 x) := by
    refine Eq.trans (congrArg (V m c main_arg1 : S1x1024.Idx → EReal) (funext fun a => Fin.ext ?_)) (congrFun (V_main_arg1 m c) _)
    match a with
    | ⟨0, _⟩ => show win0_1.index t (0 : Fin 2) * 1 + 1 * 0 = 0; rw [f1]
    | ⟨1, _⟩ => show win0_1.index t (1 : Fin 2) * 1024 + 1 * x.val = x.val; rw [g1]; omega
  unfold hrow
  simp only [ex, eg]

/-- A column range of the laid-out weights, at every point. -/
theorem wblock (c : Dev nD) (t : Fin cfg0.N) (n o : Nat) (inb : ∀ a, (![0, o] : Fin 2 → Nat) a + (![1024, n] : Fin 2 → Nat) a ≤ S1024x4992.size a) (x : Fin 1024) (l : Fin n) (hl : o + l.val < 4992) :
    View.ld (iblk m c 2 t : Vec Ideal S1024x4992 .bf16) (Rect.unit (s := S1024x4992) ![0, o] ![1024, n] inb) (ix2 x l)
      = wcol (m ((c : Thread nD τ).loc main_arg2)) x (o + l.val) hl := by
  obtain ⟨-, -, -, -, f2, g2, -⟩ := idx_facts t
  refine Eq.trans (congrArg (V m c main_v15 : S1024x4992.Idx → EReal) (funext fun a => Fin.ext ?_)) (weights m c x ⟨o + l.val, hl⟩)
  match a with
  | ⟨0, _⟩ => show win0_2.index t (0 : Fin 2) * 1024 + 1 * (0 + 1 * x.val) = x.val; rw [f2]; omega
  | ⟨1, _⟩ => show win0_2.index t (1 : Fin 2) * 4992 + 1 * (o + 1 * l.val) = o + l.val; rw [g2]; omega

theorem block3 (c : Dev nD) (t : Fin cfg0.N) :
    (cfg0.win 3).cut (grid0.coords t) (out0_3 (iblk m c 0 t) (iblk m c 1 t) (iblk m c 2 t))
      = ((cfg0.win 3).blk t).view.read (Elt Ideal) (Cert.InProjReferenceIdeal.Read.val_main_v23 (F := Ideal) (m ((c : Thread nD τ).loc main_arg0))
          (m ((c : Thread nD τ).loc main_arg1)) (m ((c : Thread nD τ).loc main_arg2))) := by
  obtain ⟨-, -, -, -, -, -, f3, g3, f4, g4, f5, g5⟩ := idx_facts t
  have ht : t.val < 64 := t.isLt
  funext y
  obtain ⟨r, l, rfl⟩ : ∃ (r : Fin 256) (l : Fin 1024), y = ix2 r l := ⟨y 0, y 1, funext fun a => match a with | ⟨0, _⟩ => rfl | ⟨1, _⟩ => rfl⟩
  show out0_3 (iblk m c 0 t) (iblk m c 1 t) (iblk m c 2 t) (ix2 r l) = _
  have e : ((cfg0.win 3).blk t).view.read (Elt Ideal) (Cert.InProjReferenceIdeal.Read.val_main_v23 (F := Ideal) (m ((c : Thread nD τ).loc main_arg0))
          (m ((c : Thread nD τ).loc main_arg1)) (m ((c : Thread nD τ).loc main_arg2))) (ix2 r l)
      = Cert.InProjReferenceIdeal.Read.val_main_v23 (F := Ideal) (m ((c : Thread nD τ).loc main_arg0)) (m ((c : Thread nD τ).loc main_arg1)) (m ((c : Thread nD τ).loc main_arg2))
          (ix2 ⟨t.val * 256 + r.val, by omega⟩ l) := by
    refine congrArg (Cert.InProjReferenceIdeal.Read.val_main_v23 (F := Ideal) (m ((c : Thread nD τ).loc main_arg0)) (m ((c : Thread nD τ).loc main_arg1))
      (m ((c : Thread nD τ).loc main_arg2))) (funext fun a => Fin.ext ?_)
    match a with
    | ⟨0, _⟩ => show win0_3.index t (0 : Fin 2) * 256 + 1 * r.val = t.val * 256 + r.val; rw [f3]; omega
    | ⟨1, _⟩ => show win0_3.index t (1 : Fin 2) * 1024 + 1 * l.val = l.val; rw [g3]; omega
  rw [e, ref23]
  unfold out0_3
  rw [View.canon_unit_zero hz, pay2, View.ld_unit_zero hz, View.ld_unit_zero hz]
  refine Finset.sum_congr rfl fun x _ => ?_
  rw [rows, wblock]

theorem final3 (c : Dev nD) : (dats m 0 c).arrAt 3 cfg0.N = Cert.InProjReferenceIdeal.Read.val_main_v23 (F := Ideal) (m ((c : Thread nD τ).loc main_arg0))
      (m ((c : Thread nD τ).loc main_arg1)) (m ((c : Thread nD τ).loc main_arg2)) := by
  refine (dats m 0 c).arrAt_eq_of_cover 3 _ (fun t _ => (Value.flushed3 m c t).trans (block3 m c t)) fun i => ?_
  obtain ⟨t, h0, h1⟩ := point (i 0)
  obtain ⟨-, -, -, -, -, -, f3, g3, f4, g4, f5, g5⟩ := idx_facts t
  have hi : (i 1).val < 1024 := (i 1).isLt
  refine ⟨t, flush0_3 t, ?_⟩
  show i ∈ ((View.whole main_v16_0).slice (win0_3.rect t)).set
  rw [View.set_slice_whole, Rect.mem_set_unit]
  intro a
  match a with
  | ⟨0, _⟩ => show win0_3.index t (0 : Fin 2) * 256 ≤ (i 0).val ∧ (i 0).val < win0_3.index t (0 : Fin 2) * 256 + 256; rw [f3]; exact ⟨h0, h1⟩
  | ⟨1, _⟩ => show win0_3.index t (1 : Fin 2) * 1024 ≤ (i 1).val ∧ (i 1).val < win0_3.index t (1 : Fin 2) * 1024 + 1024; rw [g3]; omega

theorem block4 (c : Dev nD) (t : Fin cfg0.N) :
    (cfg0.win 4).cut (grid0.coords t) (out0_4 (iblk m c 0 t) (iblk m c 1 t) (iblk m c 2 t))
      = ((cfg0.win 4).blk t).view.read (Elt Ideal) (Cert.InProjReferenceIdeal.Read.val_main_v22 (F := Ideal) (m ((c : Thread nD τ).loc main_arg0))
          (m ((c : Thread nD τ).loc main_arg1)) (m ((c : Thread nD τ).loc main_arg2))) := by
  obtain ⟨-, -, -, -, -, -, f3, g3, f4, g4, f5, g5⟩ := idx_facts t
  have ht : t.val < 64 := t.isLt
  funext y
  obtain ⟨r, l, rfl⟩ : ∃ (r : Fin 256) (l : Fin 1920), y = ix2 r l := ⟨y 0, y 1, funext fun a => match a with | ⟨0, _⟩ => rfl | ⟨1, _⟩ => rfl⟩
  show out0_4 (iblk m c 0 t) (iblk m c 1 t) (iblk m c 2 t) (ix2 r l) = _
  have e : ((cfg0.win 4).blk t).view.read (Elt Ideal) (Cert.InProjReferenceIdeal.Read.val_main_v22 (F := Ideal) (m ((c : Thread nD τ).loc main_arg0))
          (m ((c : Thread nD τ).loc main_arg1)) (m ((c : Thread nD τ).loc main_arg2))) (ix2 r l)
      = Cert.InProjReferenceIdeal.Read.val_main_v22 (F := Ideal) (m ((c : Thread nD τ).loc main_arg0)) (m ((c : Thread nD τ).loc main_arg1)) (m ((c : Thread nD τ).loc main_arg2))
          (ix2 ⟨t.val * 256 + r.val, by omega⟩ l) := by
    refine congrArg (Cert.InProjReferenceIdeal.Read.val_main_v22 (F := Ideal) (m ((c : Thread nD τ).loc main_arg0)) (m ((c : Thread nD τ).loc main_arg1))
      (m ((c : Thread nD τ).loc main_arg2))) (funext fun a => Fin.ext ?_)
    match a with
    | ⟨0, _⟩ => show win0_4.index t (0 : Fin 2) * 256 + 1 * r.val = t.val * 256 + r.val; rw [f4]; omega
    | ⟨1, _⟩ => show win0_4.index t (1 : Fin 2) * 1920 + 1 * l.val = l.val; rw [g4]; omega
  rw [e, ref22]
  unfold out0_4
  rw [View.canon_unit_zero hz, pay3, View.ld_unit_zero hz, View.ld_unit_zero hz]
  refine Finset.sum_congr rfl fun x _ => ?_
  rw [rows, wblock]

theorem final4 (c : Dev nD) : (dats m 0 c).arrAt 4 cfg0.N = Cert.InProjReferenceIdeal.Read.val_main_v22 (F := Ideal) (m ((c : Thread nD τ).loc main_arg0))
      (m ((c : Thread nD τ).loc main_arg1)) (m ((c : Thread nD τ).loc main_arg2)) := by
  refine (dats m 0 c).arrAt_eq_of_cover 4 _ (fun t _ => (Value.flushed4 m c t).trans (block4 m c t)) fun i => ?_
  obtain ⟨t, h0, h1⟩ := point (i 0)
  obtain ⟨-, -, -, -, -, -, f3, g3, f4, g4, f5, g5⟩ := idx_facts t
  have hi : (i 1).val < 1920 := (i 1).isLt
  refine ⟨t, flush0_4 t, ?_⟩
  show i ∈ ((View.whole main_v16_1).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; rw [f4]; exact ⟨h0, h1⟩
  | ⟨1, _⟩ => show win0_4.index t (1 : Fin 2) * 1920 ≤ (i 1).val ∧ (i 1).val < win0_4.index t (1 : Fin 2) * 1920 + 1920; rw [g4]; omega

theorem block5 (c : Dev nD) (t : Fin cfg0.N) :
    (cfg0.win 5).cut (grid0.coords t) (out0_5 (iblk m c 0 t) (iblk m c 1 t) (iblk m c 2 t))
      = ((cfg0.win 5).blk t).view.read (Elt Ideal) (Cert.InProjReferenceIdeal.Read.val_main_v24 (F := Ideal) (m ((c : Thread nD τ).loc main_arg0))
          (m ((c : Thread nD τ).loc main_arg1)) (m ((c : Thread nD τ).loc main_arg2))) := by
  obtain ⟨-, -, -, -, -, -, f3, g3, f4, g4, f5, g5⟩ := idx_facts t
  have ht : t.val < 64 := t.isLt
  funext y
  obtain ⟨r, l, rfl⟩ : ∃ (r : Fin 256) (l : Fin 2048), y = ix2 r l := ⟨y 0, y 1, funext fun a => match a with | ⟨0, _⟩ => rfl | ⟨1, _⟩ => rfl⟩
  show out0_5 (iblk m c 0 t) (iblk m c 1 t) (iblk m c 2 t) (ix2 r l) = _
  have e : ((cfg0.win 5).blk t).view.read (Elt Ideal) (Cert.InProjReferenceIdeal.Read.val_main_v24 (F := Ideal) (m ((c : Thread nD τ).loc main_arg0))
          (m ((c : Thread nD τ).loc main_arg1)) (m ((c : Thread nD τ).loc main_arg2))) (ix2 r l)
      = Cert.InProjReferenceIdeal.Read.val_main_v24 (F := Ideal) (m ((c : Thread nD τ).loc main_arg0)) (m ((c : Thread nD τ).loc main_arg1)) (m ((c : Thread nD τ).loc main_arg2))
          (ix2 ⟨t.val * 256 + r.val, by omega⟩ l) := by
    refine congrArg (Cert.InProjReferenceIdeal.Read.val_main_v24 (F := Ideal) (m ((c : Thread nD τ).loc main_arg0)) (m ((c : Thread nD τ).loc main_arg1))
      (m ((c : Thread nD τ).loc main_arg2))) (funext fun a => Fin.ext ?_)
    match a with
    | ⟨0, _⟩ => show win0_5.index t (0 : Fin 2) * 256 + 1 * r.val = t.val * 256 + r.val; rw [f5]; omega
    | ⟨1, _⟩ => show win0_5.index t (1 : Fin 2) * 2048 + 1 * l.val = l.val; rw [g5]; omega
  rw [e, ref24]
  unfold out0_5
  rw [View.canon_unit_zero hz, pay4, View.ld_unit_zero hz, View.ld_unit_zero hz]
  refine Finset.sum_congr rfl fun x _ => ?_
  rw [rows, wblock]

theorem final5 (c : Dev nD) : (dats m 0 c).arrAt 5 cfg0.N = Cert.InProjReferenceIdeal.Read.val_main_v24 (F := Ideal) (m ((c : Thread nD τ).loc main_arg0))
      (m ((c : Thread nD τ).loc main_arg1)) (m ((c : Thread nD τ).loc main_arg2)) := by
  refine (dats m 0 c).arrAt_eq_of_cover 5 _ (fun t _ => (Value.flushed5 m c t).trans (block5 m c t)) fun i => ?_
  obtain ⟨t, h0, h1⟩ := point (i 0)
  obtain ⟨-, -, -, -, -, -, f3, g3, f4, g4, f5, g5⟩ := idx_facts t
  have hi : (i 1).val < 2048 := (i 1).isLt
  refine ⟨t, flush0_5 t, ?_⟩
  show i ∈ ((View.whole main_v16_2).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; rw [f5]; exact ⟨h0, h1⟩
  | ⟨1, _⟩ => show win0_5.index t (1 : Fin 2) * 2048 ≤ (i 1).val ∧ (i 1).val < win0_5.index t (1 : Fin 2) * 2048 + 2048; rw [g5]; omega

end Cert.InProjIdeal.Rows

end
-- ==== Proof.Act.Taken.lean ====
/-
  `peer_act`'s reference at an index: the expert's row unpacked from the table, taken in range, times the normalised token, through the exact
  GELU written with `erfc`, times the gate.
-/
module

public import proofs.«01_k».proof.Proof.Act.Halves
public import proofs.«01_k».proof.Proof.InProj
public import proofs.«01_k».proof.Proof.Gen.ActReferenceIdeal.Read
public import Idealize.ShloMosaic.Lib.BitcastConvert
public import Idealize.ShloMosaic.Lib.ReduceAll
public import Idealize.ShloMosaic.Lib.ValueIdxCore
public import Idealize.ShloMosaic.PureOps.Ideal.Laws

@[expose] public section

set_option maxRecDepth 16384

noncomputable section

namespace Cert.ActIdeal.Rows

open Cert.ActReferenceIdeal Cert.ActReferenceIdeal.Gen Cert.ActReferenceIdeal.Read
open Idealize.ShloMosaic Idealize.ShloMosaic.TcCoe
open Cert.InProjIdeal.Rows (hrow)

/-- The coefficient of token `n`'s pair `p`. -/
def coefAt (E : S16384x128.Idx → BitVec 32) (w : S16384x128.Idx → EReal) (X : S16384x1024.Idx → EReal) (g : S1x1024.Idx → EReal) (T : S65536x128.Idx → BitVec 32)
    (n : Fin 16384) (p : Fin 128) : EReal :=
  w (ix2 n p) * gelu (∑ k : Fin 1024, unpacked T (E (ix2 n p) * 4#32) k * hrow X g n k)

/-! ## The table's rows, unpacked -/

theorem pair_word (T : S65536x128.Idx → BitVec 32) (e : Fin 16384) (c : Fin 512) (i : Fin 2) :
    val_main_v1 (F := Ideal) T (ix3 e c i) = half i.val (T (ix2 (⟨4 * e.val + c.val / 128, by omega⟩ : Fin 65536) (⟨c.val % 128, Nat.mod_lt _ (by omega)⟩ : Fin 128))) := by
  unfold val_main_v1
  show Ideal.ofBits FTy.bf16 (Host.bitcastConvertNarrow S16384x512x2 16 (val_main_v0 (F := Ideal) T) splits_S16384x512_w32_S16384x512x2_w16 (ix3 e c i)) = _
  rw [Host.bitcastConvertNarrow_apply, val_main_v0_apply]
  refine congrArg (half i.val) (congrArg T (funext fun a => Fin.ext ?_))
  match a with
  | ⟨0, _⟩ => show (e.val * 512 + c.val) / 128 = 4 * e.val + c.val / 128; omega
  | ⟨1, _⟩ => show (e.val * 512 + c.val) % 128 = c.val % 128; omega

theorem row_value (T : S65536x128.Idx → BitVec 32) (e : Fin 16384) (k : Fin 1024) (w : BitVec 32) (hw : w.toNat = 4 * e.val) :
    val_main_v7 (F := Ideal) T (ix2 e k) = unpacked T w k := by
  rw [val_main_v7_apply]
  show val_main_v6 (F := Ideal) T (ix2 e k) = _
  unfold val_main_v6 unpacked
  by_cases hk : k.val < 512
  · rw [concatenate_pair_apply_left (s₁ := S16384x512) (s₂ := S16384x512) 1 _ _ _ (ix2 e k) rfl (ix2 e (⟨k.val, hk⟩ : Fin 512)) (fun b => match b with
      | ⟨0, _⟩ => rfl
      | ⟨1, _⟩ => rfl), val_main_v3_apply, val_main_v2_apply]
    refine Eq.trans (congrArg (val_main_v1 (F := Ideal) T) (funext fun a => Fin.ext ?_)) ((pair_word T e ⟨k.val, hk⟩ 0).trans ?_)
    · match a with
      | ⟨0, _⟩ => show (e.val * 512 + k.val) / 512 = e.val; omega
      | ⟨1, _⟩ => show (e.val * 512 + k.val) / 1 % 512 = k.val; omega
      | ⟨2, _⟩ => rfl
    · refine congrArg₂ half (by show 0 = k.val / 512; omega) (congrArg T (congrArg₂ ix2 (Fin.ext ?_) rfl))
      show 4 * e.val + k.val / 128 = (w.toNat + k.val % 512 / 128) % 65536
      omega
  · rw [concatenate_pair_apply_right (s₁ := S16384x512) (s₂ := S16384x512) 1 _ _ _ (ix2 e k) rfl rfl (ix2 e (⟨k.val - 512, by omega⟩ : Fin 512)) (fun b hb => match b, hb with
      | ⟨0, _⟩, _ => rfl
      | ⟨1, _⟩, hb => absurd rfl hb) (by show k.val - 512 + 512 = k.val; omega), val_main_v5_apply, val_main_v4_apply]
    refine Eq.trans (congrArg (val_main_v1 (F := Ideal) T) (funext fun a => Fin.ext ?_)) ((pair_word T e ⟨k.val - 512, by omega⟩ 1).trans ?_)
    · match a with
      | ⟨0, _⟩ => show (e.val * 512 + (k.val - 512)) / 512 = e.val; omega
      | ⟨1, _⟩ => show (e.val * 512 + (k.val - 512)) / 1 % 512 = k.val - 512; omega
      | ⟨2, _⟩ => rfl
    · refine congrArg₂ half (by show 1 = k.val / 512; omega) (congrArg T (congrArg₂ ix2 (Fin.ext ?_) (Fin.ext ?_)))
      · show 4 * e.val + (k.val - 512) / 128 = (w.toNat + k.val % 512 / 128) % 65536
        omega
      · show (k.val - 512) % 128 = k.val % 128
        omega

/-! ## Taken in range -/

/-- The dimension numbers of a take of whole rows by a rank-2 array of row numbers. -/
abbrev wholeRows (wf : GatherDims.WF S16384x1024 S16384x128x1 S16384x128x1024 [2] [0] [] [0] [] 2 ![1, 1024]) : GatherDims S16384x1024 S16384x128x1 S16384x128x1024 where
  offsetDims := [2]
  collapsedSliceDims := [0]
  operandBatchingDims := []
  startIndicesBatchingDims := []
  startIndexMap := [0]
  indexVectorDim := 2
  sliceSizes := ![1, 1024]
  wf := wf

theorem take_row (wf) (x : S16384x1024.Idx → EReal) (idx : IVec S16384x128x1 32) (n : Fin 16384) (p : Fin 128) (k : Fin 1024) :
    Host.gather (wholeRows wf) x idx (ix3 n p k) = x (ix2 (⟨min (idx (ix3 n p (0 : Fin 1))).toInt.toNat 16383, by omega⟩ : Fin 16384) k) := by
  unfold Host.gather
  refine congrArg x (funext fun a => Fin.ext ?_)
  show (wholeRows wf).start (ix3 n p k) idx a + (wholeRows wf).batchCoord (ix3 n p k) a + (wholeRows wf).offCoord (ix3 n p k) a = _
  rw [GatherDims.batchCoord_eq_zero _ _ _ List.not_mem_nil]
  match a with
  | ⟨0, _⟩ =>
    have e := GatherDims.offCoord_eq_zero (wholeRows wf) (ix3 n p k) 0 (fun h => ((GatherDims.mem_sKept _ _).mp h).1 (List.mem_singleton.mpr rfl))
    refine Eq.trans (congrArg (fun z => (wholeRows wf).start (ix3 n p k) idx 0 + 0 + z) e) ?_
    simp only [Nat.add_zero]
    unfold GatherDims.start
    rw [dif_pos (show (0 : Fin 2) ∈ (wholeRows wf).startIndexMap from List.mem_singleton.mpr rfl)]
    have hsi : (wholeRows wf).siIdx (ix3 n p k) ⟨List.idxOf (0 : Fin 2) (wholeRows wf).startIndexMap,
        List.idxOf_lt_length_iff.2 (List.mem_singleton.mpr rfl)⟩ = ix3 n p (0 : Fin 1) := by
      funext b; refine Fin.ext ?_
      match b with
      | ⟨0, _⟩ => rfl
      | ⟨1, _⟩ => rfl
      | ⟨2, _⟩ => rfl
    rw [hsi]
    rfl
  | ⟨1, _⟩ =>
    have e : (wholeRows wf).start (ix3 n p k) idx 1 = 0 := by
      unfold GatherDims.start
      rw [dif_neg (show ¬(1 : Fin 2) ∈ ([0] : List (Fin 2)) by decide)]
    refine Eq.trans (congrArg (fun z => z + 0 + (wholeRows wf).offCoord (ix3 n p k) 1) e) ?_
    simp only [Nat.zero_add]
    unfold GatherDims.offCoord
    rw [dif_pos ((GatherDims.mem_sKept (wholeRows wf) 1).mpr ⟨(by decide : ¬(1 : Fin 2) ∈ ([0] : List (Fin 2))), List.not_mem_nil⟩)]
    rfl

variable (E : S16384x128.Idx → BitVec 32) (hE : ∀ y, (E y).toNat < 16384)
include hE

theorem toInt_named (y : S16384x128.Idx) : (E y).toInt = (E y).toNat := by
  have := hE y
  rw [BitVec.toInt_eq_toNat_of_lt (by omega)]

theorem kept_word (y : S16384x128.Idx) : val_main_call0_v4 (F := Ideal) E y = E y := by
  rw [val_main_call0_v4_apply, val_main_call0_v1_apply, val_main_call0_v0_apply, val_main_call0_c_apply]
  have h : IntOp.cmpi .slt (E y) 0#32 = 0#1 := by
    show BitVec.ofBool (BitVec.slt (E y) 0#32) = 0#1
    have e := toInt_named E hE y
    rw [show BitVec.slt (E y) 0#32 = false from decide_eq_false (by rw [e]; show ¬((E y).toNat : Int) < 0; omega)]
    rfl
  rw [h]
  rfl

theorem in_range (i : S16384x128x1.Idx) : val_main_call0_v11 (F := Ideal) E i = 1#1 := by
  rw [val_main_call0_v11_apply, val_main_call0_v7_apply, val_main_call0_v10_apply, val_main_call0_v5_apply, kept_word E hE, val_main_call0_v6_apply,
    val_main_call0_c_2_apply, val_main_call0_v9_apply, val_main_call0_v8_apply, val_main_call0_c_1_apply]
  generalize idx_main_call0_v5 i = y
  have e := toInt_named E hE y
  have h := hE y
  have h0 : IntOp.cmpi .sge (E y) 0#32 = 1#1 := by
    show BitVec.ofBool (BitVec.sle 0#32 (E y)) = 1#1
    rw [show BitVec.sle 0#32 (E y) = true from decide_eq_true (by rw [e]; show (0 : Int) ≤ ((E y).toNat : Int); omega)]
    rfl
  have h1 : IntOp.cmpi .sle (E y) 16383#32 = 1#1 := by
    show BitVec.ofBool (BitVec.sle (E y) 16383#32) = 1#1
    rw [show BitVec.sle (E y) 16383#32 = true from decide_eq_true (by rw [e]; show ((E y).toNat : Int) ≤ 16383; omega)]
    rfl
  rw [h0, h1]
  rfl

theorem taken (T : S65536x128.Idx → BitVec 32) (n : Fin 16384) (p : Fin 128) (k : Fin 1024) :
    val_main_v20 (F := Ideal) E T (ix3 n p k) = unpacked T (E (ix2 n p) * 4#32) k := by
  have h := hE (ix2 n p)
  have e := toInt_named E hE (ix2 n p)
  rw [val_main_v20_apply, val_main_call0_v14_apply]
  have hm : val_main_call0_v12 (F := Ideal) E (idx_main_call0_v14 (ix3 n p k)) = 1#1 :=
    Host.reduce_andi_one _ _ _ _ _ rfl (in_range E hE)
  rw [hm, ValueIdx.select_one]
  unfold val_main_call0_v13
  refine (take_row gather_S16384x1024_S16384x128x1_S16384x128x1024_2_0_n_n_0_2_11024_wf _ _ n p k).trans ?_
  have hi : val_main_call0_v5 (F := Ideal) E (ix3 n p (0 : Fin 1)) = E (ix2 n p) := by
    rw [val_main_call0_v5_apply, kept_word E hE]
    exact congrArg E (funext fun a => match a with | ⟨0, _⟩ => rfl | ⟨1, _⟩ => rfl)
  refine (congrArg (val_main_v7 (F := Ideal) T) (congrArg₂ ix2 (Fin.ext ?_) rfl)).trans (row_value T ⟨(E (ix2 n p)).toNat, h⟩ k _ ?_)
  · show min (val_main_call0_v5 (F := Ideal) E (ix3 n p (0 : Fin 1))).toInt.toNat 16383 = (E (ix2 n p)).toNat
    rw [hi, e]
    omega
  · rw [BitVec.toNat_mul]
    show (E (ix2 n p)).toNat * 4 % 2 ^ 32 = 4 * (E (ix2 n p)).toNat
    omega

theorem reference_coef (w : S16384x128.Idx → EReal) (X : S16384x1024.Idx → EReal) (g : S1x1024.Idx → EReal) (T : S65536x128.Idx → BitVec 32) (n : Fin 16384) (p : Fin 128) :
    val_main_v29 (F := Ideal) E w X g T (ix2 n p) = coefAt E w X g T n p := by
  have hd : val_main_v21 (F := Ideal) E X g T (ix2 n p) = ∑ k : Fin 1024, unpacked T (E (ix2 n p) * 4#32) k * hrow X g n k := by
    rw [val_main_v21_apply]
    refine Finset.sum_congr rfl fun k _ => ?_
    have el : lidx_main_v21 (ix2 n p) k = ix3 n p k := funext fun a => match a with | ⟨0, _⟩ => rfl | ⟨1, _⟩ => rfl | ⟨2, _⟩ => rfl
    have er : ridx_main_v21 (ix2 n p) k = ix2 n k := funext fun a => match a with | ⟨0, _⟩ => rfl | ⟨1, _⟩ => rfl
    rw [el, er, taken E hE]
    refine congrArg (unpacked T (E (ix2 n p) * 4#32) k * ·) ?_
    unfold hrow
    pointwise [val_main_v19, val_main_v18, val_main_v17, val_main_v16, val_main_v15, val_main_v14, val_main_v13, val_main_v12, val_main_v11, val_main_v10, val_main_v9, val_main_v8,
        val_main_cst, val_main_cst_0, val_main_cst_1]
  unfold coefAt gelu
  rw [← hd]
  generalize hD : val_main_v21 (F := Ideal) E X g T = D
  rw [val_main_v29_apply, val_main_v28_apply, val_main_v27_apply, val_main_v26_apply, val_main_v25_apply, val_main_cst_3_apply, val_main_v24_apply, val_main_v23_apply,
    val_main_v22_apply, val_main_cst_2_apply, hD]
  simp only [Ideal.mulf_def, Ideal.hostUnary_erfc_def, Ideal.hostNegf_def, Ideal.negf_def, Ideal.ofBits_def, neg_mul, Ideal.erfc_neg]

end Cert.ActIdeal.Rows
-- ==== Proof.Act.Value.lean ====
/-
  `peer_act`'s coefficients: each point's block is the reference's at the point's 128 tokens, so the array it leaves is the reference's.
-/
module

public import proofs.«01_k».proof.Defs
public import proofs.«01_k».proof.Proof.Act.Run
public import proofs.«01_k».proof.Proof.Act.Frame
public import proofs.«01_k».proof.Proof.Act.Taken

@[expose] public section

set_option maxRecDepth 16384

noncomputable section

namespace Cert.ActIdeal.Rows

open Cert.ActIdeal Cert.ActIdeal.Gen
open Idealize.ShloMosaic Idealize.ShloMosaic.TcCoe Idealize.SL.Sem
open Idealize.ShloMosaic.Pipeline (Dat)
open Cert.InProjIdeal.Rows (hrow)

theorem normalised (a : Vec Ideal S128x1024 .f32) (b : Vec Ideal S1x1024 .f32) (r : Fin 128) (k : Fin 1024) :
    k0_pay127 a b (ix2 r k) = hrow a b r k := by
  unfold hrow; pointwise [k0_pay127]

theorem coefs_at (x : S128x128.Idx → BitVec 32) (w : S128x128.Idx → EReal) (a : S128x1024.Idx → EReal) (b : S1x1024.Idx → EReal) (T : S65536x128.Idx → BitVec 32) (r p : Fin 128) :
    coefs (F := Ideal) x w a b T (ix2 r p) = w (ix2 p r) * gelu (∑ k : Fin 1024, unpacked T (x (ix2 r p)) k * hrow a b r k) := by
  have hv : ∀ p l : Fin 128, (iota .tc S128x128 32 [1] iota_S128x128_d1_w32 : IVec S128x128 32) (ix2 p l) = BitVec.ofNat 32 l.val := fun p l => by pointwise
  have hl := lanes_upto x T (k0_pay127 (F := Ideal) a b) (k0_pay128 (F := Ideal) w) hv 16 (Nat.le_refl _) p r
  rw [if_pos (by omega)] at hl
  have hw : k0_pay128 (F := Ideal) w (ix2 p r) = w (ix2 p r) := by pointwise [k0_pay128]
  have hs : product x T (k0_pay127 (F := Ideal) a b) r p = ∑ k : Fin 1024, unpacked T (x (ix2 r p)) k * hrow a b r k :=
    Finset.sum_congr rfl fun k _ => congrArg (unpacked T (x (ix2 r p)) k * ·) (normalised a b r k)
  rw [hw, hs] at hl
  refine Eq.trans ?_ hl
  unfold coefs
  generalize lanes (F := Ideal) _ _ _ _ _ 16 = L
  pointwise [k0_pay1]

variable (m : (ℓ : Loc nD τ sig) → Buf (Elt Ideal) ℓ)

theorem gate_at (c : Dev nD) (t : Fin cfg0.N) (p r : Fin 128) :
    (iblk m c 3 t : S128x128.Idx → EReal) (ix2 p r)
      = (m ((c : Thread nD τ).loc main_arg1) : S16384x128.Idx → EReal) (ix2 (⟨128 * t.val + r.val, by have := t.isLt; have : cfg0.N = 128 := N_0; omega⟩ : Fin 16384) p) := by
  obtain ⟨-, -, -, ⟨f, g⟩, -⟩ := idx_facts t
  have ht : t.val < 128 := t.isLt.trans_eq N_0
  refine Eq.trans (congrArg (V m c main_v2 : S128x16384.Idx → EReal) (funext fun a => Fin.ext ?_) : _ = (V m c main_v2 : S128x16384.Idx → EReal) (ix2 p (⟨128 * t.val + r.val, by omega⟩ : Fin 16384))) ?_
  · match a with
    | ⟨0, _⟩ => show win0_3.index t (0 : Fin 2) * 128 + 1 * p.val = p.val; rw [f]; omega
    | ⟨1, _⟩ => show win0_3.index t (1 : Fin 2) * 128 + 1 * r.val = 128 * t.val + r.val; rw [g]; omega
  · rw [gate_word]
    generalize (m ((c : Thread nD τ).loc main_arg1) : S16384x128.Idx → EReal) = w
    pointwise

theorem rows_at (c : Dev nD) (t : Fin cfg0.N) (r : Fin 128) (k : Fin 1024) :
    hrow (R := 128) (iblk m c 4 t) (iblk m c 5 t) r k
      = hrow (R := 16384) (m ((c : Thread nD τ).loc main_arg2)) (m ((c : Thread nD τ).loc main_arg3)) ⟨128 * t.val + r.val, by have := t.isLt; have : cfg0.N = 128 := N_0; omega⟩ k := by
  obtain ⟨-, -, -, -, ⟨f0, g0⟩, ⟨f1, g1⟩, -⟩ := idx_facts t
  have ht : t.val < 128 := t.isLt.trans_eq N_0
  have ex : ∀ k : Fin 1024, (iblk m c 4 t : S128x1024.Idx → EReal) (ix2 r k)
      = (m ((c : Thread nD τ).loc main_arg2) : S16384x1024.Idx → EReal) (ix2 ⟨128 * t.val + r.val, by omega⟩ k) := fun k => by
    refine Eq.trans (congrArg (V m c main_arg2 : S16384x1024.Idx → EReal) (funext fun a => Fin.ext ?_)) (congrFun (V_main_arg2 m c) _)
    match a with
    | ⟨0, _⟩ => show win0_4.index t (0 : Fin 2) * 128 + 1 * r.val = 128 * t.val + r.val; rw [f0]; omega
    | ⟨1, _⟩ => show win0_4.index t (1 : Fin 2) * 1024 + 1 * k.val = k.val; rw [g0]; omega
  have eg : (iblk m c 5 t : S1x1024.Idx → EReal) (ix2 0 k) = (m ((c : Thread nD τ).loc main_arg3) : S1x1024.Idx → EReal) (ix2 0 k) := by
    refine Eq.trans (congrArg (V m c main_arg3 : S1x1024.Idx → EReal) (funext fun a => Fin.ext ?_)) (congrFun (V_main_arg3 m c) _)
    match a with
    | ⟨0, _⟩ => show win0_5.index t (0 : Fin 2) * 1 + 1 * 0 = 0; rw [f1]
    | ⟨1, _⟩ => show win0_5.index t (1 : Fin 2) * 1024 + 1 * k.val = k.val; rw [g1]; omega
  unfold hrow
  simp only [ex, eg]

theorem word_at (c : Dev nD) (t : Fin cfg0.N) (r p : Fin 128) :
    (iblk m c 0 t : S128x128.Idx → BitVec 32) (ix2 r p)
      = HMul.hMul (α := BitVec 32) (β := BitVec 32) ((m ((c : Thread nD τ).loc main_arg0) : S16384x128.Idx → BitVec 32) (ix2 (⟨128 * t.val + r.val, by have := t.isLt; have : cfg0.N = 128 := N_0; omega⟩ : Fin 16384) p)) 4#32 := by
  rw [idx_at, row_word]
  rfl

/-- The coefficients of every token. -/
def coefficients (c : Dev nD) : S16384x128.Idx → EReal := fun y =>
  coefAt (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)

theorem coef_block (c : Dev nD) (t : Fin cfg0.N) :
    coefs (F := Ideal) (iblk m c 0 t) (iblk m c 3 t) (iblk m c 4 t) (iblk m c 5 t) (iblk m c 6 t) = ((cfg0.win 7).blk t).view.read (Elt Ideal) (coefficients m c) := by
  obtain ⟨-, -, -, -, -, -, -, f, g⟩ := idx_facts t
  have ht : t.val < 128 := t.isLt.trans_eq N_0
  funext y
  obtain ⟨r, p, rfl⟩ : ∃ (r p : Fin 128), y = ix2 r p := ⟨y 0, y 1, funext fun a => match a with | ⟨0, _⟩ => rfl | ⟨1, _⟩ => rfl⟩
  refine (coefs_at _ _ _ _ _ r p).trans ?_
  refine Eq.trans (b := coefficients m c (ix2 (⟨128 * t.val + r.val, by omega⟩ : Fin 16384) p)) ?_ (congrArg (coefficients m c) (funext fun a => Fin.ext ?_))
  · rw [gate_at, word_at, tab_at]
    simp only [rows_at]
    rfl
  · match a with
    | ⟨0, _⟩ => show 128 * t.val + r.val = win0_7.index t (0 : Fin 2) * 128 + 1 * r.val; rw [f]; omega
    | ⟨1, _⟩ => show p.val = win0_7.index t (1 : Fin 2) * 128 + 1 * p.val; rw [g]; omega

theorem final (c : Dev nD) : (dats m 0 c).arrAt 7 cfg0.N = coefficients m c := by
  refine (dats m 0 c).arrAt_eq_of_cover 7 (coefficients m c) (fun t _ => ?_) fun i => ?_
  · show (cfg0.win 7).cut (grid0.coords t) ((dats m 0 c).after 7 t) = _
    rw [after0_7]; exact coef_block m c t
  · have h0 : (i 0).val < 16384 := (i 0).isLt
    have h1 : (i 1).val < 128 := (i 1).isLt
    let t : Fin grid0.N := ⟨(i 0).val / 128, by show (i 0).val / 128 < 128; omega⟩
    obtain ⟨-, -, -, -, -, -, -, f, g⟩ := idx_facts t
    refine ⟨t, flush0_7 t, ?_⟩
    show i ∈ ((View.whole main_v6).slice (win0_7.rect t)).set
    rw [View.set_slice_whole, Rect.mem_set_unit]
    intro a
    match a with
    | ⟨0, _⟩ =>
      show win0_7.index t (0 : Fin 2) * 128 ≤ (i 0).val ∧ (i 0).val < win0_7.index t (0 : Fin 2) * 128 + 128
      rw [f]; show (i 0).val / 128 * 128 ≤ (i 0).val ∧ (i 0).val < (i 0).val / 128 * 128 + 128; omega
    | ⟨1, _⟩ =>
      show win0_7.index t (1 : Fin 2) * 128 ≤ (i 1).val ∧ (i 1).val < win0_7.index t (1 : Fin 2) * 128 + 128
      rw [g]; omega

theorem run_value (ρ : Dev nD → PrngReg) (hN : Named m) : θ_run defs (onTc (τ := τ) (main (F := Ideal))) ⟨m, fun _ => 0, ρ⟩ (fun r => ∀ c : Dev nD,
      r.2.mem ((c.tc : Thread nD τ).loc main_v6) = coefficients m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 7).trans (final m c), h.2.1 c⟩) (θ_run_and (run_main m ρ hN) (frame m ρ hN))

variable [Cert.Pre_experts_named.Facts]

/-- The coefficients against the reference's. -/
theorem valued : Cert.algebraic_ActIdeal_ActReferenceIdeal := fun m g m' g' hP hagree => by
  have hN : Named m := fun c y => named_of _ _ _ _ _ (hP c) y
  refine ⟨fun c => coefficients m c, run_value m g hN, (θ_run Cert.ActReferenceIdeal.defs _ _).mono (fun _ h c => ?_) (Cert.ActReferenceIdeal.Value.run m' g')⟩
  obtain ⟨e0, e1, e2, e3, e4⟩ := hagree c
  obtain ⟨h0, h1⟩ := h c
  refine ⟨h0.trans ((Cert.ActReferenceIdeal.Read.val_main_v29_eq _ _).trans ?_), h1⟩
  rw [e0, e1, e2, e3, e4]
  funext y
  refine Eq.trans ?_ (reference_coef _ (fun z => hN c z) _ _ _ _ (y 0) (y 1))
  exact congrArg _ (ix2_eta y).symm

end Cert.ActIdeal.Rows
-- ==== Proof.Pack.lean ====
/-
  `_pack_table`'s frame and value: at each of the 32 points the body stores four interleaved row sets of its output block, together
  every word of it, each word the `bf16` of a column of the upper half over the `bf16` of the same column of the lower half.
-/
module

public import proofs.«01_k».proof.Proof.Gen.Pack.Frame
public import proofs.«01_k».proof.Proof.Gen.Pack.Skeleton
public import proofs.«01_k».proof.Proof.Gen.PackReference.Read
public import Idealize.ShloMosaic.Lib.Pipeline.Value
public import Idealize.ShloMosaic.Lib.BitcastConvert
public import Idealize.ShloMosaic.Lib.Claim

@[expose] public section

set_option maxRecDepth 16384

noncomputable section

namespace Cert.Pack.Words

open Cert.Pack Cert.Pack.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## What the body stores -/

/-- The word of two numbers: the second's `bf16` over the first's. -/
def word (a b : F .f32) : BitVec 32 :=
  BitOps.toBits (FloatOps.truncf .bf16 (by decide) b) ++ BitOps.toBits (FloatOps.truncf .bf16 (by decide) a)

/-- Row `q` of the block holds columns `128 (q mod 4) + l` and those 512 further of row `q / 4`. -/
def at' (h : Nat) (hh : h ≤ 512) (y : S2048x128.Idx) : S512x1024.Idx := fun a => match a with
  | ⟨0, _⟩ => ⟨(y 0).val / 4, by have h0 : (y 0).val < 2048 := (y 0).isLt; show (y 0).val / 4 < 512; omega⟩
  | ⟨1, _⟩ => ⟨h + ((y 0).val % 4 * 128 + (y 1).val), by
      have h1 : (y 1).val < 128 := (y 1).isLt; show h + ((y 0).val % 4 * 128 + (y 1).val) < 1024; omega⟩

def words (x : Vec F S512x1024 .f32) : IVec S2048x128 32 := fun y =>
  word (x (at' 0 (by omega) y)) (x (at' 512 (by omega) y))

abbrev col (k : Nat) (h : ∀ a, (![0, k] : Fin 2 → Nat) a + S512x128.size a ≤ S512x1024.size a) : Rect S512x1024 :=
  Rect.unit (s := S512x1024) ![0, k] S512x128.size h

abbrev row (j : Nat) (h : ∀ a, S512x128.size a = 0 ∨ (![j, 0] : Fin 2 → Nat) a + (![4, 1] : Fin 2 → Nat) a * (S512x128.size a - 1) < S2048x128.size a) :
    Rect S2048x128 :=
  ⟨(⟨![j, 0], S512x128.size, ![4, 1], h⟩ : LoadRect S2048x128), spos_4_1⟩

abbrev pieces (p₀ p₁ p₂ p₃ : IVec S512x128 32) : List (View.Piece (Elt F) S2048x128 .i32) :=
  [⟨row 3 inb_S2048x128_S512x128_3_0_s_4_1, p₃⟩, ⟨row 2 inb_S2048x128_S512x128_2_0_s_4_1, p₂⟩,
    ⟨row 1 inb_S2048x128_S512x128_1_0_s_4_1, p₁⟩, ⟨row 0 inb_S2048x128_S512x128_0_0_s_4_1, p₀⟩]

theorem mem_row (j : Nat) (h) (y : S2048x128.Idx) (hy : (y 0).val % 4 = j) : y ∈ (row j h).set := by
  have h0 : (y 0).val < 2048 := (y 0).isLt
  have h1 : (y 1).val < 128 := (y 1).isLt
  refine LoadRect.mem_set _ |>.mpr fun a => match a with
    | ⟨0, _⟩ => ⟨(y 0).val / 4, by show (y 0).val / 4 < 512; omega, by show (y 0).val = j + 4 * ((y 0).val / 4); omega⟩
    | ⟨1, _⟩ => ⟨(y 1).val, h1, by show (y 1).val = 0 + 1 * (y 1).val; omega⟩

theorem cover (p₀ p₁ p₂ p₃ : IVec S512x128 32) (y : S2048x128.Idx) :
    ∃ p ∈ (pieces p₀ p₁ p₂ p₃ : List (View.Piece (Elt F) S2048x128 .i32)), y ∈ p.1.set := by
  have h4 : (y 0).val % 4 < 4 := Nat.mod_lt _ (by omega)
  rcases (show (y 0).val % 4 = 0 ∨ (y 0).val % 4 = 1 ∨ (y 0).val % 4 = 2 ∨ (y 0).val % 4 = 3 by omega) with h | h | h | h
  · exact ⟨⟨row 0 inb_S2048x128_S512x128_0_0_s_4_1, p₀⟩, .tail _ (.tail _ (.tail _ (.head _))), mem_row 0 _ y h⟩
  · exact ⟨⟨row 1 inb_S2048x128_S512x128_1_0_s_4_1, p₁⟩, .tail _ (.tail _ (.head _)), mem_row 1 _ y h⟩
  · exact ⟨⟨row 2 inb_S2048x128_S512x128_2_0_s_4_1, p₂⟩, .tail _ (.head _), mem_row 2 _ y h⟩
  · exact ⟨⟨row 3 inb_S2048x128_S512x128_3_0_s_4_1, p₃⟩, .head _, mem_row 3 _ y h⟩

theorem idx_col (j k h : Nat) (hj : j < 4) (hk : k = h + j * 128) (hh : h ≤ 512) (hc) (hr) (x : S512x128.Idx) :
    (col k hc).idx x = at' h hh ((row j hr).emb x) := by
  have h0 : (x 0).val < 512 := (x 0).isLt
  have h1 : (x 1).val < 128 := (x 1).isLt
  refine funext fun a => Fin.ext ?_
  match a with
  | ⟨0, _⟩ => show 0 + 1 * (x 0).val = (j + 4 * (x 0).val) / 4; omega
  | ⟨1, _⟩ => show k + 1 * (x 1).val = h + ((j + 4 * (x 0).val) % 4 * 128 + (0 + 1 * (x 1).val)); omega

theorem piece (X : Vec F S512x1024 .f32) (j k k' : Nat) (hj : j < 4) (hk : k = 0 + j * 128) (hk' : k' = 512 + j * 128) (hc) (hc') (hr) (x : S512x128.Idx) :
    packElementwise (View.ld X (col k hc)) (View.ld X (col k' hc')) x = words X ((row j hr).emb x) := by
  unfold words
  rw [← idx_col j k 0 hj hk (by omega) hc hr, ← idx_col j k' 512 hj hk' (by omega) hc' hr]
  rfl

theorem canon_pieces (X : Vec F S512x1024 .f32) :
    View.canon (pieces (F := F)
      (k0_pay1 (View.ld X (col 0 inb_S512x1024_S512x128_0_0)) (View.ld X (col 512 inb_S512x1024_S512x128_0_512)))
      (k0_pay2 (View.ld X (col 128 inb_S512x1024_S512x128_0_128)) (View.ld X (col 640 inb_S512x1024_S512x128_0_640)))
      (k0_pay3 (View.ld X (col 256 inb_S512x1024_S512x128_0_256)) (View.ld X (col 768 inb_S512x1024_S512x128_0_768)))
      (k0_pay4 (View.ld X (col 384 inb_S512x1024_S512x128_0_384)) (View.ld X (col 896 inb_S512x1024_S512x128_0_896)))) = words X := by
  funext y
  refine View.canon_apply_of_pieces (words X) _ ?_ y (cover (F := F) _ _ _ _ y)
  intro p hp
  simp only [List.mem_cons, List.not_mem_nil, or_false] at hp
  rcases hp with rfl | rfl | rfl | rfl
  · exact piece X 3 _ _ (by omega) rfl rfl _ _ _
  · exact piece X 2 _ _ (by omega) rfl rfl _ _ _
  · exact piece X 1 _ _ (by omega) rfl rfl _ _ _
  · exact piece X 0 _ _ (by omega) rfl rfl _ _ _

/-! ## The body's triple, the proof data, the run -/

set_option maxHeartbeats 1000000 in
theorem sound_kernel (c : Dev nD) (i : grid0.Coords) (arg1 : Memref sig .tc .vmem S512x1024 .f32) (harg1 : arg1.IsWhole)
    (arg2 : Memref sig .tc .vmem S2048x128 .i32) (harg2 : arg2.IsWhole) (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (words x0)) -∗ K ⟨⟩))
      ⊢ wp frame (wpE (defs₀ (F := F)) Variants.none c none) Set.univ (cc0_pack_table i arg1 harg1 arg2 harg2) K := by
  simp only [cc0_pack_table_eq_skeleton]; unfold cc0_pack_table_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact (View.read_writes_eq_canon _ _ _ (cover (F := F) _ _ _ _)).trans (canon_pieces _)

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => words (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = words (iblk m c 0 t) := by dsimp only [dats]
theorem before0_0 (c : Dev nD) (t : Fin cfg0.N) (d) : (dats m 0 c).before 0 t d = iblk m c 0 t :=
  before0_0_of m (dats m 0 c) (A_eq m c 0) (after0_0 m c) t d

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t))) := by
  unfold bodyAt0
  simp only [before0_0]
  rw [show (dats m 0 c).Φ t.succ = (dats m 0 c).Φ t.castSucc from rfl,
    show (dats m 0 c).owesAt () t.succ = (dats m 0 c).owesAt () t.castSucc from rfl, after0_0, after0_1]
  iintro ⟨HΦ, Ho, ⟨%d0, H0⟩, ⟨%d1, H1⟩⟩
  iapply (sound_kernel c (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) ((θ_run defs _ _).mono (fun _ h => h.1) (run_main m ρ))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main m ρ))

/-! ## The whole table -/

def at'' (h : Nat) (hh : h ≤ 512) (y : S65536x128.Idx) : S16384x1024.Idx := fun a => match a with
  | ⟨0, _⟩ => ⟨(y 0).val / 4, by have h0 : (y 0).val < 65536 := (y 0).isLt; show (y 0).val / 4 < 16384; omega⟩
  | ⟨1, _⟩ => ⟨h + ((y 0).val % 4 * 128 + (y 1).val), by
      have h1 : (y 1).val < 128 := (y 1).isLt; show h + ((y 0).val % 4 * 128 + (y 1).val) < 1024; omega⟩

/-- What the packed table holds. -/
def table (T : Vec F S16384x1024 .f32) : IVec S65536x128 32 := fun y =>
  word (T (at'' 0 (by omega) y)) (T (at'' 512 (by omega) y))

theorem idx_facts : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

theorem words_block (c : Dev nD) (t : Fin cfg0.N) :
    words (iblk m c 0 t) = ((cfg0.win 1).blk t).view.read (Elt F) (table (F := F) (V m c main_arg0)) := by
  obtain ⟨e0, e1, e2, e3⟩ := idx_facts t
  have key : ∀ (h : Nat) (hh : h ≤ 512) (y : S2048x128.Idx),
      iblk m c 0 t (at' h hh y) = V m c main_arg0 (at'' h hh (((cfg0.win 1).blk t).view.emb y)) := by
    intro h hh y
    have h0 : (y 0).val < 2048 := (y 0).isLt
    refine congrArg (V m c main_arg0) (funext fun a => Fin.ext ?_)
    match a with
    | ⟨0, _⟩ =>
      show win0_0.index t (0 : Fin 2) * 512 + 1 * ((y 0).val / 4) = (win0_1.index t (0 : Fin 2) * 2048 + 1 * (y 0).val) / 4
      rw [e0, e2]; omega
    | ⟨1, _⟩ =>
      show win0_0.index t (1 : Fin 2) * 1024 + 1 * (h + ((y 0).val % 4 * 128 + (y 1).val))
        = h + ((win0_1.index t (0 : Fin 2) * 2048 + 1 * (y 0).val) % 4 * 128 + (win0_1.index t (1 : Fin 2) * 128 + 1 * (y 1).val))
      rw [e1, e2, e3]; omega
  funext y
  show word _ _ = word _ _
  rw [key, key]

theorem final (c : Dev nD) : (dats m 0 c).arrAt 1 cfg0.N = table (F := F) (m ((c.tc : Thread nD τ).loc main_arg0)) := by
  refine (dats m 0 c).arrAt_eq_of_cover 1 (table (F := F) (V m c main_arg0)) (fun t _ => ?_) fun i => ?_
  · show (cfg0.win 1).cut (grid0.coords t) ((dats m 0 c).after 1 t) = _
    rw [after0_1]; exact words_block m c t
  · have h0 : (i 0).val < 65536 := (i 0).isLt
    have h1 : (i 1).val < 128 := (i 1).isLt
    let t : Fin grid0.N := ⟨(i 0).val / 2048, by show (i 0).val / 2048 < 32; omega⟩
    obtain ⟨-, -, e2, e3⟩ := idx_facts t
    refine ⟨t, flush0_1 t, ?_⟩
    show i ∈ ((View.whole main_v0).slice (win0_1.rect t)).set
    rw [View.set_slice_whole, Rect.mem_set_unit]
    intro a
    match a with
    | ⟨0, _⟩ =>
      show win0_1.index t (0 : Fin 2) * 2048 ≤ (i 0).val ∧ (i 0).val < win0_1.index t (0 : Fin 2) * 2048 + 2048
      rw [e2]; show (i 0).val / 2048 * 2048 ≤ (i 0).val ∧ (i 0).val < (i 0).val / 2048 * 2048 + 2048; omega
    | ⟨1, _⟩ =>
      show win0_1.index t (1 : Fin 2) * 128 ≤ (i 1).val ∧ (i 1).val < win0_1.index t (1 : Fin 2) * 128 + 128
      rw [e3]; omega

theorem run_value : θ_run defs (onTc (τ := τ) (main (F := F))) ⟨m, fun _ => 0, ρ⟩ (fun r => ∀ c : Dev nD,
      r.2.mem ((c.tc : Thread nD τ).loc main_v0) = table (F := F) (m ((c.tc : Thread nD τ).loc main_arg0))
      ∧ r.2.mem ((c.tc : Thread nD τ).loc main_arg0) = m ((c.tc : Thread nD τ).loc main_arg0)) :=
  (θ_run defs _ _).mono (fun _ h c => ⟨((h.1.1 c).1 1).trans (final m c), h.2 c⟩) (θ_run_and (run_main m ρ) (unchanged m ρ))

/-! ## The reference's table -/

open Cert.PackReference (S16384x512 S16384x512x2 S16384x512x1)

theorem snoc_coords (h : S16384x512.SplitsWords 32 S16384x512x2 16) (j : S16384x512.Idx) {k : S16384x512x2.Coord h.axis} :
    (h.snoc j k 0).val = (j 0).val ∧ (h.snoc j k 1).val = (j 1).val ∧ (h.snoc j k 2).val = k.val :=
  ⟨h.snoc_apply_val_of_lt j k 0 (by decide), h.snoc_apply_val_of_lt j k 1 (by decide), congrArg (fun z => z.val) (h.snoc_axis j k)⟩

theorem lower (T : Vec F S16384x1024 .f32) (y : S65536x128.Idx) (j : S16384x512x2.Idx)
    (hj : (j 0).val = (Cert.PackReference.Read.idx_main_v7 y 0).val ∧ (j 1).val = (Cert.PackReference.Read.idx_main_v7 y 1).val ∧ (j 2).val = 0) :
    Cert.PackReference.Read.val_main_v5 (F := F) T j = FloatOps.truncf .bf16 (by decide) (T (at'' 0 (by omega) y)) := by
  obtain ⟨j0, j1, j2⟩ := hj
  have h0 : (y 0).val < 65536 := (y 0).isLt
  have h1 : (y 1).val < 128 := (y 1).isLt
  unfold Cert.PackReference.Read.val_main_v5
  let i : S16384x512x1.Idx := fun a => match a with
    | ⟨0, _⟩ => j 0
    | ⟨1, _⟩ => j 1
    | ⟨2, _⟩ => ⟨0, Nat.zero_lt_one⟩
  rw [concatenate_pair_apply_left (s₁ := S16384x512x1) (s₂ := S16384x512x1) 2 _ _ _ j rfl i (fun b => match b with
    | ⟨0, _⟩ => rfl
    | ⟨1, _⟩ => rfl
    | ⟨2, _⟩ => j2.symm), Cert.PackReference.Read.val_main_v3_apply, Cert.PackReference.Read.val_main_v1_apply, Cert.PackReference.Read.val_main_v0_apply]
  refine congrArg (fun z => FloatOps.truncf .bf16 (by decide) (T z)) (funext fun a => Fin.ext ?_)
  match a with
  | ⟨0, _⟩ => show (j 0).val = (y 0).val / 4; rw [j0]; show ((y 0).val * 128 + (y 1).val) / 512 = _; omega
  | ⟨1, _⟩ => show (j 1).val = 0 + ((y 0).val % 4 * 128 + (y 1).val); rw [j1]; show ((y 0).val * 128 + (y 1).val) % 512 = _; omega

theorem upper (T : Vec F S16384x1024 .f32) (y : S65536x128.Idx) (j : S16384x512x2.Idx)
    (hj : (j 0).val = (Cert.PackReference.Read.idx_main_v7 y 0).val ∧ (j 1).val = (Cert.PackReference.Read.idx_main_v7 y 1).val ∧ (j 2).val = 1) :
    Cert.PackReference.Read.val_main_v5 (F := F) T j = FloatOps.truncf .bf16 (by decide) (T (at'' 512 (by omega) y)) := by
  obtain ⟨j0, j1, j2⟩ := hj
  have h0 : (y 0).val < 65536 := (y 0).isLt
  have h1 : (y 1).val < 128 := (y 1).isLt
  unfold Cert.PackReference.Read.val_main_v5
  let i : S16384x512x1.Idx := fun a => match a with
    | ⟨0, _⟩ => j 0
    | ⟨1, _⟩ => j 1
    | ⟨2, _⟩ => ⟨0, Nat.zero_lt_one⟩
  rw [concatenate_pair_apply_right (s₁ := S16384x512x1) (s₂ := S16384x512x1) 2 _ _ _ j rfl rfl i (fun b hb => match b, hb with
    | ⟨0, _⟩, _ => rfl
    | ⟨1, _⟩, _ => rfl
    | ⟨2, _⟩, hb => absurd rfl hb) (by show 0 + 1 = (j 2).val; rw [j2]),
    Cert.PackReference.Read.val_main_v4_apply, Cert.PackReference.Read.val_main_v2_apply, Cert.PackReference.Read.val_main_v0_apply]
  refine congrArg (fun z => FloatOps.truncf .bf16 (by decide) (T z)) (funext fun a => Fin.ext ?_)
  match a with
  | ⟨0, _⟩ => show (j 0).val = (y 0).val / 4; rw [j0]; show ((y 0).val * 128 + (y 1).val) / 512 = _; omega
  | ⟨1, _⟩ => show 512 + (j 1).val = 512 + ((y 0).val % 4 * 128 + (y 1).val); rw [j1]; show 512 + ((y 0).val * 128 + (y 1).val) % 512 = _; omega

theorem reference_table (T : Vec F S16384x1024 .f32) : Cert.PackReference.Read.val_main_v7 (F := F) T = table T := by
  funext y
  rw [Cert.PackReference.Read.val_main_v7_apply]
  unfold Cert.PackReference.Read.val_main_v6
  rw [Host.bitcastConvertWiden_apply_16_32]
  exact congrArg₂ (· ++ ·) (congrArg BitOps.toBits (upper T y _ (snoc_coords _ _))) (congrArg BitOps.toBits (lower T y _ (snoc_coords _ _)))

end Cert.Pack.Words

end
-- ==== Proof.Mix.lean ====
/-
  `_mix_wq`'s value: at each of the 64 points the 256 tokens' gated sum through `w_out`, added to the residual, and the normalised result
  through `wq`, against the reference's whole-array products.
-/
module

public import proofs.«01_k».proof.Proof.Gen.MixIdeal.Value
public import proofs.«01_k».proof.Proof.Gen.MixReferenceIdeal.Read
public import Idealize.ShloMosaic.Lib.Pointwise
public import Idealize.ShloMosaic.Lib.StableHlo.ReadAt

@[expose] public section

set_option maxRecDepth 16384

noncomputable section

namespace Cert.MixIdeal.Rows

open Cert.MixIdeal Cert.MixIdeal.Gen
open Idealize.ShloMosaic Idealize.ShloMosaic.TcCoe Idealize.SL.Sem
open Idealize.ShloMosaic.Pipeline (Dat)

/-! ## The rows, over any number of tokens -/

/-- The residual with the gated sum through `w_out`, at token `r` and column `l`. -/
def mrow {R : Nat} (a2 : (⟨2, ![R, 2048]⟩ : Shape).Idx → EReal) (a0 a1 a3 : (⟨2, ![R, 1024]⟩ : Shape).Idx → EReal) (w : S1024x1024.Idx → EReal)
    (r : Fin R) (l : Fin 1024) : EReal :=
  a3 (ix2 r l) + ∑ x : Fin 1024,
    (Ideal.div 1 (1 + Ideal.exp (-a2 (ix2 r ⟨x.val, by omega⟩))) * a0 (ix2 r x)
      + Ideal.div 1 (1 + Ideal.exp (-a2 (ix2 r ⟨1024 + x.val, by omega⟩))) * a1 (ix2 r x)) * w (ix2 x l)

/-- A row, normalised by its mean square and scaled, through `wq`. -/
def qrow (y : Fin 1024 → EReal) (g : S1x1024.Idx → EReal) (w : S1024x2048.Idx → EReal) (l : Fin 2048) : EReal :=
  ∑ x : Fin 1024, y x * Ideal.rsqrt (Ideal.div (∑ k : Fin 1024, y k * y k) (Ideal.ofBits FTy.f32 1149239296#32) + Ideal.ofBits FTy.f32 897988541#32)
    * g (ix2 0 x) * w (ix2 x l)

theorem pay2 (a2 : Vec Ideal S256x2048 .bf16) (a0 a1 : Vec Ideal S256x1024 .bf16) (a3 : Vec Ideal S256x1024 .f32) (w : Vec Ideal S1024x1024 .bf16)
    (r : Fin 256) (l : Fin 1024) : k0_pay2 a2 a0 a1 a3 w (ix2 r l) = mrow a2 a0 a1 a3 w r l := by
  unfold mrow
  pointwise [k0_pay2]
  simp only [zero_sub]

theorem pay1 (a2 : Vec Ideal S256x2048 .bf16) (a0 a1 : Vec Ideal S256x1024 .bf16) (a3 : Vec Ideal S256x1024 .f32) (w : Vec Ideal S1024x1024 .bf16)
    (g : Vec Ideal S1x1024 .f32) (q : Vec Ideal S1024x2048 .bf16) (r : Fin 256) (l : Fin 2048) :
    k0_pay1 (k0_pay2 a2 a0 a1 a3 w) g (k0_pay3 a2 a0 a1 a3 w) q (ix2 r l) = qrow (mrow a2 a0 a1 a3 w r) g q l := by
  unfold qrow
  simp only [← pay2]
  pointwise [k0_pay1, k0_pay3]

open Cert.MixReferenceIdeal.Read in
theorem ref15 (a2 : S16384x2048.Idx → EReal) (a0 a1 a3 : S16384x1024.Idx → EReal) (w : S1024x1024.Idx → EReal) (r : Fin 16384) (l : Fin 1024) :
    val_main_v15 (F := Ideal) a0 a1 a2 a3 w (ix2 r l) = mrow a2 a0 a1 a3 w r l := by
  unfold mrow
  pointwise [val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0]

open Cert.MixReferenceIdeal.Read in
theorem ref29 (a2 : S16384x2048.Idx → EReal) (a0 a1 a3 : S16384x1024.Idx → EReal) (w : S1024x1024.Idx → EReal) (g : S1x1024.Idx → EReal)
    (q : S1024x2048.Idx → EReal) (r : Fin 16384) (l : Fin 2048) :
    val_main_v29 (F := Ideal) a0 a1 a2 a3 w g q (ix2 r l) = qrow (mrow a2 a0 a1 a3 w r) g q l := by
  unfold qrow
  simp only [← ref15]
  pointwise [val_main_v29, val_main_v28, val_main_v27, val_main_v26, val_main_v25, val_main_v24, val_main_v23, val_main_v22, val_main_v21, val_main_v20,
    val_main_v19, val_main_v18, val_main_v17, val_main_v16, val_main_cst_1, val_main_cst_2, val_main_cst_3]

/-! ## The blocks -/

variable (m : (ℓ : Loc nD τ sig) → Buf (Elt Ideal) ℓ) (ρ : Dev nD → PrngReg)

theorem hz : (![0, 0] : Fin 2 → Nat) = fun _ => 0 := funext fun a => match a with | ⟨0, _⟩ => rfl | ⟨1, _⟩ => rfl

theorem idx_facts : ∀ t : Fin cfg0.N, win0_0.index t (0 : Fin 2) = t.val ∧ win0_0.index t (1 : Fin 2) = 0 ∧ win0_1.index t (0 : Fin 2) = t.val ∧ win0_1.index t (1 : Fin 2) = 0 ∧ win0_2.index t (0 : Fin 2) = t.val ∧ win0_2.index t (1 : Fin 2) = 0 ∧ win0_3.index t (0 : Fin 2) = t.val ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 ∧ win0_7.index t (0 : Fin 2) = t.val ∧ win0_7.index t (1 : Fin 2) = 0 ∧ win0_8.index t (0 : Fin 2) = t.val ∧ win0_8.index t (1 : Fin 2) = 0 :=
  (by decide +kernel : ∀ t : Fin grid0.N, win0_0.index t (0 : Fin 2) = t.val ∧ win0_0.index t (1 : Fin 2) = 0 ∧ win0_1.index t (0 : Fin 2) = t.val ∧ win0_1.index t (1 : Fin 2) = 0 ∧ win0_2.index t (0 : Fin 2) = t.val ∧ win0_2.index t (1 : Fin 2) = 0 ∧ win0_3.index t (0 : Fin 2) = t.val ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 ∧ win0_7.index t (0 : Fin 2) = t.val ∧ win0_7.index t (1 : Fin 2) = 0 ∧ win0_8.index t (0 : Fin 2) = t.val ∧ win0_8.index t (1 : Fin 2) = 0)

/-- The point whose 256 rows hold row `i`. -/
theorem point (i : Fin 16384) : ∃ t : Fin cfg0.N, t.val * 256 ≤ i.val ∧ i.val < t.val * 256 + 256 :=
  ⟨⟨i.val / 256, by show i.val / 256 < 64; omega⟩, by dsimp only; omega, by dsimp only; omega⟩

theorem blk0 (c : Dev nD) (t : Fin cfg0.N) (r : Fin 256) (k : Fin 1024) : (iblk m c 0 t : S256x1024.Idx → EReal) (ix2 r k)
    = (m ((c : Thread nD τ).loc main_arg0) : S16384x1024.Idx → EReal) (ix2 ⟨t.val * 256 + r.val, by have : t.val < 64 := t.isLt; omega⟩ k) := by
  obtain ⟨f0, g0, f1, g1, f2, g2, f3, g3, f4, g4, f5, g5, f6, g6, f7, g7, f8, g8⟩ := idx_facts t
  refine Eq.trans (congrArg (V m c main_arg0 : S16384x1024.Idx → EReal) (funext fun a => Fin.ext ?_)) (congrFun (V_main_arg0 m c) _)
  match a with
  | ⟨0, _⟩ => show win0_0.index t (0 : Fin 2) * 256 + 1 * r.val = t.val * 256 + r.val; rw [f0]; omega
  | ⟨1, _⟩ => show win0_0.index t (1 : Fin 2) * 1024 + 1 * k.val = k.val; rw [g0]; omega

theorem blk1 (c : Dev nD) (t : Fin cfg0.N) (r : Fin 256) (k : Fin 1024) : (iblk m c 1 t : S256x1024.Idx → EReal) (ix2 r k)
    = (m ((c : Thread nD τ).loc main_arg1) : S16384x1024.Idx → EReal) (ix2 ⟨t.val * 256 + r.val, by have : t.val < 64 := t.isLt; omega⟩ k) := by
  obtain ⟨f0, g0, f1, g1, f2, g2, f3, g3, f4, g4, f5, g5, f6, g6, f7, g7, f8, g8⟩ := idx_facts t
  refine Eq.trans (congrArg (V m c main_arg1 : S16384x1024.Idx → EReal) (funext fun a => Fin.ext ?_)) (congrFun (V_main_arg1 m c) _)
  match a with
  | ⟨0, _⟩ => show win0_1.index t (0 : Fin 2) * 256 + 1 * r.val = t.val * 256 + r.val; rw [f1]; omega
  | ⟨1, _⟩ => show win0_1.index t (1 : Fin 2) * 1024 + 1 * k.val = k.val; rw [g1]; omega

theorem blk2 (c : Dev nD) (t : Fin cfg0.N) (r : Fin 256) (k : Fin 2048) : (iblk m c 2 t : S256x2048.Idx → EReal) (ix2 r k)
    = (m ((c : Thread nD τ).loc main_arg2) : S16384x2048.Idx → EReal) (ix2 ⟨t.val * 256 + r.val, by have : t.val < 64 := t.isLt; omega⟩ k) := by
  obtain ⟨f0, g0, f1, g1, f2, g2, f3, g3, f4, g4, f5, g5, f6, g6, f7, g7, f8, g8⟩ := idx_facts t
  refine Eq.trans (congrArg (V m c main_arg2 : S16384x2048.Idx → EReal) (funext fun a => Fin.ext ?_)) (congrFun (V_main_arg2 m c) _)
  match a with
  | ⟨0, _⟩ => show win0_2.index t (0 : Fin 2) * 256 + 1 * r.val = t.val * 256 + r.val; rw [f2]; omega
  | ⟨1, _⟩ => show win0_2.index t (1 : Fin 2) * 2048 + 1 * k.val = k.val; rw [g2]; omega

theorem blk3 (c : Dev nD) (t : Fin cfg0.N) (r : Fin 256) (k : Fin 1024) : (iblk m c 3 t : S256x1024.Idx → EReal) (ix2 r k)
    = (m ((c : Thread nD τ).loc main_arg3) : S16384x1024.Idx → EReal) (ix2 ⟨t.val * 256 + r.val, by have : t.val < 64 := t.isLt; omega⟩ k) := by
  obtain ⟨f0, g0, f1, g1, f2, g2, f3, g3, f4, g4, f5, g5, f6, g6, f7, g7, f8, g8⟩ := idx_facts t
  refine Eq.trans (congrArg (V m c main_arg3 : S16384x1024.Idx → EReal) (funext fun a => Fin.ext ?_)) (congrFun (V_main_arg3 m c) _)
  match a with
  | ⟨0, _⟩ => show win0_3.index t (0 : Fin 2) * 256 + 1 * r.val = t.val * 256 + r.val; rw [f3]; omega
  | ⟨1, _⟩ => show win0_3.index t (1 : Fin 2) * 1024 + 1 * k.val = k.val; rw [g3]; omega

theorem V_0 (c : Dev nD) : (V m c main_v0 : S1024x1024.Idx → EReal) = m ((c : Thread nD τ).loc main_arg4) := by
  unfold V; after_reads_simp; rfl
theorem V_1 (c : Dev nD) : (V m c main_v1 : S1024x2048.Idx → EReal) = m ((c : Thread nD τ).loc main_arg6) := by
  unfold V; after_reads_simp; rfl

theorem blk4 (c : Dev nD) (t : Fin cfg0.N) : (iblk m c 4 t : S1024x1024.Idx → EReal) = m ((c : Thread nD τ).loc main_arg4) := by
  obtain ⟨f0, g0, f1, g1, f2, g2, f3, g3, f4, g4, f5, g5, f6, g6, f7, g7, f8, g8⟩ := idx_facts t
  funext y
  refine Eq.trans (congrArg (V m c main_v0 : S1024x1024.Idx → EReal) (funext fun a => Fin.ext ?_)) (congrFun (V_0 m c) _)
  match a with
  | ⟨0, _⟩ => show win0_4.index t (0 : Fin 2) * 1024 + 1 * (y 0).val = (y 0).val; rw [f4]; omega
  | ⟨1, _⟩ => show win0_4.index t (1 : Fin 2) * 1024 + 1 * (y 1).val = (y 1).val; rw [g4]; omega

theorem blk5 (c : Dev nD) (t : Fin cfg0.N) : (iblk m c 5 t : S1x1024.Idx → EReal) = m ((c : Thread nD τ).loc main_arg5) := by
  obtain ⟨f0, g0, f1, g1, f2, g2, f3, g3, f4, g4, f5, g5, f6, g6, f7, g7, f8, g8⟩ := idx_facts t
  funext y
  refine Eq.trans (congrArg (V m c main_arg5 : S1x1024.Idx → EReal) (funext fun a => Fin.ext ?_)) (congrFun (V_main_arg5 m c) _)
  match a with
  | ⟨0, _⟩ => show win0_5.index t (0 : Fin 2) * 1 + 1 * (y 0).val = (y 0).val; rw [f5]; omega
  | ⟨1, _⟩ => show win0_5.index t (1 : Fin 2) * 1024 + 1 * (y 1).val = (y 1).val; rw [g5]; omega

theorem blk6 (c : Dev nD) (t : Fin cfg0.N) : (iblk m c 6 t : S1024x2048.Idx → EReal) = m ((c : Thread nD τ).loc main_arg6) := by
  obtain ⟨f0, g0, f1, g1, f2, g2, f3, g3, f4, g4, f5, g5, f6, g6, f7, g7, f8, g8⟩ := idx_facts t
  funext y
  refine Eq.trans (congrArg (V m c main_v1 : S1024x2048.Idx → EReal) (funext fun a => Fin.ext ?_)) (congrFun (V_1 m c) _)
  match a with
  | ⟨0, _⟩ => show win0_6.index t (0 : Fin 2) * 1024 + 1 * (y 0).val = (y 0).val; rw [f6]; omega
  | ⟨1, _⟩ => show win0_6.index t (1 : Fin 2) * 2048 + 1 * (y 1).val = (y 1).val; rw [g6]; omega

/-- The point's rows are the tokens' rows. -/
theorem rows (c : Dev nD) (t : Fin cfg0.N) (r : Fin 256) :
    mrow (R := 256) (iblk m c 2 t) (iblk m c 0 t) (iblk m c 1 t) (iblk m c 3 t) (iblk m c 4 t) r
      = mrow (R := 16384) (m ((c : Thread nD τ).loc main_arg2)) (m ((c : Thread nD τ).loc main_arg0)) (m ((c : Thread nD τ).loc main_arg1)) (m ((c : Thread nD τ).loc main_arg3)) (m ((c : Thread nD τ).loc main_arg4)) ⟨t.val * 256 + r.val, by have : t.val < 64 := t.isLt; omega⟩ := by
  funext l
  unfold mrow
  simp only [blk0, blk1, blk2, blk3, blk4]

theorem block7 (c : Dev nD) (t : Fin cfg0.N) :
    (cfg0.win 7).cut (grid0.coords t) (out0_7 (iblk m c 0 t) (iblk m c 1 t) (iblk m c 2 t) (iblk m c 3 t) (iblk m c 4 t) (iblk m c 5 t) (iblk m c 6 t))
      = ((cfg0.win 7).blk t).view.read (Elt Ideal) (Cert.MixReferenceIdeal.Read.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨f0, g0, f1, g1, f2, g2, f3, g3, f4, g4, f5, g5, f6, g6, f7, g7, f8, g8⟩ := idx_facts t
  have ht : t.val < 64 := t.isLt
  funext y
  obtain ⟨r, l, rfl⟩ : ∃ (r : Fin 256) (l : Fin 1024), y = ix2 r l := ⟨y 0, y 1, funext fun a => match a with | ⟨0, _⟩ => rfl | ⟨1, _⟩ => rfl⟩
  have e : ((cfg0.win 7).blk t).view.read (Elt Ideal) (Cert.MixReferenceIdeal.Read.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (ix2 r l) = Cert.MixReferenceIdeal.Read.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 256 + r.val, by omega⟩ l) := by
    refine congrArg (Cert.MixReferenceIdeal.Read.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (funext fun a => Fin.ext ?_)
    match a with
    | ⟨0, _⟩ => show win0_7.index t (0 : Fin 2) * 256 + 1 * r.val = t.val * 256 + r.val; rw [f7]; omega
    | ⟨1, _⟩ => show win0_7.index t (1 : Fin 2) * 1024 + 1 * l.val = l.val; rw [g7]; omega
  show out0_7 (iblk m c 0 t) (iblk m c 1 t) (iblk m c 2 t) (iblk m c 3 t) (iblk m c 4 t) (iblk m c 5 t) (iblk m c 6 t) (ix2 r l) = _
  rw [e, ref15, ← rows]
  unfold out0_7
  rw [View.canon_unit_zero hz]
  repeat rw [View.ld_unit_zero hz]
  rw [pay2]

theorem final7 (c : Dev nD) : (dats m 0 c).arrAt 7 cfg0.N = Cert.MixReferenceIdeal.Read.val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 7 _ (fun t _ => (Value.flushed7 m c t).trans (block7 m c t)) fun i => ?_
  obtain ⟨t, h0, h1⟩ := point (i 0)
  obtain ⟨f0, g0, f1, g1, f2, g2, f3, g3, f4, g4, f5, g5, f6, g6, f7, g7, f8, g8⟩ := idx_facts t
  have hi : (i 1).val < 1024 := (i 1).isLt
  refine ⟨t, flush0_7 t, ?_⟩
  show i ∈ ((View.whole main_v2_0).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; rw [f7]; exact ⟨h0, h1⟩
  | ⟨1, _⟩ => show win0_7.index t (1 : Fin 2) * 1024 ≤ (i 1).val ∧ (i 1).val < win0_7.index t (1 : Fin 2) * 1024 + 1024; rw [g7]; omega

theorem block8 (c : Dev nD) (t : Fin cfg0.N) :
    (cfg0.win 8).cut (grid0.coords t) (out0_8 (iblk m c 0 t) (iblk m c 1 t) (iblk m c 2 t) (iblk m c 3 t) (iblk m c 4 t) (iblk m c 5 t) (iblk m c 6 t))
      = ((cfg0.win 8).blk t).view.read (Elt Ideal) (Cert.MixReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  obtain ⟨f0, g0, f1, g1, f2, g2, f3, g3, f4, g4, f5, g5, f6, g6, f7, g7, f8, g8⟩ := idx_facts t
  have ht : t.val < 64 := t.isLt
  funext y
  obtain ⟨r, l, rfl⟩ : ∃ (r : Fin 256) (l : Fin 2048), y = ix2 r l := ⟨y 0, y 1, funext fun a => match a with | ⟨0, _⟩ => rfl | ⟨1, _⟩ => rfl⟩
  have e : ((cfg0.win 8).blk t).view.read (Elt Ideal) (Cert.MixReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (ix2 r l) = Cert.MixReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨t.val * 256 + r.val, by omega⟩ l) := by
    refine congrArg (Cert.MixReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (funext fun a => Fin.ext ?_)
    match a with
    | ⟨0, _⟩ => show win0_8.index t (0 : Fin 2) * 256 + 1 * r.val = t.val * 256 + r.val; rw [f8]; omega
    | ⟨1, _⟩ => show win0_8.index t (1 : Fin 2) * 2048 + 1 * l.val = l.val; rw [g8]; omega
  show out0_8 (iblk m c 0 t) (iblk m c 1 t) (iblk m c 2 t) (iblk m c 3 t) (iblk m c 4 t) (iblk m c 5 t) (iblk m c 6 t) (ix2 r l) = _
  rw [e, ref29, ← rows]
  unfold out0_8
  rw [View.canon_unit_zero hz]
  repeat rw [View.ld_unit_zero hz]
  rw [pay1]; rw [blk5, blk6]

theorem final8 (c : Dev nD) : (dats m 0 c).arrAt 8 cfg0.N = Cert.MixReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_cover 8 _ (fun t _ => (Value.flushed8 m c t).trans (block8 m c t)) fun i => ?_
  obtain ⟨t, h0, h1⟩ := point (i 0)
  obtain ⟨f0, g0, f1, g1, f2, g2, f3, g3, f4, g4, f5, g5, f6, g6, f7, g7, f8, g8⟩ := idx_facts t
  have hi : (i 1).val < 2048 := (i 1).isLt
  refine ⟨t, flush0_8 t, ?_⟩
  show i ∈ ((View.whole main_v2_1).slice (win0_8.rect t)).set
  rw [View.set_slice_whole, Rect.mem_set_unit]
  intro a
  match a with
  | ⟨0, _⟩ => show win0_8.index t (0 : Fin 2) * 256 ≤ (i 0).val ∧ (i 0).val < win0_8.index t (0 : Fin 2) * 256 + 256; rw [f8]; exact ⟨h0, h1⟩
  | ⟨1, _⟩ => show win0_8.index t (1 : Fin 2) * 2048 ≤ (i 1).val ∧ (i 1).val < win0_8.index t (1 : Fin 2) * 2048 + 2048; rw [g8]; omega

end Cert.MixIdeal.Rows

end
-- ==== Proof.lean ====
module

public import proofs.«01_k».proof.Defs
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.PackReference
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.InProjIdeal.Value
public import proofs.«01_k».proof.Proof.Gen.MixIdeal.Value
public import proofs.«01_k».proof.Proof.Gen.PackReference.Run
public import proofs.«01_k».proof.Proof.Gen.PackReference.Read
public import proofs.«01_k».proof.Proof.Gen.InProjReferenceIdeal.Run
public import proofs.«01_k».proof.Proof.Gen.InProjReferenceIdeal.Read
public import proofs.«01_k».proof.Proof.Gen.MixReferenceIdeal.Run
public import proofs.«01_k».proof.Proof.Gen.MixReferenceIdeal.Read
public import proofs.«01_k».proof.Proof.Gen.Act
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Loops
public import proofs.«01_k».proof.Proof.Gen.ActIdeal.Frame
public import proofs.«01_k».proof.Proof.Gen.ActReferenceIdeal
public import proofs.«01_k».proof.Proof.Gen.ActReferenceIdeal.Run
public import proofs.«01_k».proof.Proof.Gen.ActReferenceIdeal.Read
public import proofs.«01_k».proof.Proof.Gen.Pre_experts_named
public import proofs.«01_k».proof.Proof.Act.Frame
public import proofs.«01_k».proof.Proof.Act.Bits
public import proofs.«01_k».proof.Proof.Act.Value
public import proofs.«01_k».proof.Proof.Pack
public import proofs.«01_k».proof.Proof.InProj
public import proofs.«01_k».proof.Proof.Mix
public import Idealize.ShloMosaic.Adequacy
public import Idealize.ShloMosaic.Init

@[expose] public section

noncomputable section

namespace Cert.Proof

open Idealize.ShloMosaic Idealize.SL.Sem Cert.Pack

/-- The table: the words of the kernel and of the reference. -/
theorem packed : bitexact_Pack_PackReference := fun m g m' g' _ hagree =>
  ⟨fun c => Cert.Pack.Words.table (F := Bits) (m ((c.tc : Thread Cert.Pack.nD Cert.Pack.τ).loc Cert.Pack.main_arg0)), Cert.Pack.Words.run_value (F := Bits) m g,
    (θ_run Cert.PackReference.defs _ _).mono (fun _ h c => ⟨(h c).1.trans ((Cert.PackReference.Read.val_main_v7_eq _).trans
      ((Cert.Pack.Words.reference_table _).trans (congrArg (Cert.Pack.Words.table (F := Bits)) (hagree c)))), (h c).2⟩) (Cert.PackReference.Value.run (F := Bits) m' g')⟩

/-- The input projection: its three results against the reference's. -/
theorem projected : algebraic_InProjIdeal_InProjReferenceIdeal := fun m g m' g' _ hagree =>
  ⟨_, _, _, (θ_run Cert.InProjIdeal.defs _ _).mono (fun _ h c => ⟨(h c).1.trans (Cert.InProjIdeal.Rows.final3 m c),
      (h c).2.1.trans (Cert.InProjIdeal.Rows.final4 m c), (h c).2.2.1.trans (Cert.InProjIdeal.Rows.final5 m c), (h c).2.2.2⟩) (Cert.InProjIdeal.Value.run_blocks m g),
    (θ_run Cert.InProjReferenceIdeal.defs _ _).mono (fun _ h c => by
      obtain ⟨e0, e1, e2⟩ := hagree c
      obtain ⟨h0, h1, h2, h3⟩ := h c
      refine ⟨h0.trans ((Cert.InProjReferenceIdeal.Read.val_main_v23_eq _ _ _).trans ?_), h1.trans ((Cert.InProjReferenceIdeal.Read.val_main_v22_eq m' c).trans ?_),
        h2.trans ((Cert.InProjReferenceIdeal.Read.val_main_v24_eq _ _ _).trans ?_), h3⟩ <;> rw [e0, e1, e2]) (Cert.InProjReferenceIdeal.Value.run m' g')⟩

/-- The output projection and the query: their two results against the reference's. -/
theorem mixed : algebraic_MixIdeal_MixReferenceIdeal := fun m g m' g' _ hagree =>
  ⟨_, _, (θ_run Cert.MixIdeal.defs _ _).mono (fun _ h c => ⟨(h c).1.trans (Cert.MixIdeal.Rows.final7 m c),
      (h c).2.1.trans (Cert.MixIdeal.Rows.final8 m c), (h c).2.2⟩) (Cert.MixIdeal.Value.run_blocks m g),
    (θ_run Cert.MixReferenceIdeal.defs _ _).mono (fun _ h c => by
      obtain ⟨e0, e1, e2, e3, e4, e5, e6⟩ := hagree c
      obtain ⟨h0, h1, h2⟩ := h c
      refine ⟨h0.trans ((Cert.MixReferenceIdeal.Read.val_main_v15_eq _ _ _ _ _).trans ?_),
        h1.trans ((Cert.MixReferenceIdeal.Read.val_main_v29_eq _ _ _ _ _ _ _).trans ?_), h2⟩
      · rw [e0, e1, e2, e3, e4]
      · rw [e0, e1, e2, e3, e4, e5, e6]) (Cert.MixReferenceIdeal.Value.run m' g')⟩

theorem claim : Cert.Claim := ⟨Cert.Pack.Gen.facts, Cert.PackReference.Gen.facts, Cert.InProj.Gen.facts, Cert.InProjIdeal.Gen.facts, Cert.InProjReferenceIdeal.Gen.facts, Cert.Mix.Gen.facts, Cert.MixIdeal.Gen.facts, Cert.MixReferenceIdeal.Gen.facts,
  Cert.Act.Gen.facts, Cert.ActIdeal.Gen.facts, Cert.ActReferenceIdeal.Gen.facts, Cert.Pre_experts_named.Gen.facts,
  fun m g _ => Cert.Pack.Words.frame m g, fun m g _ => (θ_run Cert.PackReference.defs _ _).mono (fun r h => ⟨fun c => (h c).2, sem_eq_zero_of_no_sems (by decide) r.2⟩) (Cert.PackReference.Value.run m g), fun m g _ => Cert.InProj.Gen.frame m g, fun m g _ => Cert.InProjIdeal.Gen.frame m g,
  fun m g _ => (θ_run Cert.InProjReferenceIdeal.defs _ _).mono (fun r h => ⟨fun c => (h c).2.2.2, sem_eq_zero_of_no_sems (by decide) r.2⟩) (Cert.InProjReferenceIdeal.Value.run m g), fun m g _ => Cert.Mix.Gen.frame m g, fun m g _ => Cert.MixIdeal.Gen.frame m g, fun m g _ => (θ_run Cert.MixReferenceIdeal.defs _ _).mono (fun r h => ⟨fun c => (h c).2.2, sem_eq_zero_of_no_sems (by decide) r.2⟩) (Cert.MixReferenceIdeal.Value.run m g),
  Cert.ActIdeal.Rows.frame_bits, Cert.ActIdeal.Rows.frame_ideal, fun m g _ => (θ_run Cert.ActReferenceIdeal.defs _ _).mono (fun r h => ⟨fun c => (h c).2, sem_eq_zero_of_no_sems (by decide) r.2⟩) (Cert.ActReferenceIdeal.Value.run m g),
  packed, trivial, projected, trivial, mixed, trivial, Cert.ActIdeal.Rows.valued⟩

end Cert.Proof

end
